-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in [hPre_finite_in : Cert.Pre_finite_in.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in [hPre_finite_in : Cert.Pre_finite_in.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in [hKernelIdeal : Cert.KernelIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in [hReferenceIdeal : Cert.ReferenceIdeal.Facts] [hPre_finite_in : Cert.Pre_finite_in.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def preserves_Kernel_KernelIdeal : Prop :=
  True

def algebraic_KernelIdeal_ReferenceIdeal_pre_finite_in [hKernelIdeal : Cert.KernelIdeal.Facts] [hReferenceIdeal : Cert.ReferenceIdeal.Facts] [hPre_finite_in : Cert.Pre_finite_in.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v447)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v447) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v3) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v38) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v34) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v58) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def Claim : Prop :=
  ∃ (hKernel : Cert.Kernel.Facts) (hKernelIdeal : Cert.KernelIdeal.Facts) (hReferenceIdeal : Cert.ReferenceIdeal.Facts) (hAda : Cert.Ada.Facts) (hAdaIdeal : Cert.AdaIdeal.Facts) (hAdaReferenceIdeal : Cert.AdaReferenceIdeal.Facts) (hInProj : Cert.InProj.Facts) (hInProjIdeal : Cert.InProjIdeal.Facts) (hInProjReferenceIdeal : Cert.InProjReferenceIdeal.Facts) (hGlu : Cert.Glu.Facts) (hGluIdeal : Cert.GluIdeal.Facts) (hGluReferenceIdeal : Cert.GluReferenceIdeal.Facts) (hMerge : Cert.Merge.Facts) (hMergeIdeal : Cert.MergeIdeal.Facts) (hMergeReferenceIdeal : Cert.MergeReferenceIdeal.Facts) (hPre_finite_in : Cert.Pre_finite_in.Facts),
    quiescent_Kernel (hKernel := hKernel)
    ∧ quiescent_KernelIdeal (hKernelIdeal := hKernelIdeal)
    ∧ quiescent_KernelIdeal_pre_finite_in (hKernelIdeal := hKernelIdeal) (hPre_finite_in := hPre_finite_in)
    ∧ quiescent_ReferenceIdeal (hReferenceIdeal := hReferenceIdeal)
    ∧ quiescent_ReferenceIdeal_pre_finite_in (hReferenceIdeal := hReferenceIdeal) (hPre_finite_in := hPre_finite_in)
    ∧ quiescent_Ada (hAda := hAda)
    ∧ quiescent_AdaIdeal (hAdaIdeal := hAdaIdeal)
    ∧ quiescent_AdaReferenceIdeal (hAdaReferenceIdeal := hAdaReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_in (hKernelIdeal := hKernelIdeal) (hReferenceIdeal := hReferenceIdeal) (hPre_finite_in := hPre_finite_in)
    ∧ preserves_Ada_AdaIdeal
    ∧ algebraic_AdaIdeal_AdaReferenceIdeal (hAdaIdeal := hAdaIdeal) (hAdaReferenceIdeal := hAdaReferenceIdeal)
    ∧ preserves_InProj_InProjIdeal
    ∧ algebraic_InProjIdeal_InProjReferenceIdeal (hInProjIdeal := hInProjIdeal) (hInProjReferenceIdeal := hInProjReferenceIdeal)
    ∧ preserves_Glu_GluIdeal
    ∧ algebraic_GluIdeal_GluReferenceIdeal (hGluIdeal := hGluIdeal) (hGluReferenceIdeal := hGluReferenceIdeal)
    ∧ preserves_Merge_MergeIdeal
    ∧ algebraic_MergeIdeal_MergeReferenceIdeal (hMergeIdeal := hMergeIdeal) (hMergeReferenceIdeal := hMergeReferenceIdeal)
-- ==== Pre_finite_in.lean ====
abbrev S16384x1024 : Shape := ⟨2, ![16384, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_

variable [Facts]

def fn_part2 {F : FTy → Type} [FloatOps F] (main_arg1 : FVec F S64x64 .f32) (main_arg2 : FVec F S64x64 .f32) (main_arg7 : FVec F S64x16x64 .f32) (main_v30 : IVec S_ 1) (main_v33 : IVec S64x16x64 1) : IVec S_ 1 :=
  let main_c_12 : IVec S_ 1 := constantI S_ 1 1#1
  let main_v34 : IVec S_ 1 := (fun x v => Host.reduce IntOp.andi x v reducesTo_S64x16x64_S_d0_1_2 h_S_) main_v33 main_c_12
  let main_v35 : IVec S_ 1 := andi main_v30 main_v34
  let main_v36 : FVec F S64x16x64 .f32 := Host.absf main_arg7
  let main_cst_13 : FVec F S_ .f32 := constant S_ .f32 0x7F800000#32
  let main_v37 : FVec F S64x16x64 .f32 := broadcastInDim S64x16x64 ![] bcast_S_S64x16x64 main_cst_13
  let main_v38 : IVec S64x16x64 1 := cmpf .olt main_v36 main_v37
  let main_c_14 : IVec S_ 1 := constantI S_ 1 1#1
  let main_v39 : IVec S_ 1 := (fun x v => Host.reduce IntOp.andi x v reducesTo_S64x16x64_S_d0_1_2 h_S_) main_v38 main_c_14
  let main_v40 : IVec S_ 1 := andi main_v35 main_v39
  let main_v41 : FVec F S64x64 .f32 := mulf main_arg1 main_arg1
  let main_v42 : FVec F S64x64 .f32 := mulf main_arg2 main_arg2
  let main_v43 : FVec F S64x64 .f32 := addf main_v41 main_v42
  let main_cst_15 : FVec F S_ .f32 := constant S_ .f32 0x00000000#32
  let main_v44 : FVec F S64x64 .f32 := broadcastInDim S64x64 ![] bcast_S_S64x64 main_cst_15
  let main_v45 : IVec S64x64 1 := cmpf .ogt main_v43 main_v44
  let main_c_16 : IVec S_ 1 := constantI S_ 1 1#1
  let main_v46 : IVec S_ 1 := (fun x v => Host.reduce IntOp.andi x v reducesTo_S64x64_S_d0_1 h_S_) main_v45 main_c_16
  let main_v47 : IVec S_ 1 := andi main_v40 main_v46
  main_v47

def fn_part1 {F : FTy → Type} [FloatOps F] (main_arg1 : FVec F S64x64 .f32) (main_arg2 : FVec F S64x64 .f32) (main_arg4 : FVec F S64x64x16 .f32) (main_arg5 : FVec F S64x64x16 .f32) (main_arg6 : FVec F S64x16x64 .f32) (main_arg7 : FVec F S64x16x64 .f32) (main_v15 : IVec S_ 1) (main_v16 : FVec F S64 .f32) : IVec S_ 1 :=
  let main_cst_5 : FVec F S_ .f32 := constant S_ .f32 0x7F800000#32
  let main_v17 : FVec F S64 .f32 := broadcastInDim S64 ![] bcast_S_S64 main_cst_5
  let main_v18 : IVec S64 1 := cmpf .olt main_v16 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v15 main_v19
  let main_v21 : FVec F S64x64x16 .f32 := Host.absf main_arg4
  let main_cst_7 : FVec F S_ .f32 := constant S_ .f32 0x7F800000#32
  let main_v22 : FVec F S64x64x16 .f32 := broadcastInDim S64x64x16 ![] bcast_S_S64x64x16 main_cst_7
  let main_v23 : IVec S64x64x16 1 := cmpf .olt main_v21 main_v22
  let main_c_8 : IVec S_ 1 := constantI S_ 1 1#1
  let main_v24 : IVec S_ 1 := (fun x v => Host.reduce IntOp.andi x v reducesTo_S64x64x16_S_d0_1_2 h_S_) main_v23 main_c_8
  let main_v25 : IVec S_ 1 := andi main_v20 main_v24
  let main_v26 : FVec F S64x64x16 .f32 := Host.absf main_arg5
  let main_cst_9 : FVec F S_ .f32 := constant S_ .f32 0x7F800000#32
  let main_v27 : FVec F S64x64x16 .f32 := broadcastInDim S64x64x16 ![] bcast_S_S64x64x16 main_cst_9
  let main_v28 : IVec S64x64x16 1 := cmpf .olt main_v26 main_v27
  let main_c_10 : IVec S_ 1 := constantI S_ 1 1#1
  let main_v29 : IVec S_ 1 := (fun x v => Host.reduce IntOp.andi x v reducesTo_S64x64x16_S_d0_1_2 h_S_) main_v28 main_c_10
  let main_v30 : IVec S_ 1 := andi main_v25 main_v29
  let main_v31 : FVec F S64x16x64 .f32 := Host.absf main_arg6
  let main_cst_11 : FVec F S_ .f32 := constant S_ .f32 0x7F800000#32
  let main_v32 : FVec F S64x16x64 .f32 := broadcastInDim S64x16x64 ![] bcast_S_S64x16x64 main_cst_11
  let main_v33 : IVec S64x16x64 1 := cmpf .olt main_v31 main_v32
  fn_part2 (F := F) main_arg1 main_arg2 main_arg7 main_v30 main_v33

def fn {F : FTy → Type} [FloatOps F] (main_arg0 : FVec F S16384x1024 .bf16) (main_arg1 : FVec F S64x64 .f32) (main_arg2 : FVec F S64x64 .f32) (main_arg3 : FVec F S64 .f32) (main_arg4 : FVec F S64x64x16 .f32) (main_arg5 : FVec F S64x64x16 .f32) (main_arg6 : FVec F S64x16x64 .f32) (main_arg7 : FVec F S64x16x64 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_c_0 : IVec S_ 1 := constantI S_ 1 1#1
  let main_v5 : IVec S_ 1 := andi main_c_0 main_v4
  let main_v6 : FVec F S64x64 .f32 := Host.absf main_arg1
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_c_2 : IVec S_ 1 := constantI S_ 1 1#1
  let main_v9 : IVec S_ 1 := (fun x v => Host.reduce IntOp.andi x v reducesTo_S64x64_S_d0_1 h_S_) main_v8 main_c_2
  let main_v10 : IVec S_ 1 := andi main_v5 main_v9
  let main_v11 : FVec F S64x64 .f32 := Host.absf main_arg2
  let main_cst_3 : FVec F S_ .f32 := constant S_ .f32 0x7F800000#32
  let main_v12 : FVec F S64x64 .f32 := broadcastInDim S64x64 ![] bcast_S_S64x64 main_cst_3
  let main_v13 : IVec S64x64 1 := cmpf .olt main_v11 main_v12
  let main_c_4 : IVec S_ 1 := constantI S_ 1 1#1
  let main_v14 : IVec S_ 1 := (fun x v => Host.reduce IntOp.andi x v reducesTo_S64x64_S_d0_1 h_S_) main_v13 main_c_4
  let main_v15 : IVec S_ 1 := andi main_v10 main_v14
  let main_v16 : FVec F S64 .f32 := Host.absf main_arg3
  fn_part1 (F := F) main_arg1 main_arg2 main_arg4 main_arg5 main_arg6 main_arg7 main_v15 main_v16
-- ==== Kernel.lean ====
abbrev S16384x1024 : Shape := ⟨2, ![16384, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S16x16 : Shape := ⟨2, ![16, 16]⟩
abbrev S1024x16x64x16 : Shape := ⟨4, ![1024, 16, 64, 16]⟩
abbrev S64x1024x16x16 : Shape := ⟨4, ![64, 1024, 16, 16]⟩
abbrev S64x1024x256 : Shape := ⟨3, ![64, 1024, 256]⟩
abbrev S64x1 : Shape := ⟨2, ![64, 1]⟩
abbrev S_ : Shape := ⟨0, ![]⟩
abbrev S64x64x1 : Shape := ⟨3, ![64, 64, 1]⟩
abbrev S1x64x64 : Shape := ⟨3, ![1, 64, 64]⟩
abbrev S16x64x64 : Shape := ⟨3, ![16, 64, 64]⟩
abbrev S17x64x64 : Shape := ⟨3, ![17, 64, 64]⟩
abbrev S17x64x64x1 : Shape := ⟨4, ![17, 64, 64, 1]⟩
abbrev S1x64x64x16 : Shape := ⟨4, ![1, 64, 64, 16]⟩
abbrev S17x64x64x16 : Shape := ⟨4, ![17, 64, 64, 16]⟩
abbrev S16x64x64x16 : Shape := ⟨4, ![16, 64, 64, 16]⟩
abbrev S64x16x16x16 : Shape := ⟨4, ![64, 16, 16, 16]⟩
abbrev S16x16x1 : Shape := ⟨3, ![16, 16, 1]⟩
abbrev S64x16x16x16x16 : Shape := ⟨5, ![64, 16, 16, 16, 16]⟩
abbrev S1x16x16x1x1 : Shape := ⟨5, ![1, 16, 16, 1, 1]⟩
abbrev S64x256x256 : Shape := ⟨3, ![64, 256, 256]⟩
abbrev S64x16x16x64 : Shape := ⟨4, ![64, 16, 16, 64]⟩
abbrev S64x256x64 : Shape := ⟨3, ![64, 256, 64]⟩
abbrev S64x1x16x64 : Shape := ⟨4, ![64, 1, 16, 64]⟩
abbrev S64x16x1x64 : Shape := ⟨4, ![64, 16, 1, 64]⟩
abbrev S64x64x16x16 : Shape := ⟨4, ![64, 64, 16, 16]⟩
abbrev S64x64x256 : Shape := ⟨3, ![64, 64, 256]⟩
abbrev S32x256x64 : Shape := ⟨3, ![32, 256, 64]⟩
abbrev S32x2x256x64 : Shape := ⟨4, ![32, 2, 256, 64]⟩
abbrev S32x1x256x64 : Shape := ⟨4, ![32, 1, 256, 64]⟩
abbrev S32x256x256 : Shape := ⟨3, ![32, 256, 256]⟩
abbrev S32x1x256x256 : Shape := ⟨4, ![32, 1, 256, 256]⟩
abbrev S32x2x256x256 : Shape := ⟨4, ![32, 2, 256, 256]⟩
abbrev S32x64x256 : Shape := ⟨3, ![32, 64, 256]⟩
abbrev S32x2x64x256 : Shape := ⟨4, ![32, 2, 64, 256]⟩
abbrev S32x1x64x256 : Shape := ⟨4, ![32, 1, 64, 256]⟩
abbrev S32x2x64 : Shape := ⟨3, ![32, 2, 64]⟩
abbrev S32x1x64 : Shape := ⟨3, ![32, 1, 64]⟩
abbrev S32x64 : Shape := ⟨2, ![32, 64]⟩
abbrev S32x256 : Shape := ⟨2, ![32, 256]⟩
abbrev S32x1x256 : Shape := ⟨3, ![32, 1, 256]⟩
abbrev S32x8x256 : Shape := ⟨3, ![32, 8, 256]⟩
abbrev S2x1024x256 : Shape := ⟨3, ![2, 1024, 256]⟩
abbrev S2x256x256 : Shape := ⟨3, ![2, 256, 256]⟩
abbrev S1x8x256 : Shape := ⟨3, ![1, 8, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1024x128 : Shape := ⟨2, ![1024, 128]⟩
abbrev S1x1x128 : Shape := ⟨3, ![1, 1, 128]⟩
abbrev S1x128 : Shape := ⟨2, ![1, 128]⟩

abbrev nBuf : Space → Nat
  | .hbm => 465
  | .vmem => 12
  | .smem => 0
  | _ => 0

abbrev hbmTy0_0 (i : Nat) : BufTy := match i % 128 with
  | 0 => ⟨S16384x1024, .bf16⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S16x16, .i32⟩
  | 9 => ⟨S16x16, .i1⟩
  | 10 => ⟨S16x16, .f32⟩
  | 11 => ⟨S1024x16x64x16, .bf16⟩
  | 12 => ⟨S64x1024x16x16, .bf16⟩
  | 13 => ⟨S64x1024x256, .bf16⟩
  | 14 => ⟨S64, .f32⟩
  | 15 => ⟨S64x1, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64x1, .f32⟩
  | 42 => ⟨S64x64x16, .f32⟩
  | 43 => ⟨S64x64x16, .f32⟩
  | 44 => ⟨S64x64x1, .f32⟩
  | 45 => ⟨S64x64x16, .f32⟩
  | 46 => ⟨S64x64x16, .f32⟩
  | 47 => ⟨S64x64x16, .f32⟩
  | 48 => ⟨S64x64x1, .f32⟩
  | 49 => ⟨S64x64x16, .f32⟩
  | 50 => ⟨S64x64x16, .f32⟩
  | 51 => ⟨S64x64x1, .f32⟩
  | 52 => ⟨S64x64x16, .f32⟩
  | 53 => ⟨S64x64x16, .f32⟩
  | 54 => ⟨S64x64x16, .f32⟩
  | 55 => ⟨S_, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S16384x1024, .bf16⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S1x64x64, .f32⟩
  | 28 => ⟨S1x64x64, .f32⟩
  | 29 => ⟨S1x64x64, .f32⟩
  | 30 => ⟨S1x64x64, .f32⟩
  | 31 => ⟨S1x64x64, .f32⟩
  | 32 => ⟨S1x64x64, .f32⟩
  | 33 => ⟨S1x64x64, .f32⟩
  | 34 => ⟨S1x64x64, .f32⟩
  | 35 => ⟨S1x64x64, .f32⟩
  | 36 => ⟨S1x64x64, .f32⟩
  | 37 => ⟨S1x64x64, .f32⟩
  | 38 => ⟨S1x64x64, .f32⟩
  | 39 => ⟨S1x64x64, .f32⟩
  | 40 => ⟨S1x64x64, .f32⟩
  | 41 => ⟨S1x64x64, .f32⟩
  | 42 => ⟨S1x64x64, .f32⟩
  | 43 => ⟨S16x64x64, .f32⟩
  | 44 => ⟨S1x64x64, .f32⟩
  | 45 => ⟨S17x64x64, .f32⟩
  | 46 => ⟨S1x64x64, .f32⟩
  | 47 => ⟨S1x64x64, .f32⟩
  | 48 => ⟨S1x64x64, .f32⟩
  | 49 => ⟨S1x64x64, .f32⟩
  | 50 => ⟨S1x64x64, .f32⟩
  | 51 => ⟨S1x64x64, .f32⟩
  | 52 => ⟨S1x64x64, .f32⟩
  | 53 => ⟨S1x64x64, .f32⟩
  | 54 => ⟨S1x64x64, .f32⟩
  | 55 => ⟨S1x64x64, .f32⟩
  | 56 => ⟨S1x64x64, .f32⟩
  | 57 => ⟨S1x64x64, .f32⟩
  | 58 => ⟨S1x64x64, .f32⟩
  | 59 => ⟨S1x64x64, .f32⟩
  | 60 => ⟨S1x64x64, .f32⟩
  | 61 => ⟨S1x64x64, .f32⟩
  | 62 => ⟨S16x64x64, .f32⟩
  | 63 => ⟨S1x64x64, .f32⟩
  | 64 => ⟨S17x64x64, .f32⟩
  | 65 => ⟨S17x64x64x1, .f32⟩
  | 66 => ⟨S1x64x64x16, .f32⟩
  | 67 => ⟨S17x64x64x16, .f32⟩
  | 68 => ⟨S17x64x64x16, .f32⟩
  | 69 => ⟨S17x64x64x16, .f32⟩
  | 70 => ⟨S17x64x64x1, .f32⟩
  | 71 => ⟨S1x64x64x16, .f32⟩
  | 72 => ⟨S17x64x64x16, .f32⟩
  | 73 => ⟨S17x64x64x16, .f32⟩
  | 74 => ⟨S17x64x64x16, .f32⟩
  | 75 => ⟨S17x64x64x16, .f32⟩
  | 76 => ⟨S17x64x64x1, .f32⟩
  | 77 => ⟨S1x64x64x16, .f32⟩
  | 78 => ⟨S17x64x64x16, .f32⟩
  | 79 => ⟨S17x64x64x16, .f32⟩
  | 80 => ⟨S17x64x64x16, .f32⟩
  | 81 => ⟨S17x64x64x1, .f32⟩
  | 82 => ⟨S1x64x64x16, .f32⟩
  | 83 => ⟨S17x64x64x16, .f32⟩
  | 84 => ⟨S17x64x64x16, .f32⟩
  | 85 => ⟨S17x64x64x16, .f32⟩
  | 86 => ⟨S17x64x64x16, .f32⟩
  | 87 => ⟨S16x64x64x16, .f32⟩
  | 88 => ⟨S64x16x16x16, .f32⟩
  | 89 => ⟨S64x16x16x16, .f32⟩
  | 90 => ⟨S16x64x64x16, .f32⟩
  | 91 => ⟨S64x16x16x16, .f32⟩
  | 92 => ⟨S64x16x16x16, .f32⟩
  | 93 => ⟨S64x16x16x16, .f32⟩
  | 94 => ⟨S_, .i32⟩
  | 95 => ⟨S16x16, .i32⟩
  | 96 => ⟨S16x16, .i32⟩
  | 97 => ⟨S16x16, .i32⟩
  | 98 => ⟨S16x16x1, .i32⟩
  | 99 => ⟨S64x16x16x16x16, .f32⟩
  | 100 => ⟨S1x16x16x1x1, .f32⟩
  | 101 => ⟨S64x16x16x16x16, .f32⟩
  | 102 => ⟨S64x16x16x16x16, .f32⟩
  | 103 => ⟨S64x16x16x16x16, .f32⟩
  | 104 => ⟨S64x256x256, .f32⟩
  | 105 => ⟨S16x64x64x16, .f32⟩
  | 106 => ⟨S16x64x64x16, .f32⟩
  | 107 => ⟨S64x16x16x64, .f32⟩
  | 108 => ⟨S64x256x64, .f32⟩
  | 109 => ⟨S16x64x64x16, .f32⟩
  | 110 => ⟨S16x64x64x16, .f32⟩
  | 111 => ⟨S64x16x16x64, .f32⟩
  | 112 => ⟨S64x256x64, .f32⟩
  | 113 => ⟨S64x1x16x64, .f32⟩
  | 114 => ⟨S16x64x64, .f32⟩
  | 115 => ⟨S64x16x64, .f32⟩
  | 116 => ⟨S64x16x1x64, .f32⟩
  | 117 => ⟨S64x16x16x64, .f32⟩
  | 118 => ⟨S64x16x16x64, .f32⟩
  | 119 => ⟨S64x16x16x64, .f32⟩
  | 120 => ⟨S64x1x16x64, .f32⟩
  | 121 => ⟨S16x64x64, .f32⟩
  | 122 => ⟨S64x16x64, .f32⟩
  | 123 => ⟨S64x16x1x64, .f32⟩
  | 124 => ⟨S64x16x16x64, .f32⟩
  | 125 => ⟨S64x16x16x64, .f32⟩
  | 126 => ⟨S64x16x16x64, .f32⟩
  | 127 => ⟨S64x16x16x64, .f32⟩
  | _ => ⟨S16384x1024, .bf16⟩

abbrev hbmTy0_2 (i : Nat) : BufTy := match i % 128 with
  | 0 => ⟨S64x1x16x64, .f32⟩
  | 1 => ⟨S16x64x64, .f32⟩
  | 2 => ⟨S64x16x64, .f32⟩
  | 3 => ⟨S64x16x1x64, .f32⟩
  | 4 => ⟨S64x16x16x64, .f32⟩
  | 5 => ⟨S64x16x16x64, .f32⟩
  | 6 => ⟨S64x16x16x64, .f32⟩
  | 7 => ⟨S64x1x16x64, .f32⟩
  | 8 => ⟨S16x64x64, .f32⟩
  | 9 => ⟨S64x16x64, .f32⟩
  | 10 => ⟨S64x16x1x64, .f32⟩
  | 11 => ⟨S64x16x16x64, .f32⟩
  | 12 => ⟨S64x16x16x64, .f32⟩
  | 13 => ⟨S64x16x16x64, .f32⟩
  | 14 => ⟨S64x16x16x64, .f32⟩
  | 15 => ⟨S64x64x16x16, .f32⟩
  | 16 => ⟨S64x64x256, .f32⟩
  | 17 => ⟨S64x16x16x64, .f32⟩
  | 18 => ⟨S64x64x16x16, .f32⟩
  | 19 => ⟨S64x64x256, .f32⟩
  | 20 => ⟨S_, .f32⟩
  | 21 => ⟨S32x256x64, .f32⟩
  | 22 => ⟨S32x2x256x64, .f32⟩
  | 23 => ⟨S32x2x256x64, .f32⟩
  | 24 => ⟨S32x1x256x64, .f32⟩
  | 25 => ⟨S32x256x64, .f32⟩
  | 26 => ⟨S32x1x256x64, .f32⟩
  | 27 => ⟨S32x256x64, .f32⟩
  | 28 => ⟨S32x256x256, .f32⟩
  | 29 => ⟨S32x1x256x64, .f32⟩
  | 30 => ⟨S32x256x64, .f32⟩
  | 31 => ⟨S32x1x256x64, .f32⟩
  | 32 => ⟨S32x256x64, .f32⟩
  | 33 => ⟨S32x256x256, .f32⟩
  | 34 => ⟨S32x1x256x256, .f32⟩
  | 35 => ⟨S32x1x256x256, .f32⟩
  | 36 => ⟨S32x2x256x256, .f32⟩
  | 37 => ⟨S64x256x256, .f32⟩
  | 38 => ⟨S_, .f32⟩
  | 39 => ⟨S32x64x256, .f32⟩
  | 40 => ⟨S32x2x64x256, .f32⟩
  | 41 => ⟨S32x2x64x256, .f32⟩
  | 42 => ⟨S32x1x64x256, .f32⟩
  | 43 => ⟨S32x64x256, .f32⟩
  | 44 => ⟨S32x1x64x256, .f32⟩
  | 45 => ⟨S32x64x256, .f32⟩
  | 46 => ⟨S32x256x256, .f32⟩
  | 47 => ⟨S32x1x64x256, .f32⟩
  | 48 => ⟨S32x64x256, .f32⟩
  | 49 => ⟨S32x1x64x256, .f32⟩
  | 50 => ⟨S32x64x256, .f32⟩
  | 51 => ⟨S32x256x256, .f32⟩
  | 52 => ⟨S32x1x256x256, .f32⟩
  | 53 => ⟨S32x1x256x256, .f32⟩
  | 54 => ⟨S32x2x256x256, .f32⟩
  | 55 => ⟨S64x256x256, .f32⟩
  | 56 => ⟨S1x64x64, .f32⟩
  | 57 => ⟨S64x64, .f32⟩
  | 58 => ⟨S1x64x64, .f32⟩
  | 59 => ⟨S64x64, .f32⟩
  | 60 => ⟨S32x2x64, .f32⟩
  | 61 => ⟨S32x2x64, .f32⟩
  | 62 => ⟨S32x1x64, .f32⟩
  | 63 => ⟨S32x64, .f32⟩
  | 64 => ⟨S32x1x64, .f32⟩
  | 65 => ⟨S32x64, .f32⟩
  | 66 => ⟨S32x1x64, .f32⟩
  | 67 => ⟨S32x64, .f32⟩
  | 68 => ⟨S32x1x64, .f32⟩
  | 69 => ⟨S32x64, .f32⟩
  | 70 => ⟨S32x256, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S32x2x64, .f32⟩
  | 78 => ⟨S32x2x64, .f32⟩
  | 79 => ⟨S32x1x64, .f32⟩
  | 80 => ⟨S32x64, .f32⟩
  | 81 => ⟨S32x1x64, .f32⟩
  | 82 => ⟨S32x64, .f32⟩
  | 83 => ⟨S32x1x64, .f32⟩
  | 84 => ⟨S32x64, .f32⟩
  | 85 => ⟨S32x1x64, .f32⟩
  | 86 => ⟨S32x64, .f32⟩
  | 87 => ⟨S32x256, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S32x2x64, .f32⟩
  | 95 => ⟨S32x2x64, .f32⟩
  | 96 => ⟨S32x1x64, .f32⟩
  | 97 => ⟨S32x64, .f32⟩
  | 98 => ⟨S32x1x64, .f32⟩
  | 99 => ⟨S32x64, .f32⟩
  | 100 => ⟨S32x1x64, .f32⟩
  | 101 => ⟨S32x64, .f32⟩
  | 102 => ⟨S32x1x64, .f32⟩
  | 103 => ⟨S32x64, .f32⟩
  | 104 => ⟨S32x256, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S32x2x64, .f32⟩
  | 112 => ⟨S32x2x64, .f32⟩
  | 113 => ⟨S32x1x64, .f32⟩
  | 114 => ⟨S32x64, .f32⟩
  | 115 => ⟨S32x1x64, .f32⟩
  | 116 => ⟨S32x64, .f32⟩
  | 117 => ⟨S32x1x64, .f32⟩
  | 118 => ⟨S32x64, .f32⟩
  | 119 => ⟨S32x1x64, .f32⟩
  | 120 => ⟨S32x64, .f32⟩
  | 121 => ⟨S32x256, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S16384x1024, .bf16⟩

abbrev hbmTy0_3 (i : Nat) : BufTy := match i % 128 with
  | 0 => ⟨S32x2x64, .f32⟩
  | 1 => ⟨S32x2x64, .f32⟩
  | 2 => ⟨S32x1x64, .f32⟩
  | 3 => ⟨S32x64, .f32⟩
  | 4 => ⟨S32x1x64, .f32⟩
  | 5 => ⟨S32x64, .f32⟩
  | 6 => ⟨S32x1x64, .f32⟩
  | 7 => ⟨S32x64, .f32⟩
  | 8 => ⟨S32x1x64, .f32⟩
  | 9 => ⟨S32x64, .f32⟩
  | 10 => ⟨S32x256, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S32x2x64, .f32⟩
  | 18 => ⟨S32x2x64, .f32⟩
  | 19 => ⟨S32x1x64, .f32⟩
  | 20 => ⟨S32x64, .f32⟩
  | 21 => ⟨S32x1x64, .f32⟩
  | 22 => ⟨S32x64, .f32⟩
  | 23 => ⟨S32x1x64, .f32⟩
  | 24 => ⟨S32x64, .f32⟩
  | 25 => ⟨S32x1x64, .f32⟩
  | 26 => ⟨S32x64, .f32⟩
  | 27 => ⟨S32x256, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S32x2x64, .f32⟩
  | 35 => ⟨S32x2x64, .f32⟩
  | 36 => ⟨S32x1x64, .f32⟩
  | 37 => ⟨S32x64, .f32⟩
  | 38 => ⟨S32x1x64, .f32⟩
  | 39 => ⟨S32x64, .f32⟩
  | 40 => ⟨S32x1x64, .f32⟩
  | 41 => ⟨S32x64, .f32⟩
  | 42 => ⟨S32x1x64, .f32⟩
  | 43 => ⟨S32x64, .f32⟩
  | 44 => ⟨S32x256, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S32x2x64, .f32⟩
  | 52 => ⟨S32x2x64, .f32⟩
  | 53 => ⟨S32x1x64, .f32⟩
  | 54 => ⟨S32x64, .f32⟩
  | 55 => ⟨S32x1x64, .f32⟩
  | 56 => ⟨S32x64, .f32⟩
  | 57 => ⟨S32x1x64, .f32⟩
  | 58 => ⟨S32x64, .f32⟩
  | 59 => ⟨S32x1x64, .f32⟩
  | 60 => ⟨S32x64, .f32⟩
  | 61 => ⟨S32x256, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S32x1x256, .f32⟩
  | 69 => ⟨S32x1x256, .f32⟩
  | 70 => ⟨S32x1x256, .f32⟩
  | 71 => ⟨S32x1x256, .f32⟩
  | 72 => ⟨S32x1x256, .f32⟩
  | 73 => ⟨S32x1x256, .f32⟩
  | 74 => ⟨S32x1x256, .f32⟩
  | 75 => ⟨S32x1x256, .f32⟩
  | 76 => ⟨S32x8x256, .f32⟩
  | 77 => ⟨S64x256x256, .bf16⟩
  | 78 => ⟨S64x256x256, .bf16⟩
  | 79 => ⟨S64x256x256, .bf16⟩
  | 80 => ⟨S64x1024x256, .f32⟩
  | _ => ⟨S16384x1024, .bf16⟩

abbrev hbmTy (i : Nat) : BufTy := match i / 128 with
  | 0 => hbmTy0_0 i
  | 1 => hbmTy0_1 i
  | 2 => hbmTy0_2 i
  | 3 => hbmTy0_3 i
  | _ => ⟨S16384x1024, .bf16⟩

abbrev bufTy : (tb : Table) → Fin (tcTables nBuf tb) → BufTy
  | .hbm, ⟨i, _⟩ => hbmTy i
  | .local _ .vmem, ⟨0, _⟩ => ⟨S2x1024x256, .bf16⟩
  | .local _ .vmem, ⟨1, _⟩ => ⟨S2x1024x256, .bf16⟩
  | .local _ .vmem, ⟨2, _⟩ => ⟨S2x256x256, .bf16⟩
  | .local _ .vmem, ⟨3, _⟩ => ⟨S2x256x256, .bf16⟩
  | .local _ .vmem, ⟨4, _⟩ => ⟨S2x256x256, .bf16⟩
  | .local _ .vmem, ⟨5, _⟩ => ⟨S2x256x256, .bf16⟩
  | .local _ .vmem, ⟨6, _⟩ => ⟨S2x256x256, .bf16⟩
  | .local _ .vmem, ⟨7, _⟩ => ⟨S2x256x256, .bf16⟩
  | .local _ .vmem, ⟨8, _⟩ => ⟨S1x8x256, .f32⟩
  | .local _ .vmem, ⟨9, _⟩ => ⟨S1x8x256, .f32⟩
  | .local _ .vmem, ⟨10, _⟩ => ⟨S2x1024x256, .f32⟩
  | .local _ .vmem, ⟨11, _⟩ => ⟨S2x1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_c_4 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_cst_5 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_cst_6 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_v300 : Ref sig .tc := ⟨.hbm, 317, rfl⟩
abbrev main_v301 : Ref sig .tc := ⟨.hbm, 318, rfl⟩
abbrev main_v302 : Ref sig .tc := ⟨.hbm, 319, rfl⟩
abbrev main_v303 : Ref sig .tc := ⟨.hbm, 320, rfl⟩
abbrev main_v304 : Ref sig .tc := ⟨.hbm, 321, rfl⟩
abbrev main_v305 : Ref sig .tc := ⟨.hbm, 322, rfl⟩
abbrev main_v306 : Ref sig .tc := ⟨.hbm, 323, rfl⟩
abbrev main_v307 : Ref sig .tc := ⟨.hbm, 324, rfl⟩
abbrev main_v308 : Ref sig .tc := ⟨.hbm, 325, rfl⟩
abbrev main_v309 : Ref sig .tc := ⟨.hbm, 326, rfl⟩
abbrev main_v310 : Ref sig .tc := ⟨.hbm, 327, rfl⟩
abbrev main_v311 : Ref sig .tc := ⟨.hbm, 328, rfl⟩
abbrev main_v312 : Ref sig .tc := ⟨.hbm, 329, rfl⟩
abbrev main_v313 : Ref sig .tc := ⟨.hbm, 330, rfl⟩
abbrev main_v314 : Ref sig .tc := ⟨.hbm, 331, rfl⟩
abbrev main_v315 : Ref sig .tc := ⟨.hbm, 332, rfl⟩
abbrev main_v316 : Ref sig .tc := ⟨.hbm, 333, rfl⟩
abbrev main_v317 : Ref sig .tc := ⟨.hbm, 334, rfl⟩
abbrev main_v318 : Ref sig .tc := ⟨.hbm, 335, rfl⟩
abbrev main_v319 : Ref sig .tc := ⟨.hbm, 336, rfl⟩
abbrev main_v320 : Ref sig .tc := ⟨.hbm, 337, rfl⟩
abbrev main_v321 : Ref sig .tc := ⟨.hbm, 338, rfl⟩
abbrev main_v322 : Ref sig .tc := ⟨.hbm, 339, rfl⟩
abbrev main_v323 : Ref sig .tc := ⟨.hbm, 340, rfl⟩
abbrev main_v324 : Ref sig .tc := ⟨.hbm, 341, rfl⟩
abbrev main_v325 : Ref sig .tc := ⟨.hbm, 342, rfl⟩
abbrev main_v326 : Ref sig .tc := ⟨.hbm, 343, rfl⟩
abbrev main_v327 : Ref sig .tc := ⟨.hbm, 344, rfl⟩
abbrev main_v328 : Ref sig .tc := ⟨.hbm, 345, rfl⟩
abbrev main_v329 : Ref sig .tc := ⟨.hbm, 346, rfl⟩
abbrev main_v330 : Ref sig .tc := ⟨.hbm, 347, rfl⟩
abbrev main_v331 : Ref sig .tc := ⟨.hbm, 348, rfl⟩
abbrev main_v332 : Ref sig .tc := ⟨.hbm, 349, rfl⟩
abbrev main_v333 : Ref sig .tc := ⟨.hbm, 350, rfl⟩
abbrev main_v334 : Ref sig .tc := ⟨.hbm, 351, rfl⟩
abbrev main_v335 : Ref sig .tc := ⟨.hbm, 352, rfl⟩
abbrev main_v336 : Ref sig .tc := ⟨.hbm, 353, rfl⟩
abbrev main_v337 : Ref sig .tc := ⟨.hbm, 354, rfl⟩
abbrev main_v338 : Ref sig .tc := ⟨.hbm, 355, rfl⟩
abbrev main_v339 : Ref sig .tc := ⟨.hbm, 356, rfl⟩
abbrev main_v340 : Ref sig .tc := ⟨.hbm, 357, rfl⟩
abbrev main_v341 : Ref sig .tc := ⟨.hbm, 358, rfl⟩
abbrev main_v342 : Ref sig .tc := ⟨.hbm, 359, rfl⟩
abbrev main_v343 : Ref sig .tc := ⟨.hbm, 360, rfl⟩
abbrev main_v344 : Ref sig .tc := ⟨.hbm, 361, rfl⟩
abbrev main_v345 : Ref sig .tc := ⟨.hbm, 362, rfl⟩
abbrev main_v346 : Ref sig .tc := ⟨.hbm, 363, rfl⟩
abbrev main_v347 : Ref sig .tc := ⟨.hbm, 364, rfl⟩
abbrev main_v348 : Ref sig .tc := ⟨.hbm, 365, rfl⟩
abbrev main_v349 : Ref sig .tc := ⟨.hbm, 366, rfl⟩
abbrev main_v350 : Ref sig .tc := ⟨.hbm, 367, rfl⟩
abbrev main_v351 : Ref sig .tc := ⟨.hbm, 368, rfl⟩
abbrev main_v352 : Ref sig .tc := ⟨.hbm, 369, rfl⟩
abbrev main_v353 : Ref sig .tc := ⟨.hbm, 370, rfl⟩
abbrev main_v354 : Ref sig .tc := ⟨.hbm, 371, rfl⟩
abbrev main_v355 : Ref sig .tc := ⟨.hbm, 372, rfl⟩
abbrev main_v356 : Ref sig .tc := ⟨.hbm, 373, rfl⟩
abbrev main_v357 : Ref sig .tc := ⟨.hbm, 374, rfl⟩
abbrev main_v358 : Ref sig .tc := ⟨.hbm, 375, rfl⟩
abbrev main_v359 : Ref sig .tc := ⟨.hbm, 376, rfl⟩
abbrev main_v360 : Ref sig .tc := ⟨.hbm, 377, rfl⟩
abbrev main_v361 : Ref sig .tc := ⟨.hbm, 378, rfl⟩
abbrev main_v362 : Ref sig .tc := ⟨.hbm, 379, rfl⟩
abbrev main_v363 : Ref sig .tc := ⟨.hbm, 380, rfl⟩
abbrev main_v364 : Ref sig .tc := ⟨.hbm, 381, rfl⟩
abbrev main_v365 : Ref sig .tc := ⟨.hbm, 382, rfl⟩
abbrev main_v366 : Ref sig .tc := ⟨.hbm, 383, rfl⟩
abbrev main_v367 : Ref sig .tc := ⟨.hbm, 384, rfl⟩
abbrev main_v368 : Ref sig .tc := ⟨.hbm, 385, rfl⟩
abbrev main_v369 : Ref sig .tc := ⟨.hbm, 386, rfl⟩
abbrev main_v370 : Ref sig .tc := ⟨.hbm, 387, rfl⟩
abbrev main_v371 : Ref sig .tc := ⟨.hbm, 388, rfl⟩
abbrev main_v372 : Ref sig .tc := ⟨.hbm, 389, rfl⟩
abbrev main_v373 : Ref sig .tc := ⟨.hbm, 390, rfl⟩
abbrev main_v374 : Ref sig .tc := ⟨.hbm, 391, rfl⟩
abbrev main_v375 : Ref sig .tc := ⟨.hbm, 392, rfl⟩
abbrev main_v376 : Ref sig .tc := ⟨.hbm, 393, rfl⟩
abbrev main_v377 : Ref sig .tc := ⟨.hbm, 394, rfl⟩
abbrev main_v378 : Ref sig .tc := ⟨.hbm, 395, rfl⟩
abbrev main_v379 : Ref sig .tc := ⟨.hbm, 396, rfl⟩
abbrev main_v380 : Ref sig .tc := ⟨.hbm, 397, rfl⟩
abbrev main_v381 : Ref sig .tc := ⟨.hbm, 398, rfl⟩
abbrev main_v382 : Ref sig .tc := ⟨.hbm, 399, rfl⟩
abbrev main_v383 : Ref sig .tc := ⟨.hbm, 400, rfl⟩
abbrev main_v384 : Ref sig .tc := ⟨.hbm, 401, rfl⟩
abbrev main_v385 : Ref sig .tc := ⟨.hbm, 402, rfl⟩
abbrev main_v386 : Ref sig .tc := ⟨.hbm, 403, rfl⟩
abbrev main_v387 : Ref sig .tc := ⟨.hbm, 404, rfl⟩
abbrev main_v388 : Ref sig .tc := ⟨.hbm, 405, rfl⟩
abbrev main_v389 : Ref sig .tc := ⟨.hbm, 406, rfl⟩
abbrev main_v390 : Ref sig .tc := ⟨.hbm, 407, rfl⟩
abbrev main_v391 : Ref sig .tc := ⟨.hbm, 408, rfl⟩
abbrev main_v392 : Ref sig .tc := ⟨.hbm, 409, rfl⟩
abbrev main_v393 : Ref sig .tc := ⟨.hbm, 410, rfl⟩
abbrev main_v394 : Ref sig .tc := ⟨.hbm, 411, rfl⟩
abbrev main_v395 : Ref sig .tc := ⟨.hbm, 412, rfl⟩
abbrev main_v396 : Ref sig .tc := ⟨.hbm, 413, rfl⟩
abbrev main_v397 : Ref sig .tc := ⟨.hbm, 414, rfl⟩
abbrev main_v398 : Ref sig .tc := ⟨.hbm, 415, rfl⟩
abbrev main_v399 : Ref sig .tc := ⟨.hbm, 416, rfl⟩
abbrev main_v400 : Ref sig .tc := ⟨.hbm, 417, rfl⟩
abbrev main_v401 : Ref sig .tc := ⟨.hbm, 418, rfl⟩
abbrev main_v402 : Ref sig .tc := ⟨.hbm, 419, rfl⟩
abbrev main_v403 : Ref sig .tc := ⟨.hbm, 420, rfl⟩
abbrev main_v404 : Ref sig .tc := ⟨.hbm, 421, rfl⟩
abbrev main_v405 : Ref sig .tc := ⟨.hbm, 422, rfl⟩
abbrev main_v406 : Ref sig .tc := ⟨.hbm, 423, rfl⟩
abbrev main_v407 : Ref sig .tc := ⟨.hbm, 424, rfl⟩
abbrev main_v408 : Ref sig .tc := ⟨.hbm, 425, rfl⟩
abbrev main_v409 : Ref sig .tc := ⟨.hbm, 426, rfl⟩
abbrev main_v410 : Ref sig .tc := ⟨.hbm, 427, rfl⟩
abbrev main_v411 : Ref sig .tc := ⟨.hbm, 428, rfl⟩
abbrev main_v412 : Ref sig .tc := ⟨.hbm, 429, rfl⟩
abbrev main_v413 : Ref sig .tc := ⟨.hbm, 430, rfl⟩
abbrev main_v414 : Ref sig .tc := ⟨.hbm, 431, rfl⟩
abbrev main_v415 : Ref sig .tc := ⟨.hbm, 432, rfl⟩
abbrev main_v416 : Ref sig .tc := ⟨.hbm, 433, rfl⟩
abbrev main_v417 : Ref sig .tc := ⟨.hbm, 434, rfl⟩
abbrev main_v418 : Ref sig .tc := ⟨.hbm, 435, rfl⟩
abbrev main_v419 : Ref sig .tc := ⟨.hbm, 436, rfl⟩
abbrev main_v420 : Ref sig .tc := ⟨.hbm, 437, rfl⟩
abbrev main_v421 : Ref sig .tc := ⟨.hbm, 438, rfl⟩
abbrev main_v422 : Ref sig .tc := ⟨.hbm, 439, rfl⟩
abbrev main_v423 : Ref sig .tc := ⟨.hbm, 440, rfl⟩
abbrev main_v424 : Ref sig .tc := ⟨.hbm, 441, rfl⟩
abbrev main_v425 : Ref sig .tc := ⟨.hbm, 442, rfl⟩
abbrev main_v426 : Ref sig .tc := ⟨.hbm, 443, rfl⟩
abbrev main_v427 : Ref sig .tc := ⟨.hbm, 444, rfl⟩
abbrev main_v428 : Ref sig .tc := ⟨.hbm, 445, rfl⟩
abbrev main_v429 : Ref sig .tc := ⟨.hbm, 446, rfl⟩
abbrev main_v430 : Ref sig .tc := ⟨.hbm, 447, rfl⟩
abbrev main_v431 : Ref sig .tc := ⟨.hbm, 448, rfl⟩
abbrev main_v432 : Ref sig .tc := ⟨.hbm, 449, rfl⟩
abbrev main_v433 : Ref sig .tc := ⟨.hbm, 450, rfl⟩
abbrev main_v434 : Ref sig .tc := ⟨.hbm, 451, rfl⟩
abbrev main_v435 : Ref sig .tc := ⟨.hbm, 452, rfl⟩
abbrev main_v436 : Ref sig .tc := ⟨.hbm, 453, rfl⟩
abbrev main_v437 : Ref sig .tc := ⟨.hbm, 454, rfl⟩
abbrev main_v438 : Ref sig .tc := ⟨.hbm, 455, rfl⟩
abbrev main_v439 : Ref sig .tc := ⟨.hbm, 456, rfl⟩
abbrev main_v440 : Ref sig .tc := ⟨.hbm, 457, rfl⟩
abbrev main_v441 : Ref sig .tc := ⟨.hbm, 458, rfl⟩
abbrev main_v442 : Ref sig .tc := ⟨.hbm, 459, rfl⟩
abbrev main_v443 : Ref sig .tc := ⟨.hbm, 460, rfl⟩
abbrev main_v444 : Ref sig .tc := ⟨.hbm, 461, rfl⟩
abbrev main_v445 : Ref sig .tc := ⟨.hbm, 462, rfl⟩
abbrev main_v446 : Ref sig .tc := ⟨.hbm, 463, rfl⟩
abbrev main_v447 : Ref sig .tc := ⟨.hbm, 464, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x1024 : Shape := ⟨2, ![16384, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S4x4096x64x16 : Shape := ⟨4, ![4, 4096, 64, 16]⟩
abbrev S4096x4x64x16 : Shape := ⟨4, ![4096, 4, 64, 16]⟩
abbrev S64x64x4096x4 : Shape := ⟨4, ![64, 64, 4096, 4]⟩
abbrev S4096x4x64x64 : Shape := ⟨4, ![4096, 4, 64, 64]⟩
abbrev S4x64x64 : Shape := ⟨3, ![4, 64, 64]⟩
abbrev S1x4x64x64 : Shape := ⟨4, ![1, 4, 64, 64]⟩
abbrev S1x64x64 : Shape := ⟨3, ![1, 64, 64]⟩
abbrev S64x16x4096x4 : Shape := ⟨4, ![64, 16, 4096, 4]⟩
abbrev S64x4x4096x16 : Shape := ⟨4, ![64, 4, 4096, 16]⟩
abbrev S64x1024x256 : Shape := ⟨3, ![64, 1024, 256]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64x16, .f32⟩
  | .hbm, ⟨5, _⟩ => ⟨S64x64x16, .f32⟩
  | .hbm, ⟨6, _⟩ => ⟨S64x16x64, .f32⟩
  | .hbm, ⟨7, _⟩ => ⟨S64x16x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S16384x1024, .f32⟩
  | .hbm, ⟨50, _⟩ => ⟨S4x4096x64x16, .f32⟩
  | .hbm, ⟨51, _⟩ => ⟨S4096x4x64x16, .f32⟩
  | .hbm, ⟨52, _⟩ => ⟨S64x64x4096x4, .f32⟩
  | .hbm, ⟨53, _⟩ => ⟨S4096x4x64x64, .f32⟩
  | .hbm, ⟨54, _⟩ => ⟨S64x64x4096x4, .f32⟩
  | .hbm, ⟨55, _⟩ => ⟨S4096x4x64x64, .f32⟩
  | .hbm, ⟨56, _⟩ => ⟨S_, .f32⟩
  | .hbm, ⟨57, _⟩ => ⟨S4x64x64, .f32⟩
  | .hbm, ⟨58, _⟩ => ⟨S_, .f32⟩
  | .hbm, ⟨59, _⟩ => ⟨S4096x4x64x64, .f32⟩
  | .hbm, ⟨60, _⟩ => ⟨S_, .f32⟩
  | .hbm, ⟨61, _⟩ => ⟨S4096x4x64x64, .f32⟩
  | .hbm, ⟨62, _⟩ => ⟨S_, .i32⟩
  | .hbm, ⟨63, _⟩ => ⟨S4096x4x64x64, .f32⟩
  | .hbm, ⟨64, _⟩ => ⟨S4096x4x64x64, .f32⟩
  | .hbm, ⟨65, _⟩ => ⟨S64x64, .f32⟩
  | .hbm, ⟨66, _⟩ => ⟨S64x64, .f32⟩
  | .hbm, ⟨67, _⟩ => ⟨S_, .i32⟩
  | .hbm, ⟨68, _⟩ => ⟨S4x64x64, .f32⟩
  | .hbm, ⟨69, _⟩ => ⟨S4x64x64, .f32⟩
  | .hbm, ⟨70, _⟩ => ⟨S4096x4x64x64, .f32⟩
  | .hbm, ⟨71, _⟩ => ⟨S4096x4x64x64, .f32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x4x64x64, .f32⟩
  | .hbm, ⟨78, _⟩ => ⟨S4x64x64, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x4x64x64, .f32⟩
  | .hbm, ⟨83, _⟩ => ⟨S4x64x64, .f32⟩
  | .hbm, ⟨84, _⟩ => ⟨S1x64x64, .f32⟩
  | .hbm, ⟨85, _⟩ => ⟨S4x64x64, .f32⟩
  | .hbm, ⟨86, _⟩ => ⟨S4x64x64, .f32⟩
  | .hbm, ⟨87, _⟩ => ⟨S1x64x64, .f32⟩
  | .hbm, ⟨88, _⟩ => ⟨S4x64x64, .f32⟩
  | .hbm, ⟨89, _⟩ => ⟨S4x64x64, .f32⟩
  | .hbm, ⟨90, _⟩ => ⟨S4x64x64, .f32⟩
  | .hbm, ⟨91, _⟩ => ⟨S4x64x64, .f32⟩
  | .hbm, ⟨92, _⟩ => ⟨S1x64x64, .f32⟩
  | .hbm, ⟨93, _⟩ => ⟨S4x64x64, .f32⟩
  | .hbm, ⟨94, _⟩ => ⟨S4x64x64, .f32⟩
  | .hbm, ⟨95, _⟩ => ⟨S1x64x64, .f32⟩
  | .hbm, ⟨96, _⟩ => ⟨S4x64x64, .f32⟩
  | .hbm, ⟨97, _⟩ => ⟨S4x64x64, .f32⟩
  | .hbm, ⟨98, _⟩ => ⟨S4x64x64, .f32⟩
  | .hbm, ⟨99, _⟩ => ⟨S4x64x64, .f32⟩
  | .hbm, ⟨100, _⟩ => ⟨S1x4x64x64, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S4096x4x64x64, .f32⟩
  | .hbm, ⟨105, _⟩ => ⟨S1x4x64x64, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S4096x4x64x64, .f32⟩
  | .hbm, ⟨110, _⟩ => ⟨S_, .i32⟩
  | .hbm, ⟨111, _⟩ => ⟨S_, .i32⟩
  | .hbm, ⟨112, _⟩ => ⟨S64x16x4096x4, .f32⟩
  | .hbm, ⟨113, _⟩ => ⟨S4096x4x64x16, .f32⟩
  | .hbm, ⟨114, _⟩ => ⟨S64x16x4096x4, .f32⟩
  | .hbm, ⟨115, _⟩ => ⟨S4096x4x64x16, .f32⟩
  | .hbm, ⟨116, _⟩ => ⟨S4096x4x64x16, .f32⟩
  | .hbm, ⟨117, _⟩ => ⟨S64x4x4096x16, .f32⟩
  | .hbm, ⟨118, _⟩ => ⟨S64x1024x256, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_0 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_c : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev main_v50_4 : Ref sig .tc := ⟨.hbm, 67, rfl⟩
abbrev main_v50_5 : Ref sig .tc := ⟨.hbm, 68, rfl⟩
abbrev main_v50_6 : Ref sig .tc := ⟨.hbm, 69, rfl⟩
abbrev main_v50_7 : Ref sig .tc := ⟨.hbm, 70, rfl⟩
abbrev main_v50_8 : Ref sig .tc := ⟨.hbm, 71, rfl⟩
abbrev main_while0c_c_11 : Ref sig .tc := ⟨.hbm, 72, rfl⟩
abbrev main_while0c_v58 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_c_1 : Ref sig .tc := ⟨.hbm, 76, rfl⟩
abbrev main_while0b_call0_v0 : Ref sig .tc := ⟨.hbm, 77, rfl⟩
abbrev main_while0b_v58 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_v0 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_v62 : Ref sig .tc := ⟨.hbm, 86, rfl⟩
abbrev main_while0b_v63 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_call2_v0 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_v76 : Ref sig .tc := ⟨.hbm, 104, rfl⟩
abbrev main_while0b_call3_v0 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_v77 : Ref sig .tc := ⟨.hbm, 109, rfl⟩
abbrev main_while0b_c_11 : Ref sig .tc := ⟨.hbm, 110, rfl⟩
abbrev main_while0b_v78 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩

abbrev nD : Nat := 1
abbrev τ : Topo := Topo.v7x

variable {F : FTy → Type} [FloatOps F]

abbrev main_while0_count : Scf.Loop 32 := ⟨0#32, 4096#32, 1#32⟩
-- ==== Ada.lean ====
abbrev S4x2048 : Shape := ⟨2, ![4, 2048]⟩
abbrev S2048x6144 : Shape := ⟨2, ![2048, 6144]⟩
abbrev S6144 : Shape := ⟨1, ![6144]⟩
abbrev S1x6144 : Shape := ⟨2, ![1, 6144]⟩
abbrev S4x6144 : Shape := ⟨2, ![4, 6144]⟩
abbrev S2048x1536 : Shape := ⟨2, ![2048, 1536]⟩
abbrev S1x1536 : Shape := ⟨2, ![1, 1536]⟩
abbrev S4x1536 : Shape := ⟨2, ![4, 1536]⟩

abbrev nBuf : Space → Nat
  | .hbm => 5
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S4x6144, .f32⟩
  | .local _ .vmem, ⟨0, _⟩ => ⟨S4x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S4x1536, .f32⟩
  | .local _ .vmem, ⟨6, _⟩ => ⟨S4x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S4x2048 : Shape := ⟨2, ![4, 2048]⟩
abbrev S2048x6144 : Shape := ⟨2, ![2048, 6144]⟩
abbrev S6144 : Shape := ⟨1, ![6144]⟩
abbrev S4x6144 : Shape := ⟨2, ![4, 6144]⟩
abbrev S1x6144 : Shape := ⟨2, ![1, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x6144, .f32⟩
  | .hbm, ⟨2, _⟩ => ⟨S6144, .f32⟩
  | .hbm, ⟨3, _⟩ => ⟨S4x6144, .f32⟩
  | .hbm, ⟨4, _⟩ => ⟨S1x6144, .f32⟩
  | .hbm, ⟨5, _⟩ => ⟨S4x6144, .f32⟩
  | .hbm, ⟨6, _⟩ => ⟨S4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S4x4096x2048 : Shape := ⟨3, ![4, 4096, 2048]⟩
abbrev S4x2048 : Shape := ⟨2, ![4, 2048]⟩
abbrev S2048x9776 : Shape := ⟨2, ![2048, 9776]⟩
abbrev S16384x2048 : Shape := ⟨2, ![16384, 2048]⟩
abbrev S2048x1024 : Shape := ⟨2, ![2048, 1024]⟩
abbrev S2048x2048 : Shape := ⟨2, ![2048, 2048]⟩
abbrev S2048x1536 : Shape := ⟨2, ![2048, 1536]⟩
abbrev S2048x48 : Shape := ⟨2, ![2048, 48]⟩
abbrev S_ : Shape := ⟨0, ![]⟩
abbrev S2048x80 : Shape := ⟨2, ![2048, 80]⟩
abbrev S2048x9856 : Shape := ⟨2, ![2048, 9856]⟩
abbrev S4x1x2048 : Shape := ⟨3, ![4, 1, 2048]⟩
abbrev S16384x9856 : Shape := ⟨2, ![16384, 9856]⟩
abbrev S1024x2048 : Shape := ⟨2, ![1024, 2048]⟩
abbrev S1x1x2048 : Shape := ⟨3, ![1, 1, 2048]⟩
abbrev S2048x1408 : Shape := ⟨2, ![2048, 1408]⟩
abbrev S1024x1408 : Shape := ⟨2, ![1024, 1408]⟩
abbrev S1024 : Shape := ⟨1, ![1024]⟩
abbrev S1024x1 : Shape := ⟨2, ![1024, 1]⟩
abbrev S1x2048 : Shape := ⟨2, ![1, 2048]⟩

abbrev nBuf : Space → Nat
  | .hbm => 20
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S2048x9776, .f32⟩
  | .hbm, ⟨4, _⟩ => ⟨S16384x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x2048, .f32⟩
  | .hbm, ⟨11, _⟩ => ⟨S2048x1536, .f32⟩
  | .hbm, ⟨12, _⟩ => ⟨S2048x48, .f32⟩
  | .hbm, ⟨13, _⟩ => ⟨S_, .f32⟩
  | .hbm, ⟨14, _⟩ => ⟨S2048x80, .f32⟩
  | .hbm, ⟨15, _⟩ => ⟨S2048x9856, .f32⟩
  | .hbm, ⟨16, _⟩ => ⟨S2048x9856, .bf16⟩
  | .hbm, ⟨17, _⟩ => ⟨S4x1x2048, .f32⟩
  | .hbm, ⟨18, _⟩ => ⟨S4x1x2048, .f32⟩
  | .hbm, ⟨19, _⟩ => ⟨S16384x9856, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1408, .bf16⟩
  | .local _ .vmem, ⟨7, _⟩ => ⟨S2048x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjReferenceIdeal.lean ====
abbrev S4x4096x2048 : Shape := ⟨3, ![4, 4096, 2048]⟩
abbrev S4x2048 : Shape := ⟨2, ![4, 2048]⟩
abbrev S2048x9776 : Shape := ⟨2, ![2048, 9776]⟩
abbrev S_ : Shape := ⟨0, ![]⟩
abbrev S4x4096 : Shape := ⟨2, ![4, 4096]⟩
abbrev S4x4096x1 : Shape := ⟨3, ![4, 4096, 1]⟩
abbrev S4x1x2048 : Shape := ⟨3, ![4, 1, 2048]⟩
abbrev S4x4096x9776 : Shape := ⟨3, ![4, 4096, 9776]⟩
abbrev S4x4096x1024 : Shape := ⟨3, ![4, 4096, 1024]⟩
abbrev S4x4096x1536 : Shape := ⟨3, ![4, 4096, 1536]⟩
abbrev S4x4096x48 : Shape := ⟨3, ![4, 4096, 48]⟩
abbrev S4x4096x80 : Shape := ⟨3, ![4, 4096, 80]⟩
abbrev S4x4096x9856 : Shape := ⟨3, ![4, 4096, 9856]⟩
abbrev S16384x9856 : Shape := ⟨2, ![16384, 9856]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x2048, .f32⟩
  | .hbm, ⟨3, _⟩ => ⟨S2048x9776, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x9776, .f32⟩
  | .hbm, ⟨37, _⟩ => ⟨S4x4096x1024, .f32⟩
  | .hbm, ⟨38, _⟩ => ⟨S4x4096x1536, .f32⟩
  | .hbm, ⟨39, _⟩ => ⟨S4x4096x48, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x80, .f32⟩
  | .hbm, ⟨47, _⟩ => ⟨S4x4096x9856, .f32⟩
  | .hbm, ⟨48, _⟩ => ⟨S16384x9856, .f32⟩
  | .hbm, ⟨49, _⟩ => ⟨S16384x9856, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Glu.lean ====
abbrev S16384x1024 : Shape := ⟨2, ![16384, 1024]⟩
abbrev S16384x9856 : Shape := ⟨2, ![16384, 9856]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x9856, .bf16⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluReferenceIdeal.lean ====
abbrev S16384x1024 : Shape := ⟨2, ![16384, 1024]⟩
abbrev S16384x9856 : Shape := ⟨2, ![16384, 9856]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x9856, .bf16⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Merge.lean ====
abbrev S16384x1024 : Shape := ⟨2, ![16384, 1024]⟩
abbrev S16384x9856 : Shape := ⟨2, ![16384, 9856]⟩
abbrev S4x4096x2048 : Shape := ⟨3, ![4, 4096, 2048]⟩
abbrev S4x2048 : Shape := ⟨2, ![4, 2048]⟩
abbrev S1024x2048 : Shape := ⟨2, ![1024, 2048]⟩
abbrev S2048x2048 : Shape := ⟨2, ![2048, 2048]⟩
abbrev S2048 : Shape := ⟨1, ![2048]⟩
abbrev S16384x2048 : Shape := ⟨2, ![16384, 2048]⟩
abbrev S4x1x2048 : Shape := ⟨3, ![4, 1, 2048]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9856, .bf16⟩
  | .hbm, ⟨3, _⟩ => ⟨S4x4096x2048, .f32⟩
  | .hbm, ⟨4, _⟩ => ⟨S4x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S16384x2048, .f32⟩
  | .hbm, ⟨11, _⟩ => ⟨S1024x2048, .bf16⟩
  | .hbm, ⟨12, _⟩ => ⟨S1024x2048, .bf16⟩
  | .hbm, ⟨13, _⟩ => ⟨S2048x2048, .bf16⟩
  | .hbm, ⟨14, _⟩ => ⟨S4x1x2048, .f32⟩
  | .hbm, ⟨15, _⟩ => ⟨S1x2048, .f32⟩
  | .hbm, ⟨16, _⟩ => ⟨S1x2048, .f32⟩
  | .hbm, ⟨17, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16384x1024 : Shape := ⟨2, ![16384, 1024]⟩
abbrev S16384x9856 : Shape := ⟨2, ![16384, 9856]⟩
abbrev S4x4096x2048 : Shape := ⟨3, ![4, 4096, 2048]⟩
abbrev S4x2048 : Shape := ⟨2, ![4, 2048]⟩
abbrev S1024x2048 : Shape := ⟨2, ![1024, 2048]⟩
abbrev S2048x2048 : Shape := ⟨2, ![2048, 2048]⟩
abbrev S2048 : Shape := ⟨1, ![2048]⟩
abbrev S4x4096x1024 : Shape := ⟨3, ![4, 4096, 1024]⟩
abbrev S16384x2048 : Shape := ⟨2, ![16384, 2048]⟩
abbrev S_ : Shape := ⟨0, ![]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9856, .bf16⟩
  | .hbm, ⟨3, _⟩ => ⟨S4x4096x2048, .f32⟩
  | .hbm, ⟨4, _⟩ => ⟨S4x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S16384x1024, .f32⟩
  | .hbm, ⟨11, _⟩ => ⟨S4x4096x1024, .f32⟩
  | .hbm, ⟨12, _⟩ => ⟨S16384x1024, .f32⟩
  | .hbm, ⟨13, _⟩ => ⟨S4x4096x1024, .f32⟩
  | .hbm, ⟨14, _⟩ => ⟨S16384x2048, .bf16⟩
  | .hbm, ⟨15, _⟩ => ⟨S16384x2048, .f32⟩
  | .hbm, ⟨16, _⟩ => ⟨S4x4096x2048, .f32⟩
  | .hbm, ⟨17, _⟩ => ⟨S16384x2048, .bf16⟩
  | .hbm, ⟨18, _⟩ => ⟨S16384x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S_, .f32⟩
  | .hbm, ⟨43, _⟩ => ⟨S4x4096x2048, .f32⟩
  | .hbm, ⟨44, _⟩ => ⟨S4x4096x2048, .f32⟩
  | .hbm, ⟨45, _⟩ => ⟨S4x1x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x2048, .f32⟩
  | .hbm, ⟨65, _⟩ => ⟨S4x4096x2048, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x2048, .f32⟩
  | .hbm, ⟨71, _⟩ => ⟨S4x4096x2048, .f32⟩
  | .hbm, ⟨72, _⟩ => ⟨S1x1x2048, .f32⟩
  | .hbm, ⟨73, _⟩ => ⟨S4x4096x2048, .f32⟩
  | .hbm, ⟨74, _⟩ => ⟨S4x4096x2048, .f32⟩
  | .hbm, ⟨75, _⟩ => ⟨S1x1x2048, .f32⟩
  | .hbm, ⟨76, _⟩ => ⟨S4x4096x2048, .f32⟩
  | .hbm, ⟨77, _⟩ => ⟨S4x4096x2048, .f32⟩
  | .hbm, ⟨78, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Proof.HostLine.lean ====
/- A straight line of host operations in which every operation writes a fresh array: the arrays are numbered, and
   operation `i` writes array `n + i`. Each array then holds, at the end of the line, its operation's value at what the
   operation's operands hold at the end of the line; and an array numbered below `n` is left alone. -/
module

public import Idealize.ShloMosaic.Lib.StableHlo.RunRead

@[expose] public section

namespace Cert.HostLine

open Idealize.ShloMosaic Idealize.ShloMosaic.TcCoe

variable {τ : Topo} {sig : RefSig} {Val : EltTy → Type}

/-- The operations write, in order, the arrays numbered `n`, `n + 1`, …, one each. -/
def Rising : ℕ → List (HloOp τ sig Val) → Prop
  | _, [] => True
  | n, op :: l => (∃ y : Ref sig .tc, op.writes = {Proc.devRef (τ := τ) .tc y} ∧ y.idx.val = n) ∧ Rising (n + 1) l

/-- No operations. -/
theorem rising_nil (n : ℕ) : Rising n ([] : List (HloOp τ sig Val)) := trivial

/-- One more operation, writing the next array. -/
theorem rising_cons {n : ℕ} {op : HloOp τ sig Val} {l : List (HloOp τ sig Val)} (y : Ref sig .tc)
    (hw : op.writes = {Proc.devRef (τ := τ) .tc y}) (hy : y.idx.val = n) (hl : Rising (n + 1) l) : Rising n (op :: l) :=
  ⟨⟨y, hw, hy⟩, hl⟩

/-- Two lists in a row. -/
theorem rising_append {n k : ℕ} {l l' : List (HloOp τ sig Val)} (hl : Rising n l) (hk : n + l.length = k)
    (hl' : Rising k l') : Rising n (l ++ l') := by
  induction l generalizing n with
  | nil => exact (show n = k from hk) ▸ hl'
  | cons op l ih => exact ⟨hl.1, ih hl.2 (by rw [← hk, List.length_cons]; omega)⟩

/-- Arrays with different numbers are different. -/
theorem ne_of_idx {r y : Ref sig .tc} (h : r.idx.val ≠ y.idx.val) : r ≠ y := fun e => h (by rw [e])

/-- An array numbered below the line's first is left alone. -/
theorem keep {n : ℕ} {ops : List (HloOp τ sig Val)} (h : Rising n ops) (V : Valuation τ sig Val) {r : Ref sig .tc}
    (hr : r.idx.val < n) : StableHlo.after ops V (Proc.devRef .tc r) = V (Proc.devRef .tc r) := by
  induction ops generalizing n V with
  | nil => rfl
  | cons op l ih =>
    obtain ⟨⟨y, hw, hy⟩, hl⟩ := h
    rw [StableHlo.after_cons, ih hl _ (by omega)]
    exact HloOp.result_of_not_mem _ _ (by
      rw [hw, Finset.mem_singleton]; exact StableHlo.devRef_ne_of_ne (ne_of_idx (by omega)))

/-- The operation at place `i` of the line, if there is one. -/
def nth : List (HloOp τ sig Val) → ℕ → Option (HloOp τ sig Val)
  | [], _ => none
  | op :: _, 0 => some op
  | _ :: l, i + 1 => nth l i

/-- Operation `i`'s array at the end of the line: the operation's value at some contents that agree with the line's end
    on every array numbered below the operation's own. -/
theorem at_op {n : ℕ} {ops : List (HloOp τ sig Val)} (h : Rising n ops) (V : Valuation τ sig Val) (i : ℕ)
    {op : HloOp τ sig Val} (hseg : nth ops i = some op) :
    ∃ W : Valuation τ sig Val,
      (∀ r : Ref sig .tc, r.idx.val < n + i →
        W (Proc.devRef .tc r) = StableHlo.after ops V (Proc.devRef .tc r))
      ∧ ∀ y : Ref sig .tc, y.idx.val = n + i →
        StableHlo.after ops V (Proc.devRef .tc y) = op.result W (Proc.devRef .tc y) := by
  induction ops generalizing n V i with
  | nil => simp [nth] at hseg
  | cons o l ih =>
    obtain ⟨⟨z, hw, hz⟩, hl⟩ := h
    cases i with
    | zero =>
      obtain rfl : o = op := by simpa [nth] using hseg
      refine ⟨V, fun r hr => ?_, fun y hy => ?_⟩
      · rw [StableHlo.after_cons, keep hl _ (by omega)]
        exact (HloOp.result_of_not_mem _ _ (by
          rw [hw, Finset.mem_singleton]; exact StableHlo.devRef_ne_of_ne (ne_of_idx (by omega)))).symm
      · rw [StableHlo.after_cons, keep hl _ (by omega)]
    | succ j =>
      obtain ⟨W, h1, h2⟩ := ih hl (o.result V) j hseg
      refine ⟨W, fun r hr => ?_, fun y hy => ?_⟩
      · rw [StableHlo.after_cons]; exact h1 r (by omega)
      · rw [StableHlo.after_cons]; exact h2 y (by omega)

section Kinds

variable {n : ℕ} {ops : List (HloOp τ sig Val)} (h : Rising n ops) (V : Valuation τ sig Val) (i : ℕ)
include h

/-- What a constant leaves. -/
theorem at_nullary {y : Ref sig .tc} {v : y.ty.Contents Val} {hy}
    (hseg : nth ops i = some (StableHlo.nullary y v hy)) (hn : y.idx.val = n + i) :
    StableHlo.after ops V (Proc.devRef .tc y) = v := by
  obtain ⟨W, h1, h2⟩ := at_op h V i hseg
  rw [h2 y hn, StableHlo.nullary_result]

/-- What an operation of one operand leaves. -/
theorem at_unary {x y : Ref sig .tc} {f : x.ty.Contents Val → y.ty.Contents Val} {hx hy}
    (hseg : nth ops i = some (StableHlo.unary x y f hx hy)) (hn : y.idx.val = n + i) (hx' : x.idx.val < n + i) :
    StableHlo.after ops V (Proc.devRef .tc y) = f (StableHlo.after ops V (Proc.devRef .tc x)) := by
  obtain ⟨W, h1, h2⟩ := at_op h V i hseg
  rw [h2 y hn, StableHlo.unary_result, h1 x hx']

/-- What an operation of two operands leaves. -/
theorem at_binary {a b y : Ref sig .tc} {f : a.ty.Contents Val → b.ty.Contents Val → y.ty.Contents Val} {ha hb hy}
    (hseg : nth ops i = some (StableHlo.binary a b y f ha hb hy)) (hn : y.idx.val = n + i)
    (ha' : a.idx.val < n + i) (hb' : b.idx.val < n + i) :
    StableHlo.after ops V (Proc.devRef .tc y)
      = f (StableHlo.after ops V (Proc.devRef .tc a)) (StableHlo.after ops V (Proc.devRef .tc b)) := by
  obtain ⟨W, h1, h2⟩ := at_op h V i hseg
  rw [h2 y hn, StableHlo.binary_result, h1 a ha', h1 b hb']

/-- What an operation of three operands leaves. -/
theorem at_ternary {p a b y : Ref sig .tc}
    {f : p.ty.Contents Val → a.ty.Contents Val → b.ty.Contents Val → y.ty.Contents Val} {hp ha hb hy}
    (hseg : nth ops i = some (StableHlo.ternary p a b y f hp ha hb hy)) (hn : y.idx.val = n + i)
    (hp' : p.idx.val < n + i) (ha' : a.idx.val < n + i) (hb' : b.idx.val < n + i) :
    StableHlo.after ops V (Proc.devRef .tc y)
      = f (StableHlo.after ops V (Proc.devRef .tc p)) (StableHlo.after ops V (Proc.devRef .tc a))
          (StableHlo.after ops V (Proc.devRef .tc b)) := by
  obtain ⟨W, h1, h2⟩ := at_op h V i hseg
  rw [h2 y hn, StableHlo.ternary_result, h1 p hp', h1 a ha', h1 b hb']

/-- What a reshape leaves. -/
theorem at_reshape {x y : Ref sig .tc} {he : x.ty.elt = y.ty.elt} {hs : x.ty.shape.ShapeCasts y.ty.shape} {hx hy}
    (hseg : nth ops i = some (StableHlo.reshape x y he hs hx hy)) (hn : y.idx.val = n + i)
    (hx' : x.idx.val < n + i) :
    StableHlo.after ops V (Proc.devRef .tc y)
      = fun j => he ▸ shapeCast y.ty.shape (StableHlo.after ops V (Proc.devRef .tc x)) hs j := by
  obtain ⟨W, h1, h2⟩ := at_op h V i hseg
  rw [h2 y hn, StableHlo.reshape_result, h1 x hx']

/-- What an operation of many operands leaves. -/
theorem at_nary {k : ℕ} {xs : Fin k → Ref sig .tc} {y : Ref sig .tc}
    {f : ((q : Fin k) → (xs q).ty.Contents Val) → y.ty.Contents Val} {hxs hy}
    (hseg : nth ops i = some (StableHlo.nary xs y f hxs hy)) (hn : y.idx.val = n + i)
    (hx' : ∀ q, (xs q).idx.val < n + i) :
    StableHlo.after ops V (Proc.devRef .tc y) = f fun q => StableHlo.after ops V (Proc.devRef .tc (xs q)) := by
  obtain ⟨W, h1, h2⟩ := at_op h V i hseg
  rw [h2 y hn, StableHlo.nary_result]
  exact congrArg f (funext fun q => h1 (xs q) (hx' q))

end Kinds

end Cert.HostLine

end
-- ==== Proof.KernelIdealFrame.lean ====
/- The launch of `KernelIdeal` — the recurrence's kernel — as far as its frame: the host operations before the launch leave
   the arguments alone, each window's block at a grid point, what one pass of the body leaves in the output block
   (`out0_5`), and the run over the whole grid. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.HostLine

@[expose] public section

-- the rectangles of the blocks have long axes
set_option maxRecDepth 65536
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write one fresh array each, in the order of the arrays' numbers. -/
theorem rising : HostLine.Rising 8 (hostOps0 : List (HloOp τ sig (Elt F))) := by
  repeat (first | exact HostLine.rising_nil _ | refine HostLine.rising_cons _ rfl rfl ?_)

/-- The launch finds argument 0 as it was. -/
theorem V_main_arg0 (c : Dev nD) : V m c main_arg0 = m ((c : Thread nD τ).loc main_arg0) :=
  HostLine.keep rising _ (by decide)

/-- The launch finds argument 1 as it was. -/
theorem V_main_arg1 (c : Dev nD) : V m c main_arg1 = m ((c : Thread nD τ).loc main_arg1) :=
  HostLine.keep rising _ (by decide)

/-- The launch finds argument 2 as it was. -/
theorem V_main_arg2 (c : Dev nD) : V m c main_arg2 = m ((c : Thread nD τ).loc main_arg2) :=
  HostLine.keep rising _ (by decide)

/-- The launch finds argument 3 as it was. -/
theorem V_main_arg3 (c : Dev nD) : V m c main_arg3 = m ((c : Thread nD τ).loc main_arg3) :=
  HostLine.keep rising _ (by decide)

/-- The launch finds argument 4 as it was. -/
theorem V_main_arg4 (c : Dev nD) : V m c main_arg4 = m ((c : Thread nD τ).loc main_arg4) :=
  HostLine.keep rising _ (by decide)

/-- The launch finds argument 5 as it was. -/
theorem V_main_arg5 (c : Dev nD) : V m c main_arg5 = m ((c : Thread nD τ).loc main_arg5) :=
  HostLine.keep rising _ (by decide)

/-- The launch finds argument 6 as it was. -/
theorem V_main_arg6 (c : Dev nD) : V m c main_arg6 = m ((c : Thread nD τ).loc main_arg6) :=
  HostLine.keep rising _ (by decide)

/-- The launch finds argument 7 as it was. -/
theorem V_main_arg7 (c : Dev nD) : V m c main_arg7 = m ((c : Thread nD τ).loc main_arg7) :=
  HostLine.keep rising _ (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S2x1024x256 := Rect.unit (s := S2x1024x256) ![0, 0, 0] S1x1024x256.size inb_S2x1024x256_S1x1024x256_0_0_0
abbrev r0_1 : Rect S2x1024x256 := Rect.unit (s := S2x1024x256) ![1, 0, 0] S1x1024x256.size inb_S2x1024x256_S1x1024x256_1_0_0
abbrev r0_2 : Rect S2x256x256 := Rect.unit (s := S2x256x256) ![0, 0, 0] S1x256x256.size inb_S2x256x256_S1x256x256_0_0_0
abbrev r0_3 : Rect S2x256x256 := Rect.unit (s := S2x256x256) ![1, 0, 0] S1x256x256.size inb_S2x256x256_S1x256x256_1_0_0
abbrev r0_4 : Rect S1x8x256 := Rect.unit (s := S1x8x256) ![0, 0, 0] S1x1x128.size inb_S1x8x256_S1x1x128_0_0_0
abbrev r0_5 : Rect S1x8x256 := Rect.unit (s := S1x8x256) ![0, 0, 128] S1x1x128.size inb_S1x8x256_S1x1x128_0_0_128
abbrev r0_6 : Rect S1x8x256 := Rect.unit (s := S1x8x256) ![0, 1, 0] S1x1x128.size inb_S1x8x256_S1x1x128_0_1_0
abbrev r0_7 : Rect S1x8x256 := Rect.unit (s := S1x8x256) ![0, 1, 128] S1x1x128.size inb_S1x8x256_S1x1x128_0_1_128
abbrev r0_8 : Rect S1x8x256 := Rect.unit (s := S1x8x256) ![0, 2, 0] S1x1x128.size inb_S1x8x256_S1x1x128_0_2_0
abbrev r0_9 : Rect S1x8x256 := Rect.unit (s := S1x8x256) ![0, 2, 128] S1x1x128.size inb_S1x8x256_S1x1x128_0_2_128
abbrev r0_10 : Rect S1x8x256 := Rect.unit (s := S1x8x256) ![0, 3, 0] S1x1x128.size inb_S1x8x256_S1x1x128_0_3_0
abbrev r0_11 : Rect S1x8x256 := Rect.unit (s := S1x8x256) ![0, 3, 128] S1x1x128.size inb_S1x8x256_S1x1x128_0_3_128
abbrev r0_12 : Rect S1x8x256 := Rect.unit (s := S1x8x256) ![0, 4, 0] S1x1x128.size inb_S1x8x256_S1x1x128_0_4_0
abbrev r0_13 : Rect S1x8x256 := Rect.unit (s := S1x8x256) ![0, 4, 128] S1x1x128.size inb_S1x8x256_S1x1x128_0_4_128
abbrev r0_14 : Rect S1x8x256 := Rect.unit (s := S1x8x256) ![0, 5, 0] S1x1x128.size inb_S1x8x256_S1x1x128_0_5_0
abbrev r0_15 : Rect S1x8x256 := Rect.unit (s := S1x8x256) ![0, 5, 128] S1x1x128.size inb_S1x8x256_S1x1x128_0_5_128
abbrev r0_16 : Rect S1x8x256 := Rect.unit (s := S1x8x256) ![0, 6, 0] S1x1x128.size inb_S1x8x256_S1x1x128_0_6_0
abbrev r0_17 : Rect S1x8x256 := Rect.unit (s := S1x8x256) ![0, 6, 128] S1x1x128.size inb_S1x8x256_S1x1x128_0_6_128
abbrev r0_18 : Rect S1x8x256 := Rect.unit (s := S1x8x256) ![0, 7, 0] S1x1x128.size inb_S1x8x256_S1x1x128_0_7_0
abbrev r0_19 : Rect S1x8x256 := Rect.unit (s := S1x8x256) ![0, 7, 128] S1x1x128.size inb_S1x8x256_S1x1x128_0_7_128

/-! ## What the body leaves in each output window's buffer -/

/-! ### Values of the body that the stores' payloads, spelt out, would write more than once

    Each is a vector the body binds (often a part call's result), stated over the input windows' blocks and
    numbered on from the skeleton's payload functions (`k0_pay64` …, after `k0_pay63`), so that
    `out0_W` and the values after it name it instead of spelling it out (`unfold_out out0_W` opens a canon
    with them, `unfold_payloads` opens them with the payloads); the comment after each is the printed function's
    name for the value (a count appended where that name is bound again). -/

def k0_pay64 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay6 (View.ld x0 r0_0) (View.ld x0 r0_1) (View.ld x2 r0_2) (View.ld x2 r0_3) -- `v11`
def k0_pay65 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay7 (View.ld x0 r0_0) (View.ld x0 r0_1) (View.ld x2 r0_2) (View.ld x2 r0_3) -- `v12`
def k0_pay66 (x0 : Vec F S2x1024x256 .bf16) (x1 : Vec F S2x256x256 .bf16) (x2 : Vec F S2x256x256 .bf16) (x3 : Vec F S2x256x256 .bf16) (x4 : Vec F S1x8x256 .f32) : IVec S1024x128 32 :=
  k0_pay8 -- `v29`
def k0_pay67 (x0 : Vec F S2x1024x256 .bf16) (x1 : Vec F S2x256x256 .bf16) (x2 : Vec F S2x256x256 .bf16) (x3 : Vec F S2x256x256 .bf16) (x4 : Vec F S1x8x256 .f32) : FVec F S1x128 .f32 :=
  k0_pay9 (View.ld x4 r0_4) -- `v31`
def k0_pay68 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay21 (k0_pay64 x0 x1 x2 x3 x4) (k0_pay65 x0 x1 x2 x3 x4) (k0_pay66 x0 x1 x2 x3 x4) (k0_pay67 x0 x1 x2 x3 x4) (View.ld x4 r0_5) (View.ld x4 r0_6) (View.ld x4 r0_7) -- `v71`
def k0_pay69 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay22 (k0_pay64 x0 x1 x2 x3 x4) (k0_pay65 x0 x1 x2 x3 x4) (k0_pay66 x0 x1 x2 x3 x4) (k0_pay67 x0 x1 x2 x3 x4) (View.ld x4 r0_5) (View.ld x4 r0_6) -- `v74`
def k0_pay70 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay23 (k0_pay64 x0 x1 x2 x3 x4) (k0_pay65 x0 x1 x2 x3 x4) (k0_pay66 x0 x1 x2 x3 x4) (k0_pay67 x0 x1 x2 x3 x4) (View.ld x4 r0_5) (View.ld x4 r0_7) -- `v76`
def k0_pay71 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay30 (k0_pay66 x0 x1 x2 x3 x4) (k0_pay68 x0 x1 x2 x3 x4) (k0_pay69 x0 x1 x2 x3 x4) (k0_pay70 x0 x1 x2 x3 x4) (View.ld x4 r0_8) (View.ld x4 r0_9) -- `v95`
def k0_pay72 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay31 (k0_pay66 x0 x1 x2 x3 x4) (k0_pay68 x0 x1 x2 x3 x4) (k0_pay69 x0 x1 x2 x3 x4) (k0_pay70 x0 x1 x2 x3 x4) (View.ld x4 r0_8) (View.ld x4 r0_9) -- `v101`
def k0_pay73 (x0 : Vec F S2x1024x256 .bf16) (x1 : Vec F S2x256x256 .bf16) (x2 : Vec F S2x256x256 .bf16) (x3 : Vec F S2x256x256 .bf16) (x4 : Vec F S1x8x256 .f32) : FVec F S1x128 .f32 :=
  k0_pay32 (View.ld x4 r0_10) -- `v103`
def k0_pay74 (x0 : Vec F S2x1024x256 .bf16) (x1 : Vec F S2x256x256 .bf16) (x2 : Vec F S2x256x256 .bf16) (x3 : Vec F S2x256x256 .bf16) (x4 : Vec F S1x8x256 .f32) : FVec F S1x128 .f32 :=
  k0_pay33 (View.ld x4 r0_11) -- `v105`
def k0_pay75 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay35 (k0_pay66 x0 x1 x2 x3 x4) (k0_pay68 x0 x1 x2 x3 x4) (k0_pay69 x0 x1 x2 x3 x4) (k0_pay70 x0 x1 x2 x3 x4) (View.ld x4 r0_8) (View.ld x4 r0_9) -- `v110`
def k0_pay76 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay36 (k0_pay66 x0 x1 x2 x3 x4) (k0_pay68 x0 x1 x2 x3 x4) (k0_pay69 x0 x1 x2 x3 x4) (k0_pay70 x0 x1 x2 x3 x4) (View.ld x4 r0_8) (View.ld x4 r0_9) -- `v113`
def k0_pay77 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay37 (View.ld x4 r0_10) -- `v114`
def k0_pay78 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay45 (k0_pay66 x0 x1 x2 x3 x4) (k0_pay71 x0 x1 x2 x3 x4) (k0_pay72 x0 x1 x2 x3 x4) (k0_pay73 x0 x1 x2 x3 x4) (k0_pay74 x0 x1 x2 x3 x4) (k0_pay75 x0 x1 x2 x3 x4) (k0_pay76 x0 x1 x2 x3 x4) (k0_pay77 x0 x1 x2 x3 x4) (View.ld x4 r0_12) (View.ld x4 r0_13) -- `v143`
def k0_pay79 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay46 (k0_pay66 x0 x1 x2 x3 x4) (k0_pay71 x0 x1 x2 x3 x4) (k0_pay72 x0 x1 x2 x3 x4) (k0_pay73 x0 x1 x2 x3 x4) (k0_pay74 x0 x1 x2 x3 x4) (k0_pay75 x0 x1 x2 x3 x4) (k0_pay76 x0 x1 x2 x3 x4) (k0_pay77 x0 x1 x2 x3 x4) (View.ld x4 r0_12) (View.ld x4 r0_13) -- `v149`
def k0_pay80 (x0 : Vec F S2x1024x256 .bf16) (x1 : Vec F S2x256x256 .bf16) (x2 : Vec F S2x256x256 .bf16) (x3 : Vec F S2x256x256 .bf16) (x4 : Vec F S1x8x256 .f32) : FVec F S1x128 .f32 :=
  k0_pay47 (View.ld x4 r0_14) -- `v151`
def k0_pay81 (x0 : Vec F S2x1024x256 .bf16) (x1 : Vec F S2x256x256 .bf16) (x2 : Vec F S2x256x256 .bf16) (x3 : Vec F S2x256x256 .bf16) (x4 : Vec F S1x8x256 .f32) : FVec F S1x128 .f32 :=
  k0_pay48 (View.ld x4 r0_15) -- `v153`
def k0_pay82 (x0 : Vec F S2x1024x256 .bf16) (x1 : Vec F S2x256x256 .bf16) (x2 : Vec F S2x256x256 .bf16) (x3 : Vec F S2x256x256 .bf16) (x4 : Vec F S1x8x256 .f32) : IVec S1024x128 1 :=
  k0_pay49 (k0_pay66 x0 x1 x2 x3 x4) -- `v155`
def k0_pay83 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay59 (k0_pay66 x0 x1 x2 x3 x4) (k0_pay78 x0 x1 x2 x3 x4) (k0_pay79 x0 x1 x2 x3 x4) (k0_pay80 x0 x1 x2 x3 x4) (k0_pay81 x0 x1 x2 x3 x4) (k0_pay82 x0 x1 x2 x3 x4) 32#32 (View.ld x4 r0_16) (View.ld x4 r0_17) -- `v191`
def k0_pay84 (x0 : Vec F S2x1024x256 .bf16) (x1 : Vec F S2x256x256 .bf16) (x2 : Vec F S2x256x256 .bf16) (x3 : Vec F S2x256x256 .bf16) (x4 : Vec F S1x8x256 .f32) : FVec F S1024x128 .f32 :=
  k0_pay60 (k0_pay66 x0 x1 x2 x3 x4) (k0_pay78 x0 x1 x2 x3 x4) (k0_pay79 x0 x1 x2 x3 x4) (k0_pay80 x0 x1 x2 x3 x4) (k0_pay81 x0 x1 x2 x3 x4) (k0_pay82 x0 x1 x2 x3 x4) 32#32 (View.ld x4 r0_16) (View.ld x4 r0_17) -- `v197`

/-- Window 5's staging buffer after the body, from the input windows' blocks: its 2 stores as pieces, LAST
    FIRST (Lib/Pipeline/FrameBody.lean `View.canon`; the payloads are the skeleton's and the values stated above). -/
def out0_5 (x0 : Vec F S2x1024x256 .bf16) (x1 : Vec F S2x256x256 .bf16) (x2 : Vec F S2x256x256 .bf16) (x3 : Vec F S2x256x256 .bf16) (x4 : Vec F S1x8x256 .f32) : Vec F S2x1024x256 .f32 :=
  View.canon [⟨r0_1, k0_pay2 (k0_pay4 (View.ld x0 r0_1)) (k0_pay61 (k0_pay66 x0 x1 x2 x3 x4) (k0_pay83 x0 x1 x2 x3 x4) (k0_pay84 x0 x1 x2 x3 x4) (View.ld x4 r0_18) (View.ld x4 r0_19)) (View.ld x1 r0_3) (View.ld x3 r0_3)⟩,
    ⟨r0_0, k0_pay1 (k0_pay62 (k0_pay3 (View.ld x0 r0_0)) (View.ld x1 r0_2)) (k0_pay63 (k0_pay66 x0 x1 x2 x3 x4) (k0_pay83 x0 x1 x2 x3 x4) (k0_pay84 x0 x1 x2 x3 x4) (View.ld x4 r0_18) (View.ld x4 r0_19) (View.ld x3 r0_2))⟩]

/-- Its stores tile the buffer (checked by evaluation), so they cover it. -/
theorem cover0_5 (p0 : Vec F S1x1024x256 .f32) (p1 : Vec F S1x1024x256 .f32) (y : S2x1024x256.Idx) :
    ∃ pc ∈ ([⟨r0_1, p0⟩, ⟨r0_0, p1⟩] : List (View.Piece (Elt F) S2x1024x256 .f32)), y ∈ pc.1.set :=
  View.cover_of_tiled [⟨r0_1, p0⟩, ⟨r0_0, p1⟩] S1x1024x256.size (by rfl) y

/-! ## The body's triple -/

set_option maxHeartbeats 1403150 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S2x1024x256 .bf16) (harg1 : arg1.IsWhole) (arg2 : Memref sig .tc .vmem S2x256x256 .bf16) (harg2 : arg2.IsWhole) (arg3 : Memref sig .tc .vmem S2x256x256 .bf16) (harg3 : arg3.IsWhole) (arg4 : Memref sig .tc .vmem S2x256x256 .bf16) (harg4 : arg4.IsWhole) (arg5 : Memref sig .tc .vmem S1x8x256 .f32) (harg5 : arg5.IsWhole) (arg6 : Memref sig .tc .vmem S2x1024x256 .f32) (harg6 : arg6.IsWhole)
    (x0 : Vec F S2x1024x256 .bf16) (x1 : Vec F S2x256x256 .bf16) (x2 : Vec F S2x256x256 .bf16) (x3 : Vec F S2x256x256 .bf16) (x4 : Vec F S1x8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_s5_scan i arg1 harg1 arg2 harg2 arg3 harg3 arg4 harg4 arg5 harg5 arg6 harg6) K := by
  simp only [cc0_s5_scan_eq_skeleton]; unfold cc0_s5_scan_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover0_5 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s conclusion is this one up to unfolding the plain definitions above
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.S5RefHost.lean ====
/- What each host operation before the reference's loop leaves, in terms of what its operands hold there. -/
module

public import proofs.«01_k».proof.Proof.Gen.ReferenceIdeal.Run
public import proofs.«01_k».proof.Proof.HostLine
public import Idealize.ShloMosaic.Lib.Pipeline.ValueKit
public import Idealize.ShloMosaic.Lib.Pointwise

@[expose] public section

set_option maxRecDepth 65536

noncomputable section

namespace Cert.ReferenceIdeal.Host

open Cert.ReferenceIdeal Cert.ReferenceIdeal.Gen Cert.ReferenceIdeal.Value Idealize.ShloMosaic Idealize.ShloMosaic.TcCoe

variable (m : (ℓ : Loc nD τ sig) → Buf (Elt Ideal) ℓ)

/-- What an array holds when the loop starts. -/
abbrev E (c : Dev nD) (r : Ref sig .tc) : r.ty.Contents (Elt Ideal) := StableHlo.after hostOps0 (fun b => m (c, b)) (Proc.devRef .tc r)

/-- The host operations write one fresh array each, in the order of the arrays' numbers. -/
theorem rising : HostLine.Rising 8 (hostOps0 : List (HloOp τ sig (Elt Ideal))) := by
  repeat (first | exact HostLine.rising_nil _ | refine HostLine.rising_cons _ rfl rfl ?_)

theorem e_arg0 (c : Dev nD) : E m c main_arg0 = m (c, Proc.devRef .tc main_arg0) :=
  HostLine.keep rising _ (by decide)

theorem e_arg1 (c : Dev nD) : E m c main_arg1 = m (c, Proc.devRef .tc main_arg1) :=
  HostLine.keep rising _ (by decide)

theorem e_arg2 (c : Dev nD) : E m c main_arg2 = m (c, Proc.devRef .tc main_arg2) :=
  HostLine.keep rising _ (by decide)

theorem e_arg3 (c : Dev nD) : E m c main_arg3 = m (c, Proc.devRef .tc main_arg3) :=
  HostLine.keep rising _ (by decide)

theorem e_arg4 (c : Dev nD) : E m c main_arg4 = m (c, Proc.devRef .tc main_arg4) :=
  HostLine.keep rising _ (by decide)

theorem e_arg5 (c : Dev nD) : E m c main_arg5 = m (c, Proc.devRef .tc main_arg5) :=
  HostLine.keep rising _ (by decide)

theorem e_arg6 (c : Dev nD) : E m c main_arg6 = m (c, Proc.devRef .tc main_arg6) :=
  HostLine.keep rising _ (by decide)

theorem e_arg7 (c : Dev nD) : E m c main_arg7 = m (c, Proc.devRef .tc main_arg7) :=
  HostLine.keep rising _ (by decide)

theorem e_v0 (c : Dev nD) : E m c main_v0 = (Host.exp : FVec Ideal S64 .f32 → FVec Ideal S64 .f32) (E m c main_arg3) :=
  HostLine.at_unary rising _ 0 rfl rfl (by decide)

theorem e_v1 (c : Dev nD) : E m c main_v1 = (broadcastInDim S64x1 ![0] bcast_S64_S64x1_0 : FVec Ideal S64 .f32 → FVec Ideal S64x1 .f32) (E m c main_v0) :=
  HostLine.at_unary rising _ 1 rfl rfl (by decide)

theorem e_v2 (c : Dev nD) : E m c main_v2 = (broadcastInDim S64x64 ![0, 1] bcast_S64x1_S64x64_0_1 : FVec Ideal S64x1 .f32 → FVec Ideal S64x64 .f32) (E m c main_v1) :=
  HostLine.at_unary rising _ 2 rfl rfl (by decide)

theorem e_v3 (c : Dev nD) : E m c main_v3 = (mulf : FVec Ideal S64x64 .f32 → FVec Ideal S64x64 .f32 → FVec Ideal S64x64 .f32) (E m c main_arg1) (E m c main_v2) :=
  HostLine.at_binary rising _ 3 rfl rfl (by decide) (by decide)

theorem e_v4 (c : Dev nD) : E m c main_v4 = (Host.exp : FVec Ideal S64x64 .f32 → FVec Ideal S64x64 .f32) (E m c main_v3) :=
  HostLine.at_unary rising _ 4 rfl rfl (by decide)

theorem e_v5 (c : Dev nD) : E m c main_v5 = (broadcastInDim S64x64 ![0, 1] bcast_S64x1_S64x64_0_1 : FVec Ideal S64x1 .f32 → FVec Ideal S64x64 .f32) (E m c main_v1) :=
  HostLine.at_unary rising _ 5 rfl rfl (by decide)

theorem e_v6 (c : Dev nD) : E m c main_v6 = (mulf : FVec Ideal S64x64 .f32 → FVec Ideal S64x64 .f32 → FVec Ideal S64x64 .f32) (E m c main_arg2) (E m c main_v5) :=
  HostLine.at_binary rising _ 6 rfl rfl (by decide) (by decide)

theorem e_v7 (c : Dev nD) : E m c main_v7 = (Host.cos : FVec Ideal S64x64 .f32 → FVec Ideal S64x64 .f32) (E m c main_v6) :=
  HostLine.at_unary rising _ 7 rfl rfl (by decide)

theorem e_v8 (c : Dev nD) : E m c main_v8 = (mulf : FVec Ideal S64x64 .f32 → FVec Ideal S64x64 .f32 → FVec Ideal S64x64 .f32) (E m c main_v4) (E m c main_v7) :=
  HostLine.at_binary rising _ 8 rfl rfl (by decide) (by decide)

theorem e_v9 (c : Dev nD) : E m c main_v9 = (broadcastInDim S64x64 ![0, 1] bcast_S64x1_S64x64_0_1 : FVec Ideal S64x1 .f32 → FVec Ideal S64x64 .f32) (E m c main_v1) :=
  HostLine.at_unary rising _ 9 rfl rfl (by decide)

theorem e_v10 (c : Dev nD) : E m c main_v10 = (mulf : FVec Ideal S64x64 .f32 → FVec Ideal S64x64 .f32 → FVec Ideal S64x64 .f32) (E m c main_arg2) (E m c main_v9) :=
  HostLine.at_binary rising _ 10 rfl rfl (by decide) (by decide)

theorem e_v11 (c : Dev nD) : E m c main_v11 = (Host.sin : FVec Ideal S64x64 .f32 → FVec Ideal S64x64 .f32) (E m c main_v10) :=
  HostLine.at_unary rising _ 11 rfl rfl (by decide)

theorem e_v12 (c : Dev nD) : E m c main_v12 = (mulf : FVec Ideal S64x64 .f32 → FVec Ideal S64x64 .f32 → FVec Ideal S64x64 .f32) (E m c main_v4) (E m c main_v11) :=
  HostLine.at_binary rising _ 12 rfl rfl (by decide) (by decide)

theorem e_v13 (c : Dev nD) : E m c main_v13 = (mulf : FVec Ideal S64x64 .f32 → FVec Ideal S64x64 .f32 → FVec Ideal S64x64 .f32) (E m c main_arg1) (E m c main_arg1) :=
  HostLine.at_binary rising _ 13 rfl rfl (by decide) (by decide)

theorem e_v14 (c : Dev nD) : E m c main_v14 = (mulf : FVec Ideal S64x64 .f32 → FVec Ideal S64x64 .f32 → FVec Ideal S64x64 .f32) (E m c main_arg2) (E m c main_arg2) :=
  HostLine.at_binary rising _ 14 rfl rfl (by decide) (by decide)

theorem e_v15 (c : Dev nD) : E m c main_v15 = (addf : FVec Ideal S64x64 .f32 → FVec Ideal S64x64 .f32 → FVec Ideal S64x64 .f32) (E m c main_v13) (E m c main_v14) :=
  HostLine.at_binary rising _ 15 rfl rfl (by decide) (by decide)

theorem e_cst (c : Dev nD) : E m c main_cst = (constant (F := Ideal) S_ .f32 0x3F800000#32) :=
  HostLine.at_nullary rising _ 16 rfl rfl

theorem e_v16 (c : Dev nD) : E m c main_v16 = (broadcastInDim S64x64 ![] bcast_S_S64x64 : FVec Ideal S_ .f32 → FVec Ideal S64x64 .f32) (E m c main_cst) :=
  HostLine.at_unary rising _ 17 rfl rfl (by decide)

theorem e_v17 (c : Dev nD) : E m c main_v17 = (subf : FVec Ideal S64x64 .f32 → FVec Ideal S64x64 .f32 → FVec Ideal S64x64 .f32) (E m c main_v8) (E m c main_v16) :=
  HostLine.at_binary rising _ 18 rfl rfl (by decide) (by decide)

theorem e_v18 (c : Dev nD) : E m c main_v18 = (mulf : FVec Ideal S64x64 .f32 → FVec Ideal S64x64 .f32 → FVec Ideal S64x64 .f32) (E m c main_v17) (E m c main_arg1) :=
  HostLine.at_binary rising _ 19 rfl rfl (by decide) (by decide)

theorem e_v19 (c : Dev nD) : E m c main_v19 = (mulf : FVec Ideal S64x64 .f32 → FVec Ideal S64x64 .f32 → FVec Ideal S64x64 .f32) (E m c main_v12) (E m c main_arg2) :=
  HostLine.at_binary rising _ 20 rfl rfl (by decide) (by decide)

theorem e_v20 (c : Dev nD) : E m c main_v20 = (addf : FVec Ideal S64x64 .f32 → FVec Ideal S64x64 .f32 → FVec Ideal S64x64 .f32) (E m c main_v18) (E m c main_v19) :=
  HostLine.at_binary rising _ 21 rfl rfl (by decide) (by decide)

theorem e_v21 (c : Dev nD) : E m c main_v21 = (Host.divf : FVec Ideal S64x64 .f32 → FVec Ideal S64x64 .f32 → FVec Ideal S64x64 .f32) (E m c main_v20) (E m c main_v15) :=
  HostLine.at_binary rising _ 22 rfl rfl (by decide) (by decide)

theorem e_v22 (c : Dev nD) : E m c main_v22 = (mulf : FVec Ideal S64x64 .f32 → FVec Ideal S64x64 .f32 → FVec Ideal S64x64 .f32) (E m c main_v12) (E m c main_arg1) :=
  HostLine.at_binary rising _ 23 rfl rfl (by decide) (by decide)

theorem e_v23 (c : Dev nD) : E m c main_v23 = (mulf : FVec Ideal S64x64 .f32 → FVec Ideal S64x64 .f32 → FVec Ideal S64x64 .f32) (E m c main_v17) (E m c main_arg2) :=
  HostLine.at_binary rising _ 24 rfl rfl (by decide) (by decide)

theorem e_v24 (c : Dev nD) : E m c main_v24 = (subf : FVec Ideal S64x64 .f32 → FVec Ideal S64x64 .f32 → FVec Ideal S64x64 .f32) (E m c main_v22) (E m c main_v23) :=
  HostLine.at_binary rising _ 25 rfl rfl (by decide) (by decide)

theorem e_v25 (c : Dev nD) : E m c main_v25 = (Host.divf : FVec Ideal S64x64 .f32 → FVec Ideal S64x64 .f32 → FVec Ideal S64x64 .f32) (E m c main_v24) (E m c main_v15) :=
  HostLine.at_binary rising _ 26 rfl rfl (by decide) (by decide)

theorem e_v26 (c : Dev nD) : E m c main_v26 = (broadcastInDim S64x64x1 ![0, 1] bcast_S64x64_S64x64x1_0_1 : FVec Ideal S64x64 .f32 → FVec Ideal S64x64x1 .f32) (E m c main_v21) :=
  HostLine.at_unary rising _ 27 rfl rfl (by decide)

theorem e_v27 (c : Dev nD) : E m c main_v27 = (broadcastInDim S64x64x16 ![0, 1, 2] bcast_S64x64x1_S64x64x16_0_1_2 : FVec Ideal S64x64x1 .f32 → FVec Ideal S64x64x16 .f32) (E m c main_v26) :=
  HostLine.at_unary rising _ 28 rfl rfl (by decide)

theorem e_v28 (c : Dev nD) : E m c main_v28 = (mulf : FVec Ideal S64x64x16 .f32 → FVec Ideal S64x64x16 .f32 → FVec Ideal S64x64x16 .f32) (E m c main_v27) (E m c main_arg4) :=
  HostLine.at_binary rising _ 29 rfl rfl (by decide) (by decide)

theorem e_v29 (c : Dev nD) : E m c main_v29 = (broadcastInDim S64x64x1 ![0, 1] bcast_S64x64_S64x64x1_0_1 : FVec Ideal S64x64 .f32 → FVec Ideal S64x64x1 .f32) (E m c main_v25) :=
  HostLine.at_unary rising _ 30 rfl rfl (by decide)

theorem e_v30 (c : Dev nD) : E m c main_v30 = (broadcastInDim S64x64x16 ![0, 1, 2] bcast_S64x64x1_S64x64x16_0_1_2 : FVec Ideal S64x64x1 .f32 → FVec Ideal S64x64x16 .f32) (E m c main_v29) :=
  HostLine.at_unary rising _ 31 rfl rfl (by decide)

theorem e_v31 (c : Dev nD) : E m c main_v31 = (mulf : FVec Ideal S64x64x16 .f32 → FVec Ideal S64x64x16 .f32 → FVec Ideal S64x64x16 .f32) (E m c main_v30) (E m c main_arg5) :=
  HostLine.at_binary rising _ 32 rfl rfl (by decide) (by decide)

theorem e_v32 (c : Dev nD) : E m c main_v32 = (subf : FVec Ideal S64x64x16 .f32 → FVec Ideal S64x64x16 .f32 → FVec Ideal S64x64x16 .f32) (E m c main_v28) (E m c main_v31) :=
  HostLine.at_binary rising _ 33 rfl rfl (by decide) (by decide)

theorem e_v33 (c : Dev nD) : E m c main_v33 = (broadcastInDim S64x64x1 ![0, 1] bcast_S64x64_S64x64x1_0_1 : FVec Ideal S64x64 .f32 → FVec Ideal S64x64x1 .f32) (E m c main_v21) :=
  HostLine.at_unary rising _ 34 rfl rfl (by decide)

theorem e_v34 (c : Dev nD) : E m c main_v34 = (broadcastInDim S64x64x16 ![0, 1, 2] bcast_S64x64x1_S64x64x16_0_1_2 : FVec Ideal S64x64x1 .f32 → FVec Ideal S64x64x16 .f32) (E m c main_v33) :=
  HostLine.at_unary rising _ 35 rfl rfl (by decide)

theorem e_v35 (c : Dev nD) : E m c main_v35 = (mulf : FVec Ideal S64x64x16 .f32 → FVec Ideal S64x64x16 .f32 → FVec Ideal S64x64x16 .f32) (E m c main_v34) (E m c main_arg5) :=
  HostLine.at_binary rising _ 36 rfl rfl (by decide) (by decide)

theorem e_v36 (c : Dev nD) : E m c main_v36 = (broadcastInDim S64x64x1 ![0, 1] bcast_S64x64_S64x64x1_0_1 : FVec Ideal S64x64 .f32 → FVec Ideal S64x64x1 .f32) (E m c main_v25) :=
  HostLine.at_unary rising _ 37 rfl rfl (by decide)

theorem e_v37 (c : Dev nD) : E m c main_v37 = (broadcastInDim S64x64x16 ![0, 1, 2] bcast_S64x64x1_S64x64x16_0_1_2 : FVec Ideal S64x64x1 .f32 → FVec Ideal S64x64x16 .f32) (E m c main_v36) :=
  HostLine.at_unary rising _ 38 rfl rfl (by decide)

theorem e_v38 (c : Dev nD) : E m c main_v38 = (mulf : FVec Ideal S64x64x16 .f32 → FVec Ideal S64x64x16 .f32 → FVec Ideal S64x64x16 .f32) (E m c main_v37) (E m c main_arg4) :=
  HostLine.at_binary rising _ 39 rfl rfl (by decide) (by decide)

theorem e_v39 (c : Dev nD) : E m c main_v39 = (addf : FVec Ideal S64x64x16 .f32 → FVec Ideal S64x64x16 .f32 → FVec Ideal S64x64x16 .f32) (E m c main_v35) (E m c main_v38) :=
  HostLine.at_binary rising _ 40 rfl rfl (by decide) (by decide)

theorem e_v40 (c : Dev nD) : E m c main_v40 = ((extf .f32 · bitsLt_bf16_f32) : FVec Ideal S16384x1024 .bf16 → FVec Ideal S16384x1024 .f32) (E m c main_arg0) :=
  HostLine.at_unary rising _ 41 rfl rfl (by decide)

theorem e_v41 (c : Dev nD) : E m c main_v41 = shapeCast S4x4096x64x16 (E m c main_v40) shapeCasts_S16384x1024_S4x4096x64x16 := by
  have h := HostLine.at_reshape rising (fun b => m (c, b)) 42 (x := main_v40) (y := main_v41) rfl rfl (by decide)
  exact h

theorem e_v42 (c : Dev nD) : E m c main_v42 = ((transpose S4096x4x64x16 [1, 0, 2, 3] · transposes_S4x4096x64x16_S4096x4x64x16_1_0_2_3) : FVec Ideal S4x4096x64x16 .f32 → FVec Ideal S4096x4x64x16 .f32) (E m c main_v41) :=
  HostLine.at_unary rising _ 43 rfl rfl (by decide)

theorem e_v43 (c : Dev nD) : E m c main_v43 = ((fun l r => Host.dotGeneral dot_S64x64x16_S4096x4x64x16_S64x64x4096x4_2_3_1_01_0_2 none l r) : FVec Ideal S64x64x16 .f32 → FVec Ideal S4096x4x64x16 .f32 → FVec Ideal S64x64x4096x4 .f32) (E m c main_v32) (E m c main_v42) :=
  HostLine.at_binary rising _ 44 rfl rfl (by decide) (by decide)

theorem e_v44 (c : Dev nD) : E m c main_v44 = ((transpose S4096x4x64x64 [2, 3, 0, 1] · transposes_S64x64x4096x4_S4096x4x64x64_2_3_0_1) : FVec Ideal S64x64x4096x4 .f32 → FVec Ideal S4096x4x64x64 .f32) (E m c main_v43) :=
  HostLine.at_unary rising _ 45 rfl rfl (by decide)

theorem e_v45 (c : Dev nD) : E m c main_v45 = ((fun l r => Host.dotGeneral dot_S64x64x16_S4096x4x64x16_S64x64x4096x4_2_3_1_01_0_2 none l r) : FVec Ideal S64x64x16 .f32 → FVec Ideal S4096x4x64x16 .f32 → FVec Ideal S64x64x4096x4 .f32) (E m c main_v39) (E m c main_v42) :=
  HostLine.at_binary rising _ 46 rfl rfl (by decide) (by decide)

theorem e_v46 (c : Dev nD) : E m c main_v46 = ((transpose S4096x4x64x64 [2, 3, 0, 1] · transposes_S64x64x4096x4_S4096x4x64x64_2_3_0_1) : FVec Ideal S64x64x4096x4 .f32 → FVec Ideal S4096x4x64x64 .f32) (E m c main_v45) :=
  HostLine.at_unary rising _ 47 rfl rfl (by decide)

theorem e_cst_0 (c : Dev nD) : E m c main_cst_0 = (constant (F := Ideal) S_ .f32 0x00000000#32) :=
  HostLine.at_nullary rising _ 48 rfl rfl

theorem e_v47 (c : Dev nD) : E m c main_v47 = (broadcastInDim S4x64x64 ![] bcast_S_S4x64x64 : FVec Ideal S_ .f32 → FVec Ideal S4x64x64 .f32) (E m c main_cst_0) :=
  HostLine.at_unary rising _ 49 rfl rfl (by decide)

theorem e_cst_1 (c : Dev nD) : E m c main_cst_1 = (constant (F := Ideal) S_ .f32 0x00000000#32) :=
  HostLine.at_nullary rising _ 50 rfl rfl

theorem e_v48 (c : Dev nD) : E m c main_v48 = (broadcastInDim S4096x4x64x64 ![] bcast_S_S4096x4x64x64 : FVec Ideal S_ .f32 → FVec Ideal S4096x4x64x64 .f32) (E m c main_cst_1) :=
  HostLine.at_unary rising _ 51 rfl rfl (by decide)

theorem e_cst_2 (c : Dev nD) : E m c main_cst_2 = (constant (F := Ideal) S_ .f32 0x00000000#32) :=
  HostLine.at_nullary rising _ 52 rfl rfl

theorem e_v49 (c : Dev nD) : E m c main_v49 = (broadcastInDim S4096x4x64x64 ![] bcast_S_S4096x4x64x64 : FVec Ideal S_ .f32 → FVec Ideal S4096x4x64x64 .f32) (E m c main_cst_2) :=
  HostLine.at_unary rising _ 53 rfl rfl (by decide)

theorem e_c (c : Dev nD) : E m c main_c = (constantI S_ 32 0#32) :=
  HostLine.at_nullary rising _ 54 rfl rfl

theorem e_v50_0 (c : Dev nD) : E m c main_v50_0 = (id : FVec Ideal S4096x4x64x64 .f32 → FVec Ideal S4096x4x64x64 .f32) (E m c main_v44) :=
  HostLine.at_unary rising _ 55 rfl rfl (by decide)

theorem e_v50_1 (c : Dev nD) : E m c main_v50_1 = (id : FVec Ideal S4096x4x64x64 .f32 → FVec Ideal S4096x4x64x64 .f32) (E m c main_v46) :=
  HostLine.at_unary rising _ 56 rfl rfl (by decide)

theorem e_v50_2 (c : Dev nD) : E m c main_v50_2 = (id : FVec Ideal S64x64 .f32 → FVec Ideal S64x64 .f32) (E m c main_v8) :=
  HostLine.at_unary rising _ 57 rfl rfl (by decide)

theorem e_v50_3 (c : Dev nD) : E m c main_v50_3 = (id : FVec Ideal S64x64 .f32 → FVec Ideal S64x64 .f32) (E m c main_v12) :=
  HostLine.at_unary rising _ 58 rfl rfl (by decide)

theorem e_v50_4 (c : Dev nD) : E m c main_v50_4 = (id : IVec S_ 32 → IVec S_ 32) (E m c main_c) :=
  HostLine.at_unary rising _ 59 rfl rfl (by decide)

theorem e_v50_5 (c : Dev nD) : E m c main_v50_5 = (id : FVec Ideal S4x64x64 .f32 → FVec Ideal S4x64x64 .f32) (E m c main_v47) :=
  HostLine.at_unary rising _ 60 rfl rfl (by decide)

theorem e_v50_6 (c : Dev nD) : E m c main_v50_6 = (id : FVec Ideal S4x64x64 .f32 → FVec Ideal S4x64x64 .f32) (E m c main_v47) :=
  HostLine.at_unary rising _ 61 rfl rfl (by decide)

theorem e_v50_7 (c : Dev nD) : E m c main_v50_7 = (id : FVec Ideal S4096x4x64x64 .f32 → FVec Ideal S4096x4x64x64 .f32) (E m c main_v48) :=
  HostLine.at_unary rising _ 62 rfl rfl (by decide)

theorem e_v50_8 (c : Dev nD) : E m c main_v50_8 = (id : FVec Ideal S4096x4x64x64 .f32 → FVec Ideal S4096x4x64x64 .f32) (E m c main_v49) :=
  HostLine.at_unary rising _ 63 rfl rfl (by decide)

end Cert.ReferenceIdeal.Host

end
-- ==== Proof.S5Idx.lean ====
/- Reading an array at two spellings of one index. -/
module

public import Idealize.ShloMosaic.Lib.Pipeline.ValueKit
public import Idealize.ShloMosaic.Lib.Pointwise

@[expose] public section

set_option maxRecDepth 16384

noncomputable section

namespace Cert.S5Idx

open Idealize.ShloMosaic Idealize.ShloMosaic.TcCoe Idealize.SL.Sem

variable {α : Type}

/-- Two indices with equal coordinates read the same entry. -/
theorem at2 {a b : ℕ} (A : (⟨2, ![a, b]⟩ : Shape).Idx → α) {i i' : Fin a} {j j' : Fin b} (hi : i.val = i'.val) (hj : j.val = j'.val) :
    A (ix2 i j) = A (ix2 i' j') := by rw [Fin.ext hi, Fin.ext hj]

/-- Likewise with three coordinates. -/
theorem at3 {a b c : ℕ} (A : (⟨3, ![a, b, c]⟩ : Shape).Idx → α) {i i' : Fin a} {j j' : Fin b} {k k' : Fin c} (hi : i.val = i'.val) (hj : j.val = j'.val)
    (hk : k.val = k'.val) : A (ix3 i j k) = A (ix3 i' j' k') := by rw [Fin.ext hi, Fin.ext hj, Fin.ext hk]

/-- Likewise with four. -/
theorem at4 {a b c d : ℕ} (A : (⟨4, ![a, b, c, d]⟩ : Shape).Idx → α) {i i' : Fin a} {j j' : Fin b} {k k' : Fin c} {l l' : Fin d} (hi : i.val = i'.val)
    (hj : j.val = j'.val) (hk : k.val = k'.val) (hl : l.val = l'.val) : A (ix4 i j k l) = A (ix4 i' j' k' l') := by
  rw [Fin.ext hi, Fin.ext hj, Fin.ext hk, Fin.ext hl]

end Cert.S5Idx

end
-- ==== Proof.S5RefOps.lean ====
/- The operations of the reference's loop and of what surrounds it, entry by entry. -/
module

public import proofs.«01_k».proof.Proof.Gen.ReferenceIdeal
public import Idealize.ShloMosaic.Lib.Pipeline.ValueKit
public import Idealize.ShloMosaic.Lib.Pointwise
public import Idealize.ShloMosaic.Lib.DynamicIndex
public import Idealize.ShloMosaic.Lib.WordCmp
public import proofs.«01_k».proof.Proof.S5Idx

@[expose] public section

set_option maxRecDepth 16384
set_option maxHeartbeats 400000

noncomputable section

namespace Cert.ReferenceIdeal.Host

open Cert.S5Idx Cert.ReferenceIdeal Cert.ReferenceIdeal.Gen Idealize.ShloMosaic Idealize.ShloMosaic.TcCoe Idealize.SL.Sem

/-- What drives the recurrence at a time: the input matrix on the channels. -/
theorem x_at (B : FVec Ideal S64x64x16 .f32) (A : FVec Ideal S16384x1024 .bf16) (n : Fin 4096) (b : Fin 4) (g p : Fin 64) :
    transpose S4096x4x64x64 [2, 3, 0, 1] (Host.dotGeneral dot_S64x64x16_S4096x4x64x16_S64x64x4096x4_2_3_1_01_0_2 none B
      (transpose S4096x4x64x16 [1, 0, 2, 3] (shapeCast S4x4096x64x16 (extf .f32 A bitsLt_bf16_f32) shapeCasts_S16384x1024_S4x4096x64x16) transposes_S4x4096x64x16_S4096x4x64x16_1_0_2_3) : FVec Ideal S64x64x4096x4 .f32)
      transposes_S64x64x4096x4_S4096x4x64x64_2_3_0_1 (ix4 n b g p)
     = ∑ d : Fin 16, B (ix3 g p d) * A (ix2 ⟨4096 * b.val + n.val, by omega⟩ ⟨16 * g.val + d.val, by omega⟩) := by
  have h1 : ∀ (n : Fin 4096) (b : Fin 4) (g : Fin 64) (d : Fin 16),
      transpose S4096x4x64x16 [1, 0, 2, 3] (shapeCast S4x4096x64x16 (extf .f32 A bitsLt_bf16_f32) shapeCasts_S16384x1024_S4x4096x64x16) transposes_S4x4096x64x16_S4096x4x64x16_1_0_2_3 (ix4 n b g d)
       = A (ix2 ⟨4096 * b.val + n.val, by omega⟩ ⟨16 * g.val + d.val, by omega⟩) := by
    intro n b g d
    pointwise []
    exact at2 _ (by first | rfl | omega | (dsimp only; omega)) (by first | rfl | omega | (dsimp only; omega))
  generalize transpose S4096x4x64x16 [1, 0, 2, 3] (shapeCast S4x4096x64x16 (extf .f32 A bitsLt_bf16_f32) shapeCasts_S16384x1024_S4x4096x64x16) transposes_S4x4096x64x16_S4096x4x64x16_1_0_2_3 = X at h1
  rw [Finset.sum_congr rfl fun d _ => congrArg (B (ix3 g p d) * ·) (h1 n b g d).symm]
  pointwise []

/-- The answer read out of the stored states. -/
theorem y_at (C D : FVec Ideal S64x16x64 .f32) (H K : FVec Ideal S4096x4x64x64 .f32) (g : Fin 64) (r : Fin 1024) (j : Fin 256) :
    shapeCast S64x1024x256 (transpose S64x4x4096x16 [2, 1, 0, 3] (subf (transpose S4096x4x64x16 [2, 3, 0, 1] (Host.dotGeneral dot_S64x16x64_S4096x4x64x64_S64x16x4096x4_2_3_1_01_0_2 none C H) transposes_S64x16x4096x4_S4096x4x64x16_2_3_0_1)
      (transpose S4096x4x64x16 [2, 3, 0, 1] (Host.dotGeneral dot_S64x16x64_S4096x4x64x64_S64x16x4096x4_2_3_1_01_0_2 none D K : FVec Ideal S64x16x4096x4 .f32) transposes_S64x16x4096x4_S4096x4x64x16_2_3_0_1)) transposes_S4096x4x64x16_S64x4x4096x16_2_1_0_3)
      shapeCasts_S64x4x4096x16_S64x1024x256 (ix3 g r j)
     = (∑ p : Fin 64, C (ix3 g ⟨j.val % 16, by omega⟩ p) * H (ix4 ⟨16 * (r.val % 256) + j.val / 16, by omega⟩ ⟨r.val / 256, by omega⟩ g p))
        - ∑ p : Fin 64, D (ix3 g ⟨j.val % 16, by omega⟩ p) * K (ix4 ⟨16 * (r.val % 256) + j.val / 16, by omega⟩ ⟨r.val / 256, by omega⟩ g p) := by
  have h1 : ∀ (C : FVec Ideal S64x16x64 .f32) (H : FVec Ideal S4096x4x64x64 .f32) (n : Fin 4096) (b : Fin 4) (g : Fin 64) (c : Fin 16),
      transpose S4096x4x64x16 [2, 3, 0, 1] (Host.dotGeneral dot_S64x16x64_S4096x4x64x64_S64x16x4096x4_2_3_1_01_0_2 none C H : FVec Ideal S64x16x4096x4 .f32) transposes_S64x16x4096x4_S4096x4x64x16_2_3_0_1 (ix4 n b g c)
       = ∑ p : Fin 64, C (ix3 g c p) * H (ix4 n b g p) := by
    intro C H n b g c
    pointwise []
  rw [← h1, ← h1]
  generalize transpose S4096x4x64x16 [2, 3, 0, 1] (Host.dotGeneral dot_S64x16x64_S4096x4x64x64_S64x16x4096x4_2_3_1_01_0_2 none C H : FVec Ideal S64x16x4096x4 .f32) transposes_S64x16x4096x4_S4096x4x64x16_2_3_0_1 = X
  generalize transpose S4096x4x64x16 [2, 3, 0, 1] (Host.dotGeneral dot_S64x16x64_S4096x4x64x64_S64x16x4096x4_2_3_1_01_0_2 none D K : FVec Ideal S64x16x4096x4 .f32) transposes_S64x16x4096x4_S4096x4x64x16_2_3_0_1 = Y
  pointwise []
  exact congrArg₂ (fun a b : EReal => a - b) (at4 _ (by first | rfl | omega | (dsimp only; omega)) (by first | rfl | omega | (dsimp only; omega)) (by first | rfl | omega | (dsimp only; omega)) (by first | rfl | omega | (dsimp only; omega)))
    (at4 _ (by first | rfl | omega | (dsimp only; omega)) (by first | rfl | omega | (dsimp only; omega)) (by first | rfl | omega | (dsimp only; omega)) (by first | rfl | omega | (dsimp only; omega)))

/-- Where a slice at the counter starts. -/
theorem start_at (n : ℕ) (hn : n < 4096) (I : IVec S_ 32) (hI : ∀ y, I y = BitVec.ofNat 32 n) (a : Fin 4) :
    ((![I, constantI S_ 32 0#32, constantI S_ 32 0#32, constantI S_ 32 0#32] : Fin 4 → (⟨S_, .i32⟩ : BufTy).Contents (Elt Ideal)) a (Shape.Idx.first h_S_)).toInt = ((![n, 0, 0, 0] : Fin 4 → ℕ) a : Int) := by
  match a with
  | ⟨0, _⟩ =>
    show (I (Shape.Idx.first h_S_)).toInt = (n : Int)
    rw [hI]
    exact toInt_ofNat_of_lt (by omega)
  | ⟨1, _⟩ => rfl
  | ⟨2, _⟩ => rfl
  | ⟨3, _⟩ => rfl

/-- A slice of one time fits. -/
theorem fits (n : ℕ) (hn : n < 4096) : S4096x4x64x64.Slices (![n, 0, 0, 0] : Fin 4 → ℕ) S1x4x64x64 := by
  refine ⟨rfl, fun a => ?_⟩
  match a with
  | ⟨0, _⟩ => show n + 1 ≤ 4096; omega
  | ⟨1, _⟩ => show 0 + 4 ≤ 4; omega
  | ⟨2, _⟩ => show 0 + 64 ≤ 64; omega
  | ⟨3, _⟩ => show 0 + 64 ≤ 64; omega

/-- One time's row of the inputs. -/
theorem read_at (X : FVec Ideal S4096x4x64x64 .f32) (n : ℕ) (hn : n < 4096) (I : IVec S_ 32) (hI : ∀ y, I y = BitVec.ofNat 32 n) (b : Fin 4) (g p : Fin 64) :
    shapeCast S4x64x64 (Host.dynamicSlice S1x4x64x64 X (fun k => (((![I, constantI S_ 32 0#32, constantI S_ 32 0#32, constantI S_ 32 0#32] : Fin 4 → (⟨S_, .i32⟩ : BufTy).Contents (Elt Ideal))) k (Shape.Idx.first h_S_)).toInt) sliceFits_S4096x4x64x64_S1x4x64x64) shapeCasts_S1x4x64x64_S4x64x64 (ix3 b g p)
     = X (ix4 ⟨n, hn⟩ b g p) := by
  rw [Host.dynamicSlice_eq_extractStridedSlice S1x4x64x64 X _ (![n, 0, 0, 0] : Fin 4 → ℕ) _ (fits n hn) (start_at n hn I hI)]
  pointwise []

/-- One time's row of the states written. -/
theorem write_at (X : FVec Ideal S4096x4x64x64 .f32) (U : FVec Ideal S4x64x64 .f32) (n : ℕ) (hn : n < 4096) (I : IVec S_ 32) (hI : ∀ y, I y = BitVec.ofNat 32 n) (k : Fin 4096) (b : Fin 4) (g p : Fin 64) :
    Host.dynamicUpdateSlice X (broadcastInDim S1x4x64x64 ![1, 2, 3] bcast_S4x64x64_S1x4x64x64_1_2_3 U) (fun k => (((![I, constantI S_ 32 0#32, constantI S_ 32 0#32, constantI S_ 32 0#32] : Fin 4 → (⟨S_, .i32⟩ : BufTy).Contents (Elt Ideal))) k (Shape.Idx.first h_S_)).toInt) updateFits_S4096x4x64x64_S1x4x64x64 (ix4 k b g p)
     = if k.val = n then U (ix3 b g p) else X (ix4 k b g p) := by
  have hc : ∀ a : Fin 4, Host.clampedStart S4096x4x64x64 S1x4x64x64 rfl (fun k => (((![I, constantI S_ 32 0#32, constantI S_ 32 0#32, constantI S_ 32 0#32] : Fin 4 → (⟨S_, .i32⟩ : BufTy).Contents (Elt Ideal))) k (Shape.Idx.first h_S_)).toInt) a = (![n, 0, 0, 0] : Fin 4 → ℕ) a :=
    fun a => Host.clampedStart_of_le (s := S4096x4x64x64) (t := S1x4x64x64) rfl _ a _ (start_at n hn I hI a) ((fits n hn).2 a)
  rw [Host.dynamicUpdateSlice_apply]
  by_cases hk : k.val = n
  · rw [if_pos hk, dif_pos]
    · refine Eq.trans (congrArg (broadcastInDim S1x4x64x64 ![1, 2, 3] bcast_S4x64x64_S1x4x64x64_1_2_3 U) (?_ : _ = ix4 0 b g p)) (by pointwise [])
      funext a
      match a with
      | ⟨0, _⟩ => exact Fin.ext ((congrArg (k.val - ·) (hc 0)).trans (show k.val - n = 0 by omega))
      | ⟨1, _⟩ => exact Fin.ext ((congrArg (b.val - ·) (hc 1)).trans (show b.val - 0 = b.val by omega))
      | ⟨2, _⟩ => exact Fin.ext ((congrArg (g.val - ·) (hc 2)).trans (show g.val - 0 = g.val by omega))
      | ⟨3, _⟩ => exact Fin.ext ((congrArg (p.val - ·) (hc 3)).trans (show p.val - 0 = p.val by omega))
    · intro a
      rw [hc a]
      match a with
      | ⟨0, _⟩ => show n ≤ k.val ∧ k.val < n + 1; omega
      | ⟨1, _⟩ => show 0 ≤ b.val ∧ b.val < 0 + 4; omega
      | ⟨2, _⟩ => show 0 ≤ g.val ∧ g.val < 0 + 64; omega
      | ⟨3, _⟩ => show 0 ≤ p.val ∧ p.val < 0 + 64; omega
  · rw [if_neg hk, dif_neg]
    intro h
    have h0 := h 0
    rw [hc 0] at h0
    have h1 : n ≤ k.val ∧ k.val < n + 1 := h0
    omega

/-- The next state, real part. -/
theorem re_at (L M : FVec Ideal S64x64 .f32) (H K : FVec Ideal S4x64x64 .f32) (Y : FVec Ideal S4x64x64 .f32) (b : Fin 4) (g p : Fin 64) :
    addf (subf (mulf (broadcastInDim S4x64x64 ![0, 1, 2] bcast_S1x64x64_S4x64x64_0_1_2 (broadcastInDim S1x64x64 ![1, 2] bcast_S64x64_S1x64x64_1_2 L)) H)
      (mulf (broadcastInDim S4x64x64 ![0, 1, 2] bcast_S1x64x64_S4x64x64_0_1_2 (broadcastInDim S1x64x64 ![1, 2] bcast_S64x64_S1x64x64_1_2 M)) K)) Y (ix3 b g p)
     = L (ix2 g p) * H (ix3 b g p) - M (ix2 g p) * K (ix3 b g p) + Y (ix3 b g p) := by
  pointwise []

/-- The next state, imaginary part. -/
theorem im_at (L M : FVec Ideal S64x64 .f32) (H K : FVec Ideal S4x64x64 .f32) (Y : FVec Ideal S4x64x64 .f32) (b : Fin 4) (g p : Fin 64) :
    addf (addf (mulf (broadcastInDim S4x64x64 ![0, 1, 2] bcast_S1x64x64_S4x64x64_0_1_2 (broadcastInDim S1x64x64 ![1, 2] bcast_S64x64_S1x64x64_1_2 L)) H)
      (mulf (broadcastInDim S4x64x64 ![0, 1, 2] bcast_S1x64x64_S4x64x64_0_1_2 (broadcastInDim S1x64x64 ![1, 2] bcast_S64x64_S1x64x64_1_2 M)) K)) Y (ix3 b g p)
     = L (ix2 g p) * H (ix3 b g p) + M (ix2 g p) * K (ix3 b g p) + Y (ix3 b g p) := by
  pointwise []

end Cert.ReferenceIdeal.Host

end
-- ==== Proof.ScanMath.lean ====
/- The mathematics of the recurrence `h (n + 1) = λ h n + x n` over the complex numbers, cut into chunks of sixteen steps:
   what a chunk adds to the state, the states at the chunks' ends by doubling, and a step inside a chunk. -/
module

public import Mathlib.Analysis.Complex.Basic
public import Mathlib.Algebra.BigOperators.Intervals

@[expose] public section

noncomputable section

namespace Cert.ScanMath

open Finset

/-- The state before step `n`. -/
def hst (lam : ℂ) (x : ℕ → ℂ) : ℕ → ℂ
  | 0 => 0
  | n + 1 => lam * hst lam x n + x n

/-- A state depends only on the drive before it. -/
theorem hst_congr (lam : ℂ) {x x' : ℕ → ℂ} (n : ℕ) (h : ∀ k, k < n → x k = x' k) : hst lam x n = hst lam x' n := by
  induction n with
  | zero => rfl
  | succ n ih => rw [hst, hst, ih fun k hk => h k (by omega), h n (by omega)]

/-- `k` steps after step `n`. -/
theorem hst_add (lam : ℂ) (x : ℕ → ℂ) (n k : ℕ) :
    hst lam x (n + k) = lam ^ k * hst lam x n + ∑ a ∈ range k, lam ^ (k - 1 - a) * x (n + a) := by
  induction k with
  | zero => simp
  | succ k ih =>
    rw [← Nat.add_assoc, hst, ih, sum_range_succ, mul_add, mul_sum, pow_succ']
    have : ∀ a ∈ range k, lam * (lam ^ (k - 1 - a) * x (n + a)) = lam ^ (k + 1 - 1 - a) * x (n + a) := fun a ha => by
      have ha' := mem_range.mp ha
      rw [← mul_assoc, ← pow_succ', show k - 1 - a + 1 = k + 1 - 1 - a by omega]
    rw [sum_congr rfl this, show k + 1 - 1 - k = 0 by omega]
    ring

/-- What chunk `j`'s sixteen inputs add to the state at its end. -/
def chunk (lam : ℂ) (x : ℕ → ℂ) (j : ℕ) : ℂ := ∑ a ∈ range 16, lam ^ (15 - a) * x (16 * j + a)

/-- The last `n` chunks up to chunk `k`, decayed to chunk `k`'s end. -/
def win (L : ℂ) (S : ℕ → ℂ) (n k : ℕ) : ℂ := ∑ i ∈ range (min n (k + 1)), L ^ i * S (k - i)

/-- The window of length one. -/
theorem win_one (L : ℂ) (S : ℕ → ℂ) (k : ℕ) : win L S 1 k = S k := by
  rw [win, show min 1 (k + 1) = 1 by omega]; simp

/-- Twice the window: the window, and the window `n` chunks earlier decayed by `n` chunks. -/
theorem win_double (L : ℂ) (S : ℕ → ℂ) (n k : ℕ) :
    win L S (2 * n) k = win L S n k + L ^ n * (if n ≤ k then win L S n (k - n) else 0) := by
  by_cases h : n ≤ k
  · rw [if_pos h, win, win, win, show min (2 * n) (k + 1) = n + min n (k - n + 1) by omega,
      show min n (k + 1) = n by omega, sum_range_add, mul_sum]
    congr 1
    refine sum_congr rfl fun i _ => ?_
    rw [pow_add, show k - n - i = k - (n + i) by omega, mul_assoc]
  · rw [if_neg h, mul_zero, add_zero, win, win, show min (2 * n) (k + 1) = min n (k + 1) by omega]

/-- A window that reaches back to the first chunk is the state at the end of chunk `k`. -/
theorem win_full (lam : ℂ) (x : ℕ → ℂ) (n k : ℕ) (h : k < n) :
    win (lam ^ 16) (chunk lam x) n k = hst lam x (16 * (k + 1)) := by
  rw [win, show min n (k + 1) = k + 1 by omega]
  clear h
  induction k with
  | zero =>
    rw [show 16 * (0 + 1) = 0 + 16 by omega, hst_add]
    simp [hst, chunk]
  | succ k ih =>
    rw [show 16 * (k + 1 + 1) = 16 * (k + 1) + 16 by omega, hst_add, ← ih, sum_range_succ', mul_sum]
    congr 1
    · refine sum_congr rfl fun i _ => ?_
      rw [pow_succ', show k + 1 - (i + 1) = k - i by omega, mul_assoc]
    · simp [chunk]

/-- The state after step `a` of chunk `k`, from the state at the chunk's start and the chunk's inputs up to `a`. -/
theorem inside (lam : ℂ) (x : ℕ → ℂ) (k : ℕ) (a : ℕ) (ha : a < 16) :
    hst lam x (16 * k + a + 1)
      = lam ^ (a + 1) * hst lam x (16 * k) + ∑ e ∈ range 16, (if e ≤ a then lam ^ (a - e) else 0) * x (16 * k + e) := by
  rw [Nat.add_assoc, hst_add]
  congr 1
  have : range 16 = (range (a + 1)).disjUnion ((range 16).filter fun e => ¬ e < a + 1) (by
      rw [disjoint_left]; intro e he; simp at he ⊢; omega) := by
    ext e; simp; omega
  rw [this, sum_disjUnion, sum_eq_zero (s := filter _ _), add_zero]
  · refine sum_congr rfl fun e he => ?_
    have := mem_range.mp he
    rw [if_pos (by omega), show a + 1 - 1 - e = a - e by omega]
  · intro e he
    rw [if_neg (by simp at he; omega), zero_mul]

end Cert.ScanMath

end
-- ==== Proof.S5Real.lean ====
/- The arithmetic of the kernel's tables over complex numbers: sums over a table's columns are the terms of the recurrence. -/
module

public import Idealize.ShloMosaic.Lib.Pipeline.ValueKit
public import proofs.«01_k».proof.Proof.ScanMath

@[expose] public section

noncomputable section

namespace Cert.S5Real

open Cert.ScanMath Finset

variable (lam : ℕ → ℕ → ℂ) (B C : ℕ → ℕ → ℕ → ℂ) (uu : ℕ → ℕ → ℕ → ℝ)

/-- What drives state `p` of group `s` at time `n` of sequence `b`. -/
def xin (s p b n : ℕ) : ℂ := ∑ d ∈ range 16, B s p d * (uu s (4096 * b + n) d : ℂ)

/-- The table of answers inside a chunk. -/
def tab1 (s t j : ℕ) : ℝ := if t / 16 ≤ j / 16 then ∑ p ∈ range 64, (C s (j % 16) p * lam s p ^ (j / 16 - t / 16) * B s p (t % 16)).re else 0

/-- The table that gathers a chunk into its state, two groups side by side. -/
def tab2 (s t j : ℕ) : ℝ := if s = j / 64 % 2 then (if j < 128 then (lam s (j % 64) ^ (15 - t / 16) * B s (j % 64) (t % 16)).re
  else (lam s (j % 64) ^ (15 - t / 16) * B s (j % 64) (t % 16)).im) else 0

/-- The table of answers to the state before a chunk. -/
def tab3 (s t j : ℕ) : ℝ := if s = t / 64 % 2 then (if t < 128 then (C s (j % 16) (t % 64) * lam s (t % 64) ^ (j / 16 + 1)).re
  else -(C s (j % 16) (t % 64) * lam s (t % 64) ^ (j / 16 + 1)).im) else 0

/-- The table of decays: row `l` is the decay over `16 * 2 ^ l` steps. -/
def tab4 (l j : ℕ) : ℝ := if j < 128 then (lam (j / 64 % 2) (j % 64) ^ (16 * 2 ^ l)).re else (lam (j / 64 % 2) (j % 64) ^ (16 * 2 ^ l)).im

/-- The state gathered over the last `n` chunks. -/
def W (n r q : ℕ) : ℂ := win (lam (q / 64) (q % 64) ^ 16) (chunk (lam (q / 64) (q % 64)) (xin B uu (q / 64) (q % 64) (r / 256))) n (r % 256)

/-- The state before chunk `r`. -/
def G (r q : ℕ) : ℂ := hst (lam (q / 64) (q % 64)) (xin B uu (q / 64) (q % 64) (r / 256)) (16 * (r % 256))

/-- The answer: the real part of the states seen through `C`. -/
def ans (s r j : ℕ) : ℝ := ∑ p ∈ range 64, (C s (j % 16) p * hst (lam s p) (xin B uu s p (r / 256)) (16 * (r % 256) + j / 16 + 1)).re

/-- A sum over a chunk is a sum over its steps and channels. -/
theorem blocks (n : ℕ) (F : ℕ → ℝ) : ∑ t ∈ range (16 * n), F t = ∑ e ∈ range n, ∑ d ∈ range 16, F (16 * e + d) := by
  induction n with
  | zero => simp
  | succ n ih => rw [sum_range_succ, Nat.mul_succ, sum_range_add, ih]

/-- A sum over the four blocks of a table of two groups. -/
theorem pairs (F : ℕ → ℝ) : ∑ t ∈ range 256, F t = ∑ p ∈ range 64, (F p + F (64 + p) + F (128 + p) + F (192 + p)) := by
  have h : (256 : ℕ) = 64 + 64 + 64 + 64 := rfl
  rw [h, sum_range_add, sum_range_add, sum_range_add, ← sum_add_distrib, ← sum_add_distrib, ← sum_add_distrib]

/-- A chunk summed with the powers in reverse is the window of the drive. -/
theorem gather_eq (s p r : ℕ) :
    ∑ t ∈ range 256, (uu s (16 * r + t / 16) (t % 16) : ℂ) * (lam s p ^ (15 - t / 16) * B s p (t % 16)) = chunk (lam s p) (xin B uu s p (r / 256)) (r % 256) := by
  have hb : ∀ (n : ℕ) (F : ℕ → ℂ), ∑ t ∈ range (16 * n), F t = ∑ e ∈ range n, ∑ d ∈ range 16, F (16 * e + d) := by
    intro n F
    induction n with
    | zero => simp
    | succ n ih => rw [sum_range_succ, Nat.mul_succ, sum_range_add, ih]
  rw [show (256 : ℕ) = 16 * 16 from rfl, hb]
  unfold chunk xin
  refine sum_congr rfl fun a ha => ?_
  rw [mul_sum]
  refine sum_congr rfl fun d hd => ?_
  have hd := mem_range.mp hd
  rw [show (16 * a + d) / 16 = a by omega, show (16 * a + d) % 16 = d by omega, show 4096 * (r / (16 * 16)) + (16 * (r % (16 * 16)) + a) = 16 * r + a by omega]
  ring

/-- The first states, real part. -/
theorem start_re (r q : ℕ) (hq : q < 128) :
    (∑ t ∈ range 256, uu 0 (16 * r + t / 16) (t % 16) * tab2 lam B 0 t q) + (∑ t ∈ range 256, uu 1 (16 * r + t / 16) (t % 16) * tab2 lam B 1 t q) = (W lam B uu 1 r q).re := by
  unfold W
  rw [win_one, ← gather_eq, Complex.re_sum]
  obtain h | h : q / 64 = 0 ∨ q / 64 = 1 := by omega
  · have h2 : q / 64 % 2 = 0 := by omega
    simp [tab2, h, h2, hq]
  · have h2 : q / 64 % 2 = 1 := by omega
    simp [tab2, h, h2, hq]

/-- The first states, imaginary part. -/
theorem start_im (r q : ℕ) (hq : q < 128) :
    (∑ t ∈ range 256, uu 0 (16 * r + t / 16) (t % 16) * tab2 lam B 0 t (128 + q)) + (∑ t ∈ range 256, uu 1 (16 * r + t / 16) (t % 16) * tab2 lam B 1 t (128 + q)) = (W lam B uu 1 r q).im := by
  unfold W
  rw [win_one, ← gather_eq, Complex.im_sum]
  have hn : ¬ 128 + q < 128 := by omega
  have hm : (128 + q) % 64 = q % 64 := by omega
  obtain h | h : q / 64 = 0 ∨ q / 64 = 1 := by omega
  · have h2 : (128 + q) / 64 % 2 = 0 := by omega
    simp [tab2, h, h2, hn, hm]
  · have h2 : (128 + q) / 64 % 2 = 1 := by omega
    simp [tab2, h, h2, hn, hm]

/-- A window twice as long is a window and the one before it, decayed. -/
theorem W_double (d r q : ℕ) : W lam B uu (2 * d) r q = W lam B uu d r q + lam (q / 64) (q % 64) ^ (16 * d) * (if d ≤ r % 256 then W lam B uu d (r - d) q else 0) := by
  unfold W
  rw [win_double, pow_mul]
  congr 2
  by_cases h : d ≤ r % 256
  · rw [if_pos h, if_pos h, show (r - d) / 256 = r / 256 by omega, show (r - d) % 256 = r % 256 - d by omega]
  · rw [if_neg h, if_neg h]

/-- After eight doublings, the state before a chunk. -/
theorem W_full (r q : ℕ) : (if 1 ≤ r % 256 then W lam B uu 256 (r - 1) q else 0) = G lam B uu r q := by
  unfold W G
  by_cases h : 1 ≤ r % 256
  · rw [if_pos h, win_full _ _ _ _ (by omega), show (r - 1) / 256 = r / 256 by omega, show (r - 1) % 256 + 1 = r % 256 by omega]
  · rw [if_neg h, show r % 256 = 0 by omega]
    rfl

/-- What the state before a chunk contributes. -/
theorem state_part (s r j : ℕ) (hs : s < 2) :
    ∑ t ∈ range 256, (if t < 128 then (G lam B uu r t).re else (G lam B uu r (t - 128)).im) * tab3 lam C s t j
      = ∑ p ∈ range 64, (C s (j % 16) p * (lam s p ^ (j / 16 + 1) * hst (lam s p) (xin B uu s p (r / 256)) (16 * (r % 256)))).re := by
  rw [pairs]
  refine sum_congr rfl fun p hp => ?_
  have hp := mem_range.mp hp
  have a1 : p / 64 % 2 = 0 := by omega
  have a2 : (64 + p) / 64 % 2 = 1 := by omega
  have a3 : (128 + p) / 64 % 2 = 0 := by omega
  have a4 : (192 + p) / 64 % 2 = 1 := by omega
  have b1 : p % 64 = p := by omega
  have b2 : (64 + p) % 64 = p := by omega
  have b3 : (128 + p) % 64 = p := by omega
  have b4 : (192 + p) % 64 = p := by omega
  have c1 : p < 128 := by omega
  have c2 : 64 + p < 128 := by omega
  have c3 : ¬ 128 + p < 128 := by omega
  have c4 : ¬ 192 + p < 128 := by omega
  have d1 : p / 64 = 0 := by omega
  have d2 : (64 + p) / 64 = 1 := by omega
  have e3 : 128 + p - 128 = p := by omega
  have e4 : 192 + p - 128 = 64 + p := by omega
  obtain rfl | rfl : s = 0 ∨ s = 1 := by omega
  · unfold tab3 G
    rw [e3, e4, a1, a2, a3, a4, if_pos c1, if_pos c2, if_neg c3, if_neg c4, if_pos c1, if_neg c3, b1, b3, d1, if_pos rfl, if_neg (by decide), if_pos rfl, if_neg (by decide), ← mul_assoc]
    rw [Complex.mul_re (C 0 (j % 16) p * lam 0 p ^ (j / 16 + 1))]
    ring
  · unfold tab3 G
    rw [e3, e4, a1, a2, a3, a4, if_pos c1, if_pos c2, if_neg c3, if_neg c4, if_pos c2, if_neg c4, b2, b4, d2, if_pos rfl, if_neg (by decide), if_pos rfl, if_neg (by decide), ← mul_assoc]
    rw [Complex.mul_re (C 1 (j % 16) p * lam 1 p ^ (j / 16 + 1))]
    ring

/-- What a chunk contributes to its own answers. -/
theorem inside_part (s r j : ℕ) :
    ∑ t ∈ range 256, uu s (16 * r + t / 16) (t % 16) * tab1 lam B C s t j
      = ∑ p ∈ range 64, (C s (j % 16) p * ∑ e ∈ range 16, (if e ≤ j / 16 then lam s p ^ (j / 16 - e) else 0) * xin B uu s p (r / 256) (16 * (r % 256) + e)).re := by
  rw [show (256 : ℕ) = 16 * 16 from rfl, blocks]
  simp only [mul_sum, Complex.re_sum]
  conv_rhs => rw [sum_comm]
  refine sum_congr rfl fun e he => ?_
  unfold xin
  simp only [mul_sum, Complex.re_sum]
  conv_rhs => rw [sum_comm]
  refine sum_congr rfl fun d hd => ?_
  have hd := mem_range.mp hd
  unfold tab1
  rw [show (16 * e + d) / 16 = e by omega, show (16 * e + d) % 16 = d by omega]
  by_cases h : e ≤ j / 16
  · simp only [if_pos h]
    rw [mul_sum]
    refine sum_congr rfl fun p hp => ?_
    rw [show 4096 * (r / (16 * 16)) + (16 * (r % (16 * 16)) + e) = 16 * r + e by omega, ← mul_assoc, ← mul_assoc, Complex.re_mul_ofReal, mul_comm]
  · simp [if_neg h]

/-- The two together are the answer. -/
theorem finish (s r j : ℕ) (hs : s < 2) (hj : j < 256) :
    (∑ t ∈ range 256, uu s (16 * r + t / 16) (t % 16) * tab1 lam B C s t j)
      + ∑ t ∈ range 256, (if t < 128 then (G lam B uu r t).re else (G lam B uu r (t - 128)).im) * tab3 lam C s t j = ans lam B C uu s r j := by
  rw [state_part _ _ _ _ _ _ _ hs, inside_part, ← sum_add_distrib]
  refine sum_congr rfl fun p hp => ?_
  rw [inside _ _ _ _ (show j / 16 < 16 by omega), mul_add, Complex.add_re, add_comm]

end Cert.S5Real

end
-- ==== Proof.S5Coef.lean ====
/- The recurrence's coefficients as real and complex numbers: the operations that build them keep real entries real. -/
module

public import proofs.«01_k».proof.Proof.Gen.KernelIdeal
public import Idealize.ShloMosaic.Lib.Pipeline.ValueKit
public import Idealize.ShloMosaic.Lib.Pointwise
public import proofs.«01_k».proof.Proof.S5Idx
public import proofs.«01_k».proof.Proof.S5Real

@[expose] public section

set_option maxRecDepth 16384

noncomputable section

namespace Cert.S5Coef

open Cert.S5Idx Cert.KernelIdeal Cert.KernelIdeal.Gen Idealize.ShloMosaic Idealize.ShloMosaic.TcCoe Idealize.SL.Sem

/-- A sum of real entries is real. -/
theorem coe_fin_sum {n : ℕ} (f : Fin n → EReal) (g : ℕ → ℝ) (h : ∀ t : Fin n, f t = ((g t.val : ℝ) : EReal)) :
    ∑ t, f t = ((∑ t ∈ Finset.range n, g t : ℝ) : EReal) := by
  rw [Finset.sum_congr rfl fun t _ => h t, Finset.sum_range]
  induction (Finset.univ : Finset (Fin n)) using Finset.induction_on with
  | empty => simp
  | insert a s ha ih => rw [Finset.sum_insert ha, Finset.sum_insert ha, ih, EReal.coe_add]

/-- Every entry of a table over groups and states is the real number named. -/
def Is2 (X : FVec Ideal S64x64 .f32) (f : ℕ → ℕ → ℝ) : Prop := ∀ g p : Fin 64, X (ix2 g p) = ((f g.val p.val : ℝ) : EReal)

/-- Likewise over groups, states and channels. -/
def Is3 (X : FVec Ideal S64x64x16 .f32) (f : ℕ → ℕ → ℕ → ℝ) : Prop :=
  ∀ (g p : Fin 64) (d : Fin 16), X (ix3 g p d) = ((f g.val p.val d.val : ℝ) : EReal)

variable (A1 A2 : ℕ → ℕ → ℝ) (A3 : ℕ → ℝ) (A4 A5 : ℕ → ℕ → ℕ → ℝ)

/-- The pole over one step. -/
def lam (g p : ℕ) : ℂ := ⟨Real.exp (A1 g p * Real.exp (A3 g)) * Real.cos (A2 g p * Real.exp (A3 g)), Real.exp (A1 g p * Real.exp (A3 g)) * Real.sin (A2 g p * Real.exp (A3 g))⟩

/-- The factor that discretises the input matrix. -/
def fac (g p : ℕ) : ℂ :=
  ⟨(((lam A1 A2 A3 g p).re - 1) * A1 g p + (lam A1 A2 A3 g p).im * A2 g p) / (A1 g p * A1 g p + A2 g p * A2 g p),
   ((lam A1 A2 A3 g p).im * A1 g p - ((lam A1 A2 A3 g p).re - 1) * A2 g p) / (A1 g p * A1 g p + A2 g p * A2 g p)⟩

/-- The discretised input matrix. -/
def inm (g p d : ℕ) : ℂ :=
  ⟨(fac A1 A2 A3 g p).re * A4 g p d - (fac A1 A2 A3 g p).im * A5 g p d, (fac A1 A2 A3 g p).re * A5 g p d + (fac A1 A2 A3 g p).im * A4 g p d⟩

variable {A1 A2 A3 A4 A5}

/-- A pole's discretisation, real part. -/
theorem lam_re (a1 a2 : FVec Ideal S64x64 .f32) (a3 : FVec Ideal S64 .f32) (h1 : Is2 a1 A1) (h2 : Is2 a2 A2) (h3 : ∀ g : Fin 64, a3 (ix1 g) = ((A3 g.val : ℝ) : EReal)) :
    Is2 (mulf (Host.exp (mulf a1 (broadcastInDim S64x64 ![0, 1] bcast_S64x1_S64x64_0_1 (broadcastInDim S64x1 ![0] bcast_S64_S64x1_0 (Host.exp a3)))))
      (Host.cos (mulf a2 (broadcastInDim S64x64 ![0, 1] bcast_S64x1_S64x64_0_1 (broadcastInDim S64x1 ![0] bcast_S64_S64x1_0 (Host.exp a3)))))) fun g p => (lam A1 A2 A3 g p).re := by
  intro g p
  pointwise []
  rw [h1, h2, h3, Ideal.exp_coe, ← EReal.coe_mul, ← EReal.coe_mul, Ideal.exp_coe, Ideal.cos_coe, ← EReal.coe_mul]
  rfl

/-- A pole's discretisation, imaginary part. -/
theorem lam_im (a1 a2 : FVec Ideal S64x64 .f32) (a3 : FVec Ideal S64 .f32) (h1 : Is2 a1 A1) (h2 : Is2 a2 A2) (h3 : ∀ g : Fin 64, a3 (ix1 g) = ((A3 g.val : ℝ) : EReal)) :
    Is2 (mulf (Host.exp (mulf a1 (broadcastInDim S64x64 ![0, 1] bcast_S64x1_S64x64_0_1 (broadcastInDim S64x1 ![0] bcast_S64_S64x1_0 (Host.exp a3)))))
      (Host.sin (mulf a2 (broadcastInDim S64x64 ![0, 1] bcast_S64x1_S64x64_0_1 (broadcastInDim S64x1 ![0] bcast_S64_S64x1_0 (Host.exp a3)))))) fun g p => (lam A1 A2 A3 g p).im := by
  intro g p
  pointwise []
  rw [h1, h2, h3, Ideal.exp_coe, ← EReal.coe_mul, ← EReal.coe_mul, Ideal.exp_coe, Ideal.sin_coe, ← EReal.coe_mul]
  rfl

/-- Division of reals by a real that is not zero. -/
theorem div_coe_coe (x y : ℝ) (hy : y ≠ 0) : Ideal.div (x : EReal) (y : EReal) = ((x / y : ℝ) : EReal) := by
  rw [Ideal.div_coe hy, ← EReal.coe_mul, mul_one_div]

/-- The factor of the zero-order hold, real part. -/
theorem fac_re (a1 a2 L I : FVec Ideal S64x64 .f32) (h1 : Is2 a1 A1) (h2 : Is2 a2 A2) (hL : Is2 L fun g p => (lam A1 A2 A3 g p).re) (hI : Is2 I fun g p => (lam A1 A2 A3 g p).im)
    (h0 : ∀ g p : Fin 64, A1 g.val p.val * A1 g.val p.val + A2 g.val p.val * A2 g.val p.val ≠ 0) :
    Is2 (Host.divf (addf (mulf (subf L (broadcastInDim S64x64 ![] bcast_S_S64x64 (constant S_ .f32 0x3F800000#32))) a1) (mulf I a2)) (addf (mulf a1 a1) (mulf a2 a2)))
      fun g p => (fac A1 A2 A3 g p).re := by
  intro g p
  pointwise []
  rw [h1, h2, hL, hI]
  rw [← EReal.coe_one, ← EReal.coe_sub, ← EReal.coe_mul, ← EReal.coe_mul, ← EReal.coe_mul, ← EReal.coe_mul, ← EReal.coe_add, ← EReal.coe_add, div_coe_coe _ _ (h0 g p)]
  rfl

/-- The factor of the zero-order hold, imaginary part. -/
theorem fac_im (a1 a2 L I : FVec Ideal S64x64 .f32) (h1 : Is2 a1 A1) (h2 : Is2 a2 A2) (hL : Is2 L fun g p => (lam A1 A2 A3 g p).re) (hI : Is2 I fun g p => (lam A1 A2 A3 g p).im)
    (h0 : ∀ g p : Fin 64, A1 g.val p.val * A1 g.val p.val + A2 g.val p.val * A2 g.val p.val ≠ 0) :
    Is2 (Host.divf (subf (mulf I a1) (mulf (subf L (broadcastInDim S64x64 ![] bcast_S_S64x64 (constant S_ .f32 0x3F800000#32))) a2)) (addf (mulf a1 a1) (mulf a2 a2)))
      fun g p => (fac A1 A2 A3 g p).im := by
  intro g p
  pointwise []
  rw [h1, h2, hL, hI]
  rw [← EReal.coe_one, ← EReal.coe_sub, ← EReal.coe_mul, ← EReal.coe_mul, ← EReal.coe_mul, ← EReal.coe_mul, ← EReal.coe_add, ← EReal.coe_sub, div_coe_coe _ _ (h0 g p)]
  rfl

/-- The discretised input matrix, real part. -/
theorem inm_re (X Y : FVec Ideal S64x64 .f32) (a4 a5 : FVec Ideal S64x64x16 .f32) (hX : Is2 X fun g p => (fac A1 A2 A3 g p).re) (hY : Is2 Y fun g p => (fac A1 A2 A3 g p).im)
    (h4 : Is3 a4 A4) (h5 : Is3 a5 A5) :
    Is3 (subf (mulf (broadcastInDim S64x64x16 ![0, 1, 2] bcast_S64x64x1_S64x64x16_0_1_2 (broadcastInDim S64x64x1 ![0, 1] bcast_S64x64_S64x64x1_0_1 X)) a4)
      (mulf (broadcastInDim S64x64x16 ![0, 1, 2] bcast_S64x64x1_S64x64x16_0_1_2 (broadcastInDim S64x64x1 ![0, 1] bcast_S64x64_S64x64x1_0_1 Y)) a5))
      fun g p d => (inm A1 A2 A3 A4 A5 g p d).re := by
  intro g p d
  pointwise []
  rw [hX, hY, h4, h5, ← EReal.coe_mul, ← EReal.coe_mul, ← EReal.coe_sub]
  rfl

/-- The discretised input matrix, imaginary part. -/
theorem inm_im (X Y : FVec Ideal S64x64 .f32) (a4 a5 : FVec Ideal S64x64x16 .f32) (hX : Is2 X fun g p => (fac A1 A2 A3 g p).re) (hY : Is2 Y fun g p => (fac A1 A2 A3 g p).im)
    (h4 : Is3 a4 A4) (h5 : Is3 a5 A5) :
    Is3 (addf (mulf (broadcastInDim S64x64x16 ![0, 1, 2] bcast_S64x64x1_S64x64x16_0_1_2 (broadcastInDim S64x64x1 ![0, 1] bcast_S64x64_S64x64x1_0_1 X)) a5)
      (mulf (broadcastInDim S64x64x16 ![0, 1, 2] bcast_S64x64x1_S64x64x16_0_1_2 (broadcastInDim S64x64x1 ![0, 1] bcast_S64x64_S64x64x1_0_1 Y)) a4))
      fun g p d => (inm A1 A2 A3 A4 A5 g p d).im := by
  intro g p d
  pointwise []
  rw [hX, hY, h4, h5, ← EReal.coe_mul, ← EReal.coe_mul, ← EReal.coe_add]
  rfl

/-- A pair of tables holds the real and imaginary parts of complex numbers. -/
def IsC (R I : FVec Ideal S64x64 .f32) (z : ℕ → ℕ → ℂ) : Prop := Is2 R (fun g p => (z g p).re) ∧ Is2 I (fun g p => (z g p).im)

/-- The number one. -/
theorem isC_one : IsC (broadcastInDim S64x64 ![] bcast_S_S64x64 (constant S_ .f32 0x3F800000#32)) (broadcastInDim S64x64 ![] bcast_S_S64x64 (constant S_ .f32 0x00000000#32)) fun g p => 1 := by
  constructor
  · intro g p
    pointwise []
    norm_num
  · intro g p
    pointwise []
    norm_num

/-- The product of two pairs. -/
theorem isC_mul (R I R' I' : FVec Ideal S64x64 .f32) (z z' w : ℕ → ℕ → ℂ) (h : IsC R I z) (h' : IsC R' I' z') (hw : ∀ g p, w g p = z g p * z' g p) :
    IsC (subf (mulf R R') (mulf I I')) (addf (mulf R I') (mulf I R')) w := by
  constructor
  · intro g p
    pointwise []
    rw [h.1, h.2, h'.1, h'.2, ← EReal.coe_mul, ← EReal.coe_mul, ← EReal.coe_sub, hw, Complex.mul_re]
  · intro g p
    pointwise []
    rw [h.1, h.2, h'.1, h'.2, ← EReal.coe_mul, ← EReal.coe_mul, ← EReal.coe_add, hw, Complex.mul_im]

/-- The read-out matrix. -/
def outm (A6 A7 : ℕ → ℕ → ℕ → ℝ) (g c p : ℕ) : ℂ := ⟨A6 g c p, A7 g c p⟩

/-- The eight arguments hold the real numbers named, and no pole is zero. -/
structure Args (x0 : FVec Ideal S16384x1024 .bf16) (x1 x2 : FVec Ideal S64x64 .f32) (x3 : FVec Ideal S64 .f32) (x4 x5 : FVec Ideal S64x64x16 .f32) (x6 x7 : FVec Ideal S64x16x64 .f32)
    (U A1 A2 : ℕ → ℕ → ℝ) (A3 : ℕ → ℝ) (A4 A5 A6 A7 : ℕ → ℕ → ℕ → ℝ) : Prop where
  u : ∀ (i : Fin 16384) (j : Fin 1024), x0 (ix2 i j) = ((U i.val j.val : ℝ) : EReal)
  a : Is2 x1 A1
  b : Is2 x2 A2
  s : ∀ g : Fin 64, x3 (ix1 g) = ((A3 g.val : ℝ) : EReal)
  br : Is3 x4 A4
  bi : Is3 x5 A5
  cr : ∀ (g : Fin 64) (c : Fin 16) (p : Fin 64), x6 (ix3 g c p) = ((A6 g.val c.val p.val : ℝ) : EReal)
  ci : ∀ (g : Fin 64) (c : Fin 16) (p : Fin 64), x7 (ix3 g c p) = ((A7 g.val c.val p.val : ℝ) : EReal)
  ne : ∀ g p : Fin 64, A1 g.val p.val * A1 g.val p.val + A2 g.val p.val * A2 g.val p.val ≠ 0

end Cert.S5Coef

end
-- ==== Proof.S5RefLoop.lean ====
/- What the reference's loop carries, after each number of trips, and what its result is. -/
module

public import proofs.«01_k».proof.Proof.S5RefHost
public import proofs.«01_k».proof.Proof.S5RefOps
public import proofs.«01_k».proof.Proof.S5Coef

@[expose] public section

set_option maxRecDepth 16384
set_option maxHeartbeats 400000

noncomputable section

namespace Cert.ReferenceIdeal.Host

open Cert.ScanMath Cert.S5Idx Cert.S5Coef Cert.S5Real Cert.ReferenceIdeal Cert.ReferenceIdeal.Gen Cert.ReferenceIdeal.Value Idealize.ShloMosaic Idealize.ShloMosaic.TcCoe Idealize.ShloMosaic.StableHlo Idealize.SL.Sem

/-- The input of group `s` at a time, one channel. -/
def chan (U : ℕ → ℕ → ℝ) (s n d : ℕ) : ℝ := U n (16 * s + d)

variable (U A1 A2 : ℕ → ℕ → ℝ) (A3 : ℕ → ℝ) (A4 A5 A6 A7 : ℕ → ℕ → ℕ → ℝ)

/-- What the loop carries after `n` trips. -/
structure Inv (n : ℕ) (W : Valuation τ sig (Elt Ideal)) : Prop where
  xr : ∀ (k : Fin 4096) (b : Fin 4) (g p : Fin 64), (W (Proc.devRef .tc main_v50_0) : FVec Ideal S4096x4x64x64 .f32) (ix4 k b g p) = (((xin (inm A1 A2 A3 A4 A5) (chan U) g.val p.val b.val k.val).re : ℝ) : EReal)
  xi : ∀ (k : Fin 4096) (b : Fin 4) (g p : Fin 64), (W (Proc.devRef .tc main_v50_1) : FVec Ideal S4096x4x64x64 .f32) (ix4 k b g p) = (((xin (inm A1 A2 A3 A4 A5) (chan U) g.val p.val b.val k.val).im : ℝ) : EReal)
  lr : Is2 (W (Proc.devRef .tc main_v50_2)) fun g p => (lam A1 A2 A3 g p).re
  li : Is2 (W (Proc.devRef .tc main_v50_3)) fun g p => (lam A1 A2 A3 g p).im
  ct : ∀ y, (W (Proc.devRef .tc main_v50_4) : IVec S_ 32) y = BitVec.ofNat 32 n
  hr : ∀ (b : Fin 4) (g p : Fin 64), (W (Proc.devRef .tc main_v50_5) : FVec Ideal S4x64x64 .f32) (ix3 b g p) = (((hst (lam A1 A2 A3 g.val p.val) (xin (inm A1 A2 A3 A4 A5) (chan U) g.val p.val b.val) n).re : ℝ) : EReal)
  hi : ∀ (b : Fin 4) (g p : Fin 64), (W (Proc.devRef .tc main_v50_6) : FVec Ideal S4x64x64 .f32) (ix3 b g p) = (((hst (lam A1 A2 A3 g.val p.val) (xin (inm A1 A2 A3 A4 A5) (chan U) g.val p.val b.val) n).im : ℝ) : EReal)
  yr : ∀ (k : Fin 4096) (b : Fin 4) (g p : Fin 64), k.val < n → (W (Proc.devRef .tc main_v50_7) : FVec Ideal S4096x4x64x64 .f32) (ix4 k b g p) = (((hst (lam A1 A2 A3 g.val p.val) (xin (inm A1 A2 A3 A4 A5) (chan U) g.val p.val b.val) (k.val + 1)).re : ℝ) : EReal)
  yi : ∀ (k : Fin 4096) (b : Fin 4) (g p : Fin 64), k.val < n → (W (Proc.devRef .tc main_v50_8) : FVec Ideal S4096x4x64x64 .f32) (ix4 k b g p) = (((hst (lam A1 A2 A3 g.val p.val) (xin (inm A1 A2 A3 A4 A5) (chan U) g.val p.val b.val) (k.val + 1)).im : ℝ) : EReal)

variable {U A1 A2 A3 A4 A5 A6 A7}

/-- The state after one more trip, real part. -/
theorem trip_re {n : ℕ} {W : Valuation τ sig (Elt Ideal)} (hn : n < 4096) (I : Inv U A1 A2 A3 A4 A5 n W) (b : Fin 4) (g p : Fin 64) :
    (res_main_while0b_v67 W : FVec Ideal S4x64x64 .f32) (ix3 b g p) = (((hst (lam A1 A2 A3 g.val p.val) (xin (inm A1 A2 A3 A4 A5) (chan U) g.val p.val b.val) (n + 1)).re : ℝ) : EReal) := by
  unfold res_main_while0b_v67
  refine (re_at (W (Proc.devRef .tc main_v50_2)) (W (Proc.devRef .tc main_v50_3)) (W (Proc.devRef .tc main_v50_5)) (W (Proc.devRef .tc main_v50_6)) _ b g p).trans
    ((congrArg (_ + ·) ((read_at (W (Proc.devRef .tc main_v50_0)) n hn (W (Proc.devRef .tc main_v50_4)) I.ct b g p).trans (I.xr ⟨n, hn⟩ b g p))).trans ?_)
  rw [I.lr, I.li, I.hr, I.hi,
    ← EReal.coe_mul, ← EReal.coe_mul, ← EReal.coe_sub, ← EReal.coe_add]
  show _ = ((((lam A1 A2 A3 g.val p.val) * _ + _ : ℂ).re : ℝ) : EReal)
  rw [Complex.add_re, Complex.mul_re]

/-- The state after one more trip, imaginary part. -/
theorem trip_im {n : ℕ} {W : Valuation τ sig (Elt Ideal)} (hn : n < 4096) (I : Inv U A1 A2 A3 A4 A5 n W) (b : Fin 4) (g p : Fin 64) :
    (res_main_while0b_v75 W : FVec Ideal S4x64x64 .f32) (ix3 b g p) = (((hst (lam A1 A2 A3 g.val p.val) (xin (inm A1 A2 A3 A4 A5) (chan U) g.val p.val b.val) (n + 1)).im : ℝ) : EReal) := by
  unfold res_main_while0b_v75
  refine (im_at (W (Proc.devRef .tc main_v50_2)) (W (Proc.devRef .tc main_v50_3)) (W (Proc.devRef .tc main_v50_6)) (W (Proc.devRef .tc main_v50_5)) _ b g p).trans
    ((congrArg (_ + ·) ((read_at (W (Proc.devRef .tc main_v50_1)) n hn (W (Proc.devRef .tc main_v50_4)) I.ct b g p).trans (I.xi ⟨n, hn⟩ b g p))).trans ?_)
  rw [I.lr, I.li, I.hr, I.hi,
    ← EReal.coe_mul, ← EReal.coe_mul, ← EReal.coe_add, ← EReal.coe_add]
  show _ = ((((lam A1 A2 A3 g.val p.val) * _ + _ : ℂ).im : ℝ) : EReal)
  rw [Complex.add_im, Complex.mul_im]

/-- One trip keeps the invariant. -/
theorem inv_succ {n : ℕ} {W : Valuation τ sig (Elt Ideal)} (hn : n < 4096) (I : Inv U A1 A2 A3 A4 A5 n W) : Inv U A1 A2 A3 A4 A5 (n + 1) (STEP W) where
  xr k b g p := (congrFun (STEP_main_v50_0 W) _).trans (I.xr k b g p)
  xi k b g p := (congrFun (STEP_main_v50_1 W) _).trans (I.xi k b g p)
  lr g p := (congrFun (STEP_main_v50_2 W) _).trans (I.lr g p)
  li g p := (congrFun (STEP_main_v50_3 W) _).trans (I.li g p)
  ct y := by
    refine (congrFun (STEP_main_v50_4 W) y).trans ?_
    refine (congrArg (· + 1#32) (I.ct y)).trans ?_
    rw [BitVec.ofNat_add]
  hr b g p := (congrFun (STEP_main_v50_5 W) _).trans (trip_re hn I b g p)
  hi b g p := (congrFun (STEP_main_v50_6 W) _).trans (trip_im hn I b g p)
  yr k b g p hk := by
    refine (congrFun (STEP_main_v50_7 W) _).trans ((write_at (W (Proc.devRef .tc main_v50_7)) (res_main_while0b_v67 W) n hn (W (Proc.devRef .tc main_v50_4)) I.ct k b g p).trans ?_)
    by_cases he : k.val = n
    · rw [if_pos he, trip_re hn I, he]
    · rw [if_neg he, I.yr k b g p (by omega)]
  yi k b g p hk := by
    refine (congrFun (STEP_main_v50_8 W) _).trans ((write_at (W (Proc.devRef .tc main_v50_8)) (res_main_while0b_v75 W) n hn (W (Proc.devRef .tc main_v50_4)) I.ct k b g p).trans ?_)
    by_cases he : k.val = n
    · rw [if_pos he, trip_im hn I, he]
    · rw [if_neg he, I.yi k b g p (by omega)]

variable {m : (ℓ : Loc nD τ sig) → Buf (Elt Ideal) ℓ} {c : Dev nD}
  (h : Args (E m c main_arg0) (E m c main_arg1) (E m c main_arg2) (E m c main_arg3) (E m c main_arg4) (E m c main_arg5) (E m c main_arg6) (E m c main_arg7) U A1 A2 A3 A4 A5 A6 A7)

include h

/-- The discretised poles, real part. -/
theorem lam_re_v : Is2 (E m c main_v8) fun g p => (lam A1 A2 A3 g p).re := by
  rw [e_v8, e_v7, e_v6, e_v5, e_v4, e_v3, e_v2, e_v1, e_v0]
  exact lam_re _ _ _ h.a h.b h.s

/-- The discretised poles, imaginary part. -/
theorem lam_im_v : Is2 (E m c main_v12) fun g p => (lam A1 A2 A3 g p).im := by
  rw [e_v12, e_v11, e_v10, e_v9, e_v4, e_v3, e_v2, e_v1, e_v0]
  exact lam_im _ _ _ h.a h.b h.s

/-- The factors, real part. -/
theorem fac_re_v : Is2 (E m c main_v21) fun g p => (fac A1 A2 A3 g p).re := by
  rw [e_v21, e_v20, e_v19, e_v18, e_v17, e_v16, e_cst, e_v15, e_v14, e_v13]
  exact fac_re _ _ _ _ h.a h.b (lam_re_v h) (lam_im_v h) h.ne

/-- The factors, imaginary part. -/
theorem fac_im_v : Is2 (E m c main_v25) fun g p => (fac A1 A2 A3 g p).im := by
  rw [e_v25, e_v24, e_v23, e_v22, e_v17, e_v16, e_cst, e_v15, e_v14, e_v13]
  exact fac_im _ _ _ _ h.a h.b (lam_re_v h) (lam_im_v h) h.ne

/-- The discretised input matrix, real part. -/
theorem inm_re_v : Is3 (E m c main_v32) fun g p d => (inm A1 A2 A3 A4 A5 g p d).re := by
  rw [e_v32, e_v31, e_v30, e_v29, e_v28, e_v27, e_v26]
  exact inm_re _ _ _ _ (fac_re_v h) (fac_im_v h) h.br h.bi

/-- The discretised input matrix, imaginary part. -/
theorem inm_im_v : Is3 (E m c main_v39) fun g p d => (inm A1 A2 A3 A4 A5 g p d).im := by
  rw [e_v39, e_v38, e_v37, e_v36, e_v35, e_v34, e_v33]
  exact inm_im _ _ _ _ (fac_re_v h) (fac_im_v h) h.br h.bi

/-- What drives the recurrence, real part. -/
theorem x_re_v (k : Fin 4096) (b : Fin 4) (g p : Fin 64) : (E m c main_v50_0 : FVec Ideal S4096x4x64x64 .f32) (ix4 k b g p) = (((xin (inm A1 A2 A3 A4 A5) (chan U) g.val p.val b.val k.val).re : ℝ) : EReal) := by
  rw [e_v50_0, e_v44, e_v43, e_v42, e_v41, e_v40]
  refine (x_at (E m c main_v32) (E m c main_arg0) k b g p).trans ?_
  rw [coe_fin_sum _ (fun d => (inm A1 A2 A3 A4 A5 g.val p.val d).re * chan U g.val (4096 * b.val + k.val) d) (fun d => by rw [inm_re_v h, h.u, ← EReal.coe_mul]; rfl)]
  unfold xin
  rw [Complex.re_sum]
  refine congrArg _ (Finset.sum_congr rfl fun d _ => ?_)
  rw [Complex.re_mul_ofReal]

/-- What drives the recurrence, imaginary part. -/
theorem x_im_v (k : Fin 4096) (b : Fin 4) (g p : Fin 64) : (E m c main_v50_1 : FVec Ideal S4096x4x64x64 .f32) (ix4 k b g p) = (((xin (inm A1 A2 A3 A4 A5) (chan U) g.val p.val b.val k.val).im : ℝ) : EReal) := by
  rw [e_v50_1, e_v46, e_v45, e_v42, e_v41, e_v40]
  refine (x_at (E m c main_v39) (E m c main_arg0) k b g p).trans ?_
  rw [coe_fin_sum _ (fun d => (inm A1 A2 A3 A4 A5 g.val p.val d).im * chan U g.val (4096 * b.val + k.val) d) (fun d => by rw [inm_im_v h, h.u, ← EReal.coe_mul]; rfl)]
  unfold xin
  rw [Complex.im_sum]
  refine congrArg _ (Finset.sum_congr rfl fun d _ => ?_)
  rw [Complex.im_mul_ofReal]

/-- The invariant holds when the loop starts. -/
theorem inv_zero : Inv U A1 A2 A3 A4 A5 0 (entryContents preI m c) where
  xr k b g p := x_re_v h k b g p
  xi k b g p := x_im_v h k b g p
  lr := by
    show Is2 (E m c main_v50_2) _
    rw [e_v50_2]
    exact lam_re_v h
  li := by
    show Is2 (E m c main_v50_3) _
    rw [e_v50_3]
    exact lam_im_v h
  ct y := by
    show (E m c main_v50_4 : IVec S_ 32) y = _
    rw [e_v50_4, e_c]
    rfl
  hr b g p := by
    show (E m c main_v50_5 : FVec Ideal S4x64x64 .f32) (ix3 b g p) = ((0 : ℝ) : EReal)
    rw [e_v50_5, e_v47, e_cst_0]
    exact (Ideal.ofBits_zero .f32).trans EReal.coe_zero.symm
  hi b g p := by
    show (E m c main_v50_6 : FVec Ideal S4x64x64 .f32) (ix3 b g p) = ((0 : ℝ) : EReal)
    rw [e_v50_6, e_v47, e_cst_0]
    exact (Ideal.ofBits_zero .f32).trans EReal.coe_zero.symm
  yr k b g p hk := absurd hk (by omega)
  yi k b g p hk := absurd hk (by omega)

/-- The invariant holds after every trip. -/
theorem inv_all : ∀ n : ℕ, n ≤ 4096 → Inv U A1 A2 A3 A4 A5 n (STEP^[n] (entryContents preI m c))
  | 0, _ => inv_zero h
  | n + 1, hn => by
    rw [Function.iterate_succ_apply']
    exact inv_succ (by omega) (inv_all n (by omega))

/-- The reference's result. -/
theorem value (g : Fin 64) (r : Fin 1024) (j : Fin 256) :
    (out_main_v57 (STEP^[4096] (entryContents preI m c)) : FVec Ideal S64x1024x256 .f32) (ix3 g r j)
      = ((ans (lam A1 A2 A3) (inm A1 A2 A3 A4 A5) (outm A6 A7) (chan U) g.val r.val j.val : ℝ) : EReal) := by
  have I := inv_all h 4096 le_rfl
  have h6 : (STEP^[4096] (entryContents preI m c)) (Proc.devRef .tc main_arg6) = E m c main_arg6 := (iter_main_arg6 m c 4096).trans (e_arg6 m c).symm
  have h7 : (STEP^[4096] (entryContents preI m c)) (Proc.devRef .tc main_arg7) = E m c main_arg7 := (iter_main_arg7 m c 4096).trans (e_arg7 m c).symm
  generalize STEP^[4096] (entryContents preI m c) = W at I h6 h7
  unfold out_main_v57
  rw [h6, h7]
  refine (y_at (E m c main_arg6) (E m c main_arg7) (W (Proc.devRef .tc main_v50_7)) (W (Proc.devRef .tc main_v50_8)) g r j).trans ?_
  have hk : 16 * (r.val % 256) + j.val / 16 < 4096 := by omega
  rw [coe_fin_sum _ (fun p => A6 g.val (j.val % 16) p * (hst (lam A1 A2 A3 g.val p) (xin (inm A1 A2 A3 A4 A5) (chan U) g.val p (r.val / 256)) (16 * (r.val % 256) + j.val / 16 + 1)).re) (fun p => by rw [h.cr, I.yr _ _ _ _ hk, ← EReal.coe_mul]),
    coe_fin_sum _ (fun p => A7 g.val (j.val % 16) p * (hst (lam A1 A2 A3 g.val p) (xin (inm A1 A2 A3 A4 A5) (chan U) g.val p (r.val / 256)) (16 * (r.val % 256) + j.val / 16 + 1)).im) (fun p => by rw [h.ci, I.yi _ _ _ _ hk, ← EReal.coe_mul]),
    ← EReal.coe_sub, ← Finset.sum_sub_distrib]
  unfold ans
  refine congrArg _ (Finset.sum_congr rfl fun p _ => ?_)
  rw [Complex.mul_re]
  rfl

end Cert.ReferenceIdeal.Host

end
-- ==== Proof.S5BodyOps.lean ====
/- The operations of the kernel body, entry by entry: one doubling step, the shifted states side by side, and the
   two products that make the answer. -/
module

public import proofs.«01_k».proof.Proof.KernelIdealFrame
public import proofs.«01_k».proof.Proof.S5Idx
public import Idealize.ShloMosaic.Lib.Pipeline.ValueKit
public import Idealize.ShloMosaic.Lib.Pointwise
public import proofs.«01_k».proof.Proof.ScanMath

@[expose] public section

set_option maxRecDepth 16384

noncomputable section

namespace Cert.KernelIdeal.Body

open Cert.S5Idx Cert.KernelIdeal Cert.KernelIdeal.Gen Idealize.ShloMosaic Idealize.ShloMosaic.TcCoe Idealize.SL.Sem

/-- A row's place in its sequence. -/
theorem pay8_at (r : Fin 1024) (q : Fin 128) : k0_pay8 (ix2 r q) = BitVec.ofNat 32 (r.val % 256) := by
  have h : ∀ r : Fin 1024, k0_pay8 (ix2 r (0 : Fin 128)) = BitVec.ofNat 32 (r.val % 256) := by decide +kernel
  exact h r

/-- The rows `d` places above, zeros where that crosses the start of a sequence. -/
def shift (d : ℕ) (h : FVec Ideal S1024x128 .f32) : FVec Ideal S1024x128 .f32 :=
  select (cmpi .sge k0_pay8 (broadcast S1024x128 (BitVec.ofNat 32 d))) (dynamicRotate 0 (BitVec.ofNat 32 d) none h rotates_S1024x128_d0)
    (broadcast S1024x128 (Scalar.ofBits (F := Ideal) .f32 0x00000000#32))

/-- The comparison that masks a rotation. -/
theorem sge_at : ∀ d r : Fin 256, IntOp.cmpi .sge (BitVec.ofNat 32 r.val) (BitVec.ofNat 32 d.val) = if d.val ≤ r.val then 1#1 else 0#1 := by decide +kernel

/-- A masked rotation reads the row `d` above, or zero at the head of a sequence. -/
theorem shift_at (d : ℕ) (hd : d < 256) (h : FVec Ideal S1024x128 .f32) (r : Fin 1024) (q : Fin 128) :
    shift d h (ix2 r q) = if d ≤ r.val % 256 then h (ix2 ⟨r.val - d, by omega⟩ q) else 0 := by
  have hk : cmpi .sge k0_pay8 (broadcast S1024x128 (BitVec.ofNat 32 d)) (ix2 r q) = if d ≤ r.val % 256 then 1#1 else 0#1 := by
    show IntOp.cmpi .sge (k0_pay8 (ix2 r q)) (BitVec.ofNat 32 d) = _
    rw [pay8_at]
    exact sge_at ⟨d, hd⟩ ⟨r.val % 256, by omega⟩
  have hz : broadcast S1024x128 (Scalar.ofBits (F := Ideal) .f32 0x00000000#32) (ix2 r q) = 0 := by pointwise []
  have hr : dynamicRotate 0 (BitVec.ofNat 32 d) none h rotates_S1024x128_d0 (ix2 r q) = h (ix2 ⟨(r.val + 1024 - d % 1024) % 1024, by omega⟩ q) := by
    unfold dynamicRotate
    refine congrArg h (funext fun b => ?_)
    fin_cases b
    · apply Fin.ext
      simp [Nat.mod_eq_of_lt (show d < 4294967296 by omega)]
      trace_state
    · rfl
  unfold shift select
  rw [hk, hz, hr]
  by_cases hc : d ≤ r.val % 256
  · rw [if_pos hc, if_pos hc]
    exact at2 h (by dsimp only; omega) rfl
  · rw [if_neg hc, if_neg hc]
    rfl

/-- One doubling of the window: the real part. -/
def stepR (d : ℕ) (hr hi : FVec Ideal S1024x128 .f32) (lr li : Vec Ideal S1x1x128 .f32) : FVec Ideal S1024x128 .f32 :=
  subf (addf hr (mulf (broadcastTo S1024x128 (shapeCast S1x128 lr shapeCasts_S1x1x128_S1x128) broadcasts_S1x128_S1024x128) (shift d hr)))
    (mulf (broadcastTo S1024x128 (shapeCast S1x128 li shapeCasts_S1x1x128_S1x128) broadcasts_S1x128_S1024x128) (shift d hi))

/-- One doubling of the window: the imaginary part. -/
def stepI (d : ℕ) (hr hi : FVec Ideal S1024x128 .f32) (lr li : Vec Ideal S1x1x128 .f32) : FVec Ideal S1024x128 .f32 :=
  addf (addf hi (mulf (broadcastTo S1024x128 (shapeCast S1x128 lr shapeCasts_S1x1x128_S1x128) broadcasts_S1x128_S1024x128) (shift d hi)))
    (mulf (broadcastTo S1024x128 (shapeCast S1x128 li shapeCasts_S1x1x128_S1x128) broadcasts_S1x128_S1024x128) (shift d hr))

/-- One doubling step, real part. -/
theorem stepR_at (d : ℕ) (hr hi : FVec Ideal S1024x128 .f32) (lr li : Vec Ideal S1x1x128 .f32) (r : Fin 1024) (q : Fin 128) :
    stepR d hr hi lr li (ix2 r q) = hr (ix2 r q) + lr (ix3 0 0 q) * shift d hr (ix2 r q) - li (ix3 0 0 q) * shift d hi (ix2 r q) := by
  generalize h1 : shift d hr = A
  generalize h2 : shift d hi = B
  unfold stepR
  rw [h1, h2]
  pointwise []

/-- One doubling step, imaginary part. -/
theorem stepI_at (d : ℕ) (hr hi : FVec Ideal S1024x128 .f32) (lr li : Vec Ideal S1x1x128 .f32) (r : Fin 1024) (q : Fin 128) :
    stepI d hr hi lr li (ix2 r q) = hi (ix2 r q) + lr (ix3 0 0 q) * shift d hi (ix2 r q) + li (ix3 0 0 q) * shift d hr (ix2 r q) := by
  generalize h1 : shift d hr = A
  generalize h2 : shift d hi = B
  unfold stepI
  rw [h1, h2]
  pointwise []

/-- The states before each chunk, real parts beside imaginary parts. -/
def HC (hr hi : FVec Ideal S1024x128 .f32) : FVec Ideal S1024x256 .bf16 :=
  truncf .bf16 (concatenate S1024x256 1 [⟨S1024x128, shift 1 hr⟩, ⟨S1024x128, shift 1 hi⟩] concatenates_S1024x128_S1024x128_S1024x256_d1) bitsLt_bf16_f32

/-- What is stored for one group: its inputs by the table of answers inside a chunk, and the states by the table of answers to them. -/
def Y (u : FVec Ideal S1x1024x256 .bf16) (h : FVec Ideal S1024x256 .bf16) (a b : FVec Ideal S1x256x256 .bf16) : FVec Ideal S1x1024x256 .f32 :=
  shapeCast S1x1024x256 (addf (matmul dot_S1024x256_S256x256_S1024x256_1_0_0_1_n_n none (shapeCast S1024x256 u shapeCasts_S1x1024x256_S1024x256) (shapeCast S256x256 a shapeCasts_S1x256x256_S256x256) (constant S1024x256 .f32 0x00000000#32))
   (matmul dot_S1024x256_S256x256_S1024x256_1_0_0_1_n_n none h (shapeCast S256x256 b shapeCasts_S1x256x256_S256x256) (constant S1024x256 .f32 0x00000000#32))) shapeCasts_S1024x256_S1x1024x256

/-- The answer of a group: inside its chunk, and from the state before it. -/
theorem Y_at (u : FVec Ideal S1x1024x256 .bf16) (h : FVec Ideal S1024x256 .bf16) (a b : FVec Ideal S1x256x256 .bf16) (r : Fin 1024) (j : Fin 256) :
    Y u h a b (ix3 0 r j) = (∑ t : Fin 256, u (ix3 0 r t) * a (ix3 0 t j)) + ∑ t : Fin 256, h (ix2 r t) * b (ix3 0 t j) := by
  pointwise [Y]

/-- The states before each chunk, real and imaginary parts side by side. -/
theorem HC_at (hr hi : FVec Ideal S1024x128 .f32) (r : Fin 1024) (t : Fin 256) :
    HC hr hi (ix2 r t) = if h : t.val < 128 then shift 1 hr (ix2 r ⟨t.val, h⟩) else shift 1 hi (ix2 r ⟨t.val - 128, by omega⟩) := by
  generalize h1 : shift 1 hr = A
  generalize h2 : shift 1 hi = B
  unfold HC
  rw [h1, h2]
  pointwise []

end Cert.KernelIdeal.Body

end
-- ==== Proof.S5BodyTerms.lean ====
/- The kernel body written out: the states before and after each of the eight doubling steps, and the output block. -/
module

public import proofs.«01_k».proof.Proof.KernelIdealFrame
public import proofs.«01_k».proof.Proof.S5BodyOps
public import Idealize.ShloMosaic.Lib.Pipeline.ValueKit
public import Idealize.ShloMosaic.Lib.Pointwise
public import proofs.«01_k».proof.Proof.ScanMath

@[expose] public section

set_option maxRecDepth 16384

noncomputable section

namespace Cert.KernelIdeal.Body

open Cert.S5Idx Cert.KernelIdeal Cert.KernelIdeal.Gen Idealize.ShloMosaic Idealize.ShloMosaic.TcCoe Idealize.SL.Sem

/-- The two halves after `s` doublings, from the rows of the table of decays. -/
def H0R (x0 : Vec Ideal S2x1024x256 .bf16) (x1 x2 x3 : Vec Ideal S2x256x256 .bf16) (x4 : Vec Ideal S1x8x256 .f32) : FVec Ideal S1024x128 .f32 := k0_pay64 (F := Ideal) x0 x1 x2 x3 x4
/-- Imaginary parts of the states before the first step. -/
def H0I (x0 : Vec Ideal S2x1024x256 .bf16) (x1 x2 x3 : Vec Ideal S2x256x256 .bf16) (x4 : Vec Ideal S1x8x256 .f32) : FVec Ideal S1024x128 .f32 := k0_pay65 (F := Ideal) x0 x1 x2 x3 x4
/-- Real parts of the states after step 1. -/
def H1R (x0 : Vec Ideal S2x1024x256 .bf16) (x1 x2 x3 : Vec Ideal S2x256x256 .bf16) (x4 : Vec Ideal S1x8x256 .f32) : FVec Ideal S1024x128 .f32 := stepR 1 (H0R x0 x1 x2 x3 x4) (H0I x0 x1 x2 x3 x4) (View.ld x4 r0_4) (View.ld x4 r0_5)
/-- Imaginary parts of the states after step 1. -/
def H1I (x0 : Vec Ideal S2x1024x256 .bf16) (x1 x2 x3 : Vec Ideal S2x256x256 .bf16) (x4 : Vec Ideal S1x8x256 .f32) : FVec Ideal S1024x128 .f32 := stepI 1 (H0R x0 x1 x2 x3 x4) (H0I x0 x1 x2 x3 x4) (View.ld x4 r0_4) (View.ld x4 r0_5)
/-- Real parts of the states after step 2. -/
def H2R (x0 : Vec Ideal S2x1024x256 .bf16) (x1 x2 x3 : Vec Ideal S2x256x256 .bf16) (x4 : Vec Ideal S1x8x256 .f32) : FVec Ideal S1024x128 .f32 := stepR 2 (H1R x0 x1 x2 x3 x4) (H1I x0 x1 x2 x3 x4) (View.ld x4 r0_6) (View.ld x4 r0_7)
/-- Imaginary parts of the states after step 2. -/
def H2I (x0 : Vec Ideal S2x1024x256 .bf16) (x1 x2 x3 : Vec Ideal S2x256x256 .bf16) (x4 : Vec Ideal S1x8x256 .f32) : FVec Ideal S1024x128 .f32 := stepI 2 (H1R x0 x1 x2 x3 x4) (H1I x0 x1 x2 x3 x4) (View.ld x4 r0_6) (View.ld x4 r0_7)
/-- Real parts of the states after step 3. -/
def H3R (x0 : Vec Ideal S2x1024x256 .bf16) (x1 x2 x3 : Vec Ideal S2x256x256 .bf16) (x4 : Vec Ideal S1x8x256 .f32) : FVec Ideal S1024x128 .f32 := stepR 4 (H2R x0 x1 x2 x3 x4) (H2I x0 x1 x2 x3 x4) (View.ld x4 r0_8) (View.ld x4 r0_9)
/-- Imaginary parts of the states after step 3. -/
def H3I (x0 : Vec Ideal S2x1024x256 .bf16) (x1 x2 x3 : Vec Ideal S2x256x256 .bf16) (x4 : Vec Ideal S1x8x256 .f32) : FVec Ideal S1024x128 .f32 := stepI 4 (H2R x0 x1 x2 x3 x4) (H2I x0 x1 x2 x3 x4) (View.ld x4 r0_8) (View.ld x4 r0_9)
/-- Real parts of the states after step 4. -/
def H4R (x0 : Vec Ideal S2x1024x256 .bf16) (x1 x2 x3 : Vec Ideal S2x256x256 .bf16) (x4 : Vec Ideal S1x8x256 .f32) : FVec Ideal S1024x128 .f32 := stepR 8 (H3R x0 x1 x2 x3 x4) (H3I x0 x1 x2 x3 x4) (View.ld x4 r0_10) (View.ld x4 r0_11)
/-- Imaginary parts of the states after step 4. -/
def H4I (x0 : Vec Ideal S2x1024x256 .bf16) (x1 x2 x3 : Vec Ideal S2x256x256 .bf16) (x4 : Vec Ideal S1x8x256 .f32) : FVec Ideal S1024x128 .f32 := stepI 8 (H3R x0 x1 x2 x3 x4) (H3I x0 x1 x2 x3 x4) (View.ld x4 r0_10) (View.ld x4 r0_11)
/-- Real parts of the states after step 5. -/
def H5R (x0 : Vec Ideal S2x1024x256 .bf16) (x1 x2 x3 : Vec Ideal S2x256x256 .bf16) (x4 : Vec Ideal S1x8x256 .f32) : FVec Ideal S1024x128 .f32 := stepR 16 (H4R x0 x1 x2 x3 x4) (H4I x0 x1 x2 x3 x4) (View.ld x4 r0_12) (View.ld x4 r0_13)
/-- Imaginary parts of the states after step 5. -/
def H5I (x0 : Vec Ideal S2x1024x256 .bf16) (x1 x2 x3 : Vec Ideal S2x256x256 .bf16) (x4 : Vec Ideal S1x8x256 .f32) : FVec Ideal S1024x128 .f32 := stepI 16 (H4R x0 x1 x2 x3 x4) (H4I x0 x1 x2 x3 x4) (View.ld x4 r0_12) (View.ld x4 r0_13)
/-- Real parts of the states after step 6. -/
def H6R (x0 : Vec Ideal S2x1024x256 .bf16) (x1 x2 x3 : Vec Ideal S2x256x256 .bf16) (x4 : Vec Ideal S1x8x256 .f32) : FVec Ideal S1024x128 .f32 := stepR 32 (H5R x0 x1 x2 x3 x4) (H5I x0 x1 x2 x3 x4) (View.ld x4 r0_14) (View.ld x4 r0_15)
/-- Imaginary parts of the states after step 6. -/
def H6I (x0 : Vec Ideal S2x1024x256 .bf16) (x1 x2 x3 : Vec Ideal S2x256x256 .bf16) (x4 : Vec Ideal S1x8x256 .f32) : FVec Ideal S1024x128 .f32 := stepI 32 (H5R x0 x1 x2 x3 x4) (H5I x0 x1 x2 x3 x4) (View.ld x4 r0_14) (View.ld x4 r0_15)
/-- Real parts of the states after step 7. -/
def H7R (x0 : Vec Ideal S2x1024x256 .bf16) (x1 x2 x3 : Vec Ideal S2x256x256 .bf16) (x4 : Vec Ideal S1x8x256 .f32) : FVec Ideal S1024x128 .f32 := stepR 64 (H6R x0 x1 x2 x3 x4) (H6I x0 x1 x2 x3 x4) (View.ld x4 r0_16) (View.ld x4 r0_17)
/-- Imaginary parts of the states after step 7. -/
def H7I (x0 : Vec Ideal S2x1024x256 .bf16) (x1 x2 x3 : Vec Ideal S2x256x256 .bf16) (x4 : Vec Ideal S1x8x256 .f32) : FVec Ideal S1024x128 .f32 := stepI 64 (H6R x0 x1 x2 x3 x4) (H6I x0 x1 x2 x3 x4) (View.ld x4 r0_16) (View.ld x4 r0_17)
/-- Real parts of the states after step 8. -/
def H8R (x0 : Vec Ideal S2x1024x256 .bf16) (x1 x2 x3 : Vec Ideal S2x256x256 .bf16) (x4 : Vec Ideal S1x8x256 .f32) : FVec Ideal S1024x128 .f32 := stepR 128 (H7R x0 x1 x2 x3 x4) (H7I x0 x1 x2 x3 x4) (View.ld x4 r0_18) (View.ld x4 r0_19)
/-- Imaginary parts of the states after step 8. -/
def H8I (x0 : Vec Ideal S2x1024x256 .bf16) (x1 x2 x3 : Vec Ideal S2x256x256 .bf16) (x4 : Vec Ideal S1x8x256 .f32) : FVec Ideal S1024x128 .f32 := stepI 128 (H7R x0 x1 x2 x3 x4) (H7I x0 x1 x2 x3 x4) (View.ld x4 r0_18) (View.ld x4 r0_19)

set_option maxHeartbeats 4000000 in
theorem eq68 (x0 : Vec Ideal S2x1024x256 .bf16) (x1 x2 x3 : Vec Ideal S2x256x256 .bf16) (x4 : Vec Ideal S1x8x256 .f32) : k0_pay68 (F := Ideal) x0 x1 x2 x3 x4 = H2R x0 x1 x2 x3 x4 := rfl

set_option maxHeartbeats 4000000 in
theorem eq71 (x0 : Vec Ideal S2x1024x256 .bf16) (x1 x2 x3 : Vec Ideal S2x256x256 .bf16) (x4 : Vec Ideal S1x8x256 .f32) : k0_pay71 (F := Ideal) x0 x1 x2 x3 x4 = H3R x0 x1 x2 x3 x4 := rfl

set_option maxHeartbeats 4000000 in
theorem eq72 (x0 : Vec Ideal S2x1024x256 .bf16) (x1 x2 x3 : Vec Ideal S2x256x256 .bf16) (x4 : Vec Ideal S1x8x256 .f32) : k0_pay72 (F := Ideal) x0 x1 x2 x3 x4 = H3I x0 x1 x2 x3 x4 := rfl

set_option maxHeartbeats 4000000 in
theorem eq78 (x0 : Vec Ideal S2x1024x256 .bf16) (x1 x2 x3 : Vec Ideal S2x256x256 .bf16) (x4 : Vec Ideal S1x8x256 .f32) : k0_pay78 (F := Ideal) x0 x1 x2 x3 x4 = H5R x0 x1 x2 x3 x4 := rfl

set_option maxHeartbeats 4000000 in
theorem eq79 (x0 : Vec Ideal S2x1024x256 .bf16) (x1 x2 x3 : Vec Ideal S2x256x256 .bf16) (x4 : Vec Ideal S1x8x256 .f32) : k0_pay79 (F := Ideal) x0 x1 x2 x3 x4 = H5I x0 x1 x2 x3 x4 := rfl

set_option maxHeartbeats 4000000 in
theorem eq83 (x0 : Vec Ideal S2x1024x256 .bf16) (x1 x2 x3 : Vec Ideal S2x256x256 .bf16) (x4 : Vec Ideal S1x8x256 .f32) : k0_pay83 (F := Ideal) x0 x1 x2 x3 x4 = H7R x0 x1 x2 x3 x4 := rfl

set_option maxHeartbeats 4000000 in
theorem eq84 (x0 : Vec Ideal S2x1024x256 .bf16) (x1 x2 x3 : Vec Ideal S2x256x256 .bf16) (x4 : Vec Ideal S1x8x256 .f32) : k0_pay84 (F := Ideal) x0 x1 x2 x3 x4 = H7I x0 x1 x2 x3 x4 := rfl

set_option maxHeartbeats 4000000 in
theorem out_eq (x0 : Vec Ideal S2x1024x256 .bf16) (x1 x2 x3 : Vec Ideal S2x256x256 .bf16) (x4 : Vec Ideal S1x8x256 .f32) : out0_5 (F := Ideal) x0 x1 x2 x3 x4 = View.canon [⟨r0_1, Y (View.ld x0 r0_1 : Vec Ideal S1x1024x256 .bf16) (HC (H8R x0 x1 x2 x3 x4) (H8I x0 x1 x2 x3 x4)) (View.ld x1 r0_3 : Vec Ideal S1x256x256 .bf16) (View.ld x3 r0_3 : Vec Ideal S1x256x256 .bf16)⟩,
    ⟨r0_0, Y (View.ld x0 r0_0 : Vec Ideal S1x1024x256 .bf16) (HC (H8R x0 x1 x2 x3 x4) (H8I x0 x1 x2 x3 x4)) (View.ld x1 r0_2 : Vec Ideal S1x256x256 .bf16) (View.ld x3 r0_2 : Vec Ideal S1x256x256 .bf16)⟩] := rfl

/-- The sum of a chunk, for two groups. -/
theorem H0_at (x0 : Vec Ideal S2x1024x256 .bf16) (x1 x2 x3 : Vec Ideal S2x256x256 .bf16) (x4 : Vec Ideal S1x8x256 .f32) (r : Fin 1024) (q : Fin 128) : (H0R x0 x1 x2 x3 x4 (ix2 r q)
     = (∑ t : Fin 256, x0 (ix3 0 r t) * x2 (ix3 0 t ⟨q.val, by omega⟩)) + ∑ t : Fin 256, x0 (ix3 1 r t) * x2 (ix3 1 t ⟨q.val, by omega⟩))
   ∧ (H0I x0 x1 x2 x3 x4 (ix2 r q)
     = (∑ t : Fin 256, x0 (ix3 0 r t) * x2 (ix3 0 t ⟨128 + q.val, by omega⟩)) + ∑ t : Fin 256, x0 (ix3 1 r t) * x2 (ix3 1 t ⟨128 + q.val, by omega⟩)) := by
  constructor
  · unfold H0R k0_pay64
    pointwise [k0_pay6, k0_pay5, k0_pay3, k0_pay4]
  · unfold H0I k0_pay65
    pointwise [k0_pay7, k0_pay6, k0_pay5, k0_pay3, k0_pay4]

end Cert.KernelIdeal.Body

end
-- ==== Proof.S5BodySteps.lean ====
/- One pass of the recurrence's kernel body over real tables: what lands in the output block is the layer's recurrence. -/
module

public import proofs.«01_k».proof.Proof.S5BodyTerms
public import proofs.«01_k».proof.Proof.S5Real

@[expose] public section

set_option maxRecDepth 16384

noncomputable section

namespace Cert.KernelIdeal.Body

open Cert.S5Idx Cert.S5Real Cert.KernelIdeal Cert.KernelIdeal.Gen Idealize.ShloMosaic Idealize.ShloMosaic.TcCoe Idealize.SL.Sem

/-- A sum of real entries is real. -/
theorem coe_fin_sum {n : ℕ} (f : Fin n → EReal) (g : ℕ → ℝ) (h : ∀ t : Fin n, f t = ((g t.val : ℝ) : EReal)) :
    ∑ t, f t = ((∑ t ∈ Finset.range n, g t : ℝ) : EReal) := by
  rw [Finset.sum_congr rfl fun t _ => h t, Finset.sum_range]
  induction (Finset.univ : Finset (Fin n)) using Finset.induction_on with
  | empty => simp
  | insert a s ha ih => rw [Finset.sum_insert ha, Finset.sum_insert ha, ih, EReal.coe_add]

variable (lam : ℕ → ℕ → ℂ) (B C : ℕ → ℕ → ℕ → ℂ) (uu : ℕ → ℕ → ℕ → ℝ)

/-- The two halves hold the states gathered over the last `n` chunks. -/
def Holds (n : ℕ) (hr hi : FVec Ideal S1024x128 .f32) : Prop :=
  ∀ (r : Fin 1024) (q : Fin 128), hr (ix2 r q) = (((W lam B uu n r.val q.val).re : ℝ) : EReal) ∧ hi (ix2 r q) = (((W lam B uu n r.val q.val).im : ℝ) : EReal)

/-- A masked rotation of real states is real. -/
theorem shift_holds (d n : ℕ) (hd : d < 256) (hr hi : FVec Ideal S1024x128 .f32) (H : Holds lam B uu n hr hi) (r : Fin 1024) (q : Fin 128) :
    shift d hr (ix2 r q) = (((if d ≤ r.val % 256 then W lam B uu n (r.val - d) q.val else 0 : ℂ).re : ℝ) : EReal)
    ∧ shift d hi (ix2 r q) = (((if d ≤ r.val % 256 then W lam B uu n (r.val - d) q.val else 0 : ℂ).im : ℝ) : EReal) := by
  rw [shift_at d hd, shift_at d hd]
  by_cases h : d ≤ r.val % 256
  · rw [if_pos h, if_pos h, if_pos h]
    exact H ⟨r.val - d, by omega⟩ q
  · rw [if_neg h, if_neg h, if_neg h]
    exact ⟨rfl, rfl⟩

/-- One doubling step doubles the window. -/
theorem step_holds (d : ℕ) (hd : d < 256) (hr hi : FVec Ideal S1024x128 .f32) (lr li : Vec Ideal S1x1x128 .f32) (H : Holds lam B uu d hr hi)
    (hl : ∀ q : Fin 128, lr (ix3 0 0 q) = (((lam (q.val / 64) (q.val % 64) ^ (16 * d)).re : ℝ) : EReal) ∧ li (ix3 0 0 q) = (((lam (q.val / 64) (q.val % 64) ^ (16 * d)).im : ℝ) : EReal)) :
    Holds lam B uu (2 * d) (stepR d hr hi lr li) (stepI d hr hi lr li) := by
  intro r q
  obtain ⟨s1, s2⟩ := shift_holds lam B uu d d hd hr hi H r q
  obtain ⟨h1, h2⟩ := H r q
  obtain ⟨l1, l2⟩ := hl q
  rw [stepR_at, stepI_at, s1, s2, h1, h2, l1, l2, W_double, Complex.add_re, Complex.add_im, Complex.mul_re, Complex.mul_im]
  refine ⟨?_, ?_⟩
  · rw [← EReal.coe_mul, ← EReal.coe_mul, ← EReal.coe_add, ← EReal.coe_sub, add_sub_assoc]
  · rw [← EReal.coe_mul, ← EReal.coe_mul, ← EReal.coe_add, ← EReal.coe_add, add_assoc]

variable (x0 : Vec Ideal S2x1024x256 .bf16) (x1 x2 x3 : Vec Ideal S2x256x256 .bf16) (x4 : Vec Ideal S1x8x256 .f32)

/-- Before the first step the window is one chunk long. -/
theorem start_holds (hx0 : ∀ (s : Fin 2) (r : Fin 1024) (t : Fin 256), x0 (ix3 s r t) = ((uu s.val (16 * r.val + t.val / 16) (t.val % 16) : ℝ) : EReal))
    (hx2 : ∀ (s : Fin 2) (t j : Fin 256), x2 (ix3 s t j) = ((tab2 lam B s.val t.val j.val : ℝ) : EReal)) :
    Holds lam B uu 1 (H0R x0 x1 x2 x3 x4) (H0I x0 x1 x2 x3 x4) := by
  intro r q
  obtain ⟨h1, h2⟩ := H0_at x0 x1 x2 x3 x4 r q
  have e : ∀ (s : Fin 2) (c : Fin 256), (∑ t : Fin 256, x0 (ix3 s r t) * x2 (ix3 s t c) : EReal)
      = ((∑ t ∈ Finset.range 256, uu s.val (16 * r.val + t / 16) (t % 16) * tab2 lam B s.val t c.val : ℝ) : EReal) := fun s c =>
    coe_fin_sum _ (fun t => uu s.val (16 * r.val + t / 16) (t % 16) * tab2 lam B s.val t c.val) fun t => by rw [hx0, hx2, ← EReal.coe_mul]
  rw [h1, h2]
  refine ⟨?_, ?_⟩
  · refine (congrArg₂ (· + ·) (e 0 ⟨q.val, by omega⟩) (e 1 ⟨q.val, by omega⟩)).trans ?_
    rw [← start_re lam B uu r.val q.val q.isLt, EReal.coe_add]
    rfl
  · refine (congrArg₂ (· + ·) (e 0 ⟨128 + q.val, by omega⟩) (e 1 ⟨128 + q.val, by omega⟩)).trans ?_
    rw [← start_im lam B uu r.val q.val q.isLt, EReal.coe_add]
    rfl

/-- Row 0 of the squared poles, as the body reads it. -/
theorem row0_at (hx4 : ∀ (l : Fin 8) (j : Fin 256), x4 (ix3 0 l j) = ((tab4 lam l.val j.val : ℝ) : EReal)) (q : Fin 128) :
    (View.ld x4 r0_4 : Vec Ideal S1x1x128 .f32) (ix3 0 0 q) = (((lam (q.val / 64) (q.val % 64) ^ (16 * 1)).re : ℝ) : EReal)
    ∧ (View.ld x4 r0_5 : Vec Ideal S1x1x128 .f32) (ix3 0 0 q) = (((lam (q.val / 64) (q.val % 64) ^ (16 * 1)).im : ℝ) : EReal) := by
  have hq := q.isLt
  refine ⟨?_, ?_⟩
  · have : (View.ld x4 r0_4 : Vec Ideal S1x1x128 .f32) (ix3 0 0 q) = x4 (ix3 0 0 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 0)).re : ℝ) : EReal) = _
    rw [show q.val / 64 % 2 = q.val / 64 by omega]
    rfl
  · have : (View.ld x4 r0_5 : Vec Ideal S1x1x128 .f32) (ix3 0 0 q) = x4 (ix3 0 0 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 0)).im : ℝ) : EReal) = _
    rw [show (128 + q.val) / 64 % 2 = q.val / 64 by omega, show (128 + q.val) % 64 = q.val % 64 by omega]
    rfl

/-- Row 1 of the squared poles, as the body reads it. -/
theorem row1_at (hx4 : ∀ (l : Fin 8) (j : Fin 256), x4 (ix3 0 l j) = ((tab4 lam l.val j.val : ℝ) : EReal)) (q : Fin 128) :
    (View.ld x4 r0_6 : Vec Ideal S1x1x128 .f32) (ix3 0 0 q) = (((lam (q.val / 64) (q.val % 64) ^ (16 * 2)).re : ℝ) : EReal)
    ∧ (View.ld x4 r0_7 : Vec Ideal S1x1x128 .f32) (ix3 0 0 q) = (((lam (q.val / 64) (q.val % 64) ^ (16 * 2)).im : ℝ) : EReal) := by
  have hq := q.isLt
  refine ⟨?_, ?_⟩
  · have : (View.ld x4 r0_6 : Vec Ideal S1x1x128 .f32) (ix3 0 0 q) = x4 (ix3 0 1 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 1)).re : ℝ) : EReal) = _
    rw [show q.val / 64 % 2 = q.val / 64 by omega]
    rfl
  · have : (View.ld x4 r0_7 : Vec Ideal S1x1x128 .f32) (ix3 0 0 q) = x4 (ix3 0 1 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 1)).im : ℝ) : EReal) = _
    rw [show (128 + q.val) / 64 % 2 = q.val / 64 by omega, show (128 + q.val) % 64 = q.val % 64 by omega]
    rfl

/-- Row 2 of the squared poles, as the body reads it. -/
theorem row2_at (hx4 : ∀ (l : Fin 8) (j : Fin 256), x4 (ix3 0 l j) = ((tab4 lam l.val j.val : ℝ) : EReal)) (q : Fin 128) :
    (View.ld x4 r0_8 : Vec Ideal S1x1x128 .f32) (ix3 0 0 q) = (((lam (q.val / 64) (q.val % 64) ^ (16 * 4)).re : ℝ) : EReal)
    ∧ (View.ld x4 r0_9 : Vec Ideal S1x1x128 .f32) (ix3 0 0 q) = (((lam (q.val / 64) (q.val % 64) ^ (16 * 4)).im : ℝ) : EReal) := by
  have hq := q.isLt
  refine ⟨?_, ?_⟩
  · have : (View.ld x4 r0_8 : Vec Ideal S1x1x128 .f32) (ix3 0 0 q) = x4 (ix3 0 2 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 2)).re : ℝ) : EReal) = _
    rw [show q.val / 64 % 2 = q.val / 64 by omega]
    rfl
  · have : (View.ld x4 r0_9 : Vec Ideal S1x1x128 .f32) (ix3 0 0 q) = x4 (ix3 0 2 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 2)).im : ℝ) : EReal) = _
    rw [show (128 + q.val) / 64 % 2 = q.val / 64 by omega, show (128 + q.val) % 64 = q.val % 64 by omega]
    rfl

/-- Row 3 of the squared poles, as the body reads it. -/
theorem row3_at (hx4 : ∀ (l : Fin 8) (j : Fin 256), x4 (ix3 0 l j) = ((tab4 lam l.val j.val : ℝ) : EReal)) (q : Fin 128) :
    (View.ld x4 r0_10 : Vec Ideal S1x1x128 .f32) (ix3 0 0 q) = (((lam (q.val / 64) (q.val % 64) ^ (16 * 8)).re : ℝ) : EReal)
    ∧ (View.ld x4 r0_11 : Vec Ideal S1x1x128 .f32) (ix3 0 0 q) = (((lam (q.val / 64) (q.val % 64) ^ (16 * 8)).im : ℝ) : EReal) := by
  have hq := q.isLt
  refine ⟨?_, ?_⟩
  · have : (View.ld x4 r0_10 : Vec Ideal S1x1x128 .f32) (ix3 0 0 q) = x4 (ix3 0 3 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 3)).re : ℝ) : EReal) = _
    rw [show q.val / 64 % 2 = q.val / 64 by omega]
    rfl
  · have : (View.ld x4 r0_11 : Vec Ideal S1x1x128 .f32) (ix3 0 0 q) = x4 (ix3 0 3 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 3)).im : ℝ) : EReal) = _
    rw [show (128 + q.val) / 64 % 2 = q.val / 64 by omega, show (128 + q.val) % 64 = q.val % 64 by omega]
    rfl

/-- Row 4 of the squared poles, as the body reads it. -/
theorem row4_at (hx4 : ∀ (l : Fin 8) (j : Fin 256), x4 (ix3 0 l j) = ((tab4 lam l.val j.val : ℝ) : EReal)) (q : Fin 128) :
    (View.ld x4 r0_12 : Vec Ideal S1x1x128 .f32) (ix3 0 0 q) = (((lam (q.val / 64) (q.val % 64) ^ (16 * 16)).re : ℝ) : EReal)
    ∧ (View.ld x4 r0_13 : Vec Ideal S1x1x128 .f32) (ix3 0 0 q) = (((lam (q.val / 64) (q.val % 64) ^ (16 * 16)).im : ℝ) : EReal) := by
  have hq := q.isLt
  refine ⟨?_, ?_⟩
  · have : (View.ld x4 r0_12 : Vec Ideal S1x1x128 .f32) (ix3 0 0 q) = x4 (ix3 0 4 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 4)).re : ℝ) : EReal) = _
    rw [show q.val / 64 % 2 = q.val / 64 by omega]
    rfl
  · have : (View.ld x4 r0_13 : Vec Ideal S1x1x128 .f32) (ix3 0 0 q) = x4 (ix3 0 4 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 4)).im : ℝ) : EReal) = _
    rw [show (128 + q.val) / 64 % 2 = q.val / 64 by omega, show (128 + q.val) % 64 = q.val % 64 by omega]
    rfl

/-- Row 5 of the squared poles, as the body reads it. -/
theorem row5_at (hx4 : ∀ (l : Fin 8) (j : Fin 256), x4 (ix3 0 l j) = ((tab4 lam l.val j.val : ℝ) : EReal)) (q : Fin 128) :
    (View.ld x4 r0_14 : Vec Ideal S1x1x128 .f32) (ix3 0 0 q) = (((lam (q.val / 64) (q.val % 64) ^ (16 * 32)).re : ℝ) : EReal)
    ∧ (View.ld x4 r0_15 : Vec Ideal S1x1x128 .f32) (ix3 0 0 q) = (((lam (q.val / 64) (q.val % 64) ^ (16 * 32)).im : ℝ) : EReal) := by
  have hq := q.isLt
  refine ⟨?_, ?_⟩
  · have : (View.ld x4 r0_14 : Vec Ideal S1x1x128 .f32) (ix3 0 0 q) = x4 (ix3 0 5 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 5)).re : ℝ) : EReal) = _
    rw [show q.val / 64 % 2 = q.val / 64 by omega]
    rfl
  · have : (View.ld x4 r0_15 : Vec Ideal S1x1x128 .f32) (ix3 0 0 q) = x4 (ix3 0 5 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 5)).im : ℝ) : EReal) = _
    rw [show (128 + q.val) / 64 % 2 = q.val / 64 by omega, show (128 + q.val) % 64 = q.val % 64 by omega]
    rfl

/-- Row 6 of the squared poles, as the body reads it. -/
theorem row6_at (hx4 : ∀ (l : Fin 8) (j : Fin 256), x4 (ix3 0 l j) = ((tab4 lam l.val j.val : ℝ) : EReal)) (q : Fin 128) :
    (View.ld x4 r0_16 : Vec Ideal S1x1x128 .f32) (ix3 0 0 q) = (((lam (q.val / 64) (q.val % 64) ^ (16 * 64)).re : ℝ) : EReal)
    ∧ (View.ld x4 r0_17 : Vec Ideal S1x1x128 .f32) (ix3 0 0 q) = (((lam (q.val / 64) (q.val % 64) ^ (16 * 64)).im : ℝ) : EReal) := by
  have hq := q.isLt
  refine ⟨?_, ?_⟩
  · have : (View.ld x4 r0_16 : Vec Ideal S1x1x128 .f32) (ix3 0 0 q) = x4 (ix3 0 6 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 6)).re : ℝ) : EReal) = _
    rw [show q.val / 64 % 2 = q.val / 64 by omega]
    rfl
  · have : (View.ld x4 r0_17 : Vec Ideal S1x1x128 .f32) (ix3 0 0 q) = x4 (ix3 0 6 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 6)).im : ℝ) : EReal) = _
    rw [show (128 + q.val) / 64 % 2 = q.val / 64 by omega, show (128 + q.val) % 64 = q.val % 64 by omega]
    rfl

/-- Row 7 of the squared poles, as the body reads it. -/
theorem row7_at (hx4 : ∀ (l : Fin 8) (j : Fin 256), x4 (ix3 0 l j) = ((tab4 lam l.val j.val : ℝ) : EReal)) (q : Fin 128) :
    (View.ld x4 r0_18 : Vec Ideal S1x1x128 .f32) (ix3 0 0 q) = (((lam (q.val / 64) (q.val % 64) ^ (16 * 128)).re : ℝ) : EReal)
    ∧ (View.ld x4 r0_19 : Vec Ideal S1x1x128 .f32) (ix3 0 0 q) = (((lam (q.val / 64) (q.val % 64) ^ (16 * 128)).im : ℝ) : EReal) := by
  have hq := q.isLt
  refine ⟨?_, ?_⟩
  · have : (View.ld x4 r0_18 : Vec Ideal S1x1x128 .f32) (ix3 0 0 q) = x4 (ix3 0 7 ⟨q.val, by omega⟩) := by
      refine congrArg x4 (funext fun b => ?_)
      fin_cases b
      · rfl
      · rfl
      · exact Fin.ext (by show 0 + 1 * q.val = q.val; omega)
    rw [this, hx4]
    unfold tab4
    rw [if_pos hq]
    show ((((lam (q.val / 64 % 2) (q.val % 64)) ^ (16 * 2 ^ 7)).re : ℝ) : EReal) = _
    rw [show q.val / 64 % 2 = q.val / 64 by omega]
    rfl
  · have : (View.ld x4 r0_19 : Vec Ideal S1x1x128 .f32) (ix3 0 0 q) = x4 (ix3 0 7 ⟨128 + q.val, by omega⟩) := by
      refine congrArg x4 (funext fun b => ?_)
      fin_cases b
      · rfl
      · rfl
      · exact Fin.ext (by show 128 + 1 * q.val = 128 + q.val; omega)
    rw [this, hx4]
    unfold tab4
    rw [if_neg (show ¬ 128 + q.val < 128 by omega)]
    show ((((lam ((128 + q.val) / 64 % 2) ((128 + q.val) % 64)) ^ (16 * 2 ^ 7)).im : ℝ) : EReal) = _
    rw [show (128 + q.val) / 64 % 2 = q.val / 64 by omega, show (128 + q.val) % 64 = q.val % 64 by omega]
    rfl

/-- After eight steps the window is the whole sequence. -/
theorem all_holds (hx0 : ∀ (s : Fin 2) (r : Fin 1024) (t : Fin 256), x0 (ix3 s r t) = ((uu s.val (16 * r.val + t.val / 16) (t.val % 16) : ℝ) : EReal))
    (hx2 : ∀ (s : Fin 2) (t j : Fin 256), x2 (ix3 s t j) = ((tab2 lam B s.val t.val j.val : ℝ) : EReal))
    (hx4 : ∀ (l : Fin 8) (j : Fin 256), x4 (ix3 0 l j) = ((tab4 lam l.val j.val : ℝ) : EReal)) :
    Holds lam B uu 256 (H8R x0 x1 x2 x3 x4) (H8I x0 x1 x2 x3 x4) := by
  have h0 := start_holds lam B uu x0 x1 x2 x3 x4 hx0 hx2
  have h1 : Holds lam B uu 2 (H1R x0 x1 x2 x3 x4) (H1I x0 x1 x2 x3 x4) := step_holds lam B uu 1 (by omega) _ _ _ _ h0 (row0_at lam x4 hx4)
  have h2 : Holds lam B uu 4 (H2R x0 x1 x2 x3 x4) (H2I x0 x1 x2 x3 x4) := step_holds lam B uu 2 (by omega) _ _ _ _ h1 (row1_at lam x4 hx4)
  have h3 : Holds lam B uu 8 (H3R x0 x1 x2 x3 x4) (H3I x0 x1 x2 x3 x4) := step_holds lam B uu 4 (by omega) _ _ _ _ h2 (row2_at lam x4 hx4)
  have h4 : Holds lam B uu 16 (H4R x0 x1 x2 x3 x4) (H4I x0 x1 x2 x3 x4) := step_holds lam B uu 8 (by omega) _ _ _ _ h3 (row3_at lam x4 hx4)
  have h5 : Holds lam B uu 32 (H5R x0 x1 x2 x3 x4) (H5I x0 x1 x2 x3 x4) := step_holds lam B uu 16 (by omega) _ _ _ _ h4 (row4_at lam x4 hx4)
  have h6 : Holds lam B uu 64 (H6R x0 x1 x2 x3 x4) (H6I x0 x1 x2 x3 x4) := step_holds lam B uu 32 (by omega) _ _ _ _ h5 (row5_at lam x4 hx4)
  have h7 : Holds lam B uu 128 (H7R x0 x1 x2 x3 x4) (H7I x0 x1 x2 x3 x4) := step_holds lam B uu 64 (by omega) _ _ _ _ h6 (row6_at lam x4 hx4)
  have h8 : Holds lam B uu 256 (H8R x0 x1 x2 x3 x4) (H8I x0 x1 x2 x3 x4) := step_holds lam B uu 128 (by omega) _ _ _ _ h7 (row7_at lam x4 hx4)
  exact h8

/-- The states before each chunk, side by side, as reals. -/
theorem HC_eq (hr hi : FVec Ideal S1024x128 .f32) (H : Holds lam B uu 256 hr hi) (r : Fin 1024) (t : Fin 256) :
    HC hr hi (ix2 r t) = (((if t.val < 128 then (G lam B uu r.val t.val).re else (G lam B uu r.val (t.val - 128)).im) : ℝ) : EReal) := by
  rw [HC_at]
  by_cases h : t.val < 128
  · rw [dif_pos h, if_pos h, (shift_holds lam B uu 1 256 (by omega) hr hi H r ⟨t.val, h⟩).1, W_full]
  · rw [dif_neg h, if_neg h, (shift_holds lam B uu 1 256 (by omega) hr hi H r ⟨t.val - 128, by omega⟩).2, W_full]

/-- The answer of a group, as a real. -/
theorem Y_eq (s : Fin 2) (u : FVec Ideal S1x1024x256 .bf16) (a b : FVec Ideal S1x256x256 .bf16) (hr hi : FVec Ideal S1024x128 .f32) (H : Holds lam B uu 256 hr hi)
    (hu : ∀ (r : Fin 1024) (t : Fin 256), u (ix3 0 r t) = ((uu s.val (16 * r.val + t.val / 16) (t.val % 16) : ℝ) : EReal))
    (ha : ∀ t j : Fin 256, a (ix3 0 t j) = ((tab1 lam B C s.val t.val j.val : ℝ) : EReal))
    (hb : ∀ t j : Fin 256, b (ix3 0 t j) = ((tab3 lam C s.val t.val j.val : ℝ) : EReal)) (r : Fin 1024) (j : Fin 256) :
    Y u (HC hr hi) a b (ix3 0 r j) = ((ans lam B C uu s.val r.val j.val : ℝ) : EReal) := by
  rw [Y_at, coe_fin_sum _ (fun t => uu s.val (16 * r.val + t / 16) (t % 16) * tab1 lam B C s.val t j.val) fun t => by rw [hu, ha, ← EReal.coe_mul],
    coe_fin_sum _ (fun t => (if t < 128 then (G lam B uu r.val t).re else (G lam B uu r.val (t - 128)).im) * tab3 lam C s.val t j.val)
      fun t => by rw [HC_eq lam B uu hr hi H, hb, ← EReal.coe_mul], ← EReal.coe_add, finish lam B C uu s.val r.val j.val s.isLt j.isLt]

end Cert.KernelIdeal.Body

end
-- ==== Proof.S5Body.lean ====
/- One pass of the recurrence's kernel body over real tables: what lands in the output block is the layer's recurrence. -/
module

public import proofs.«01_k».proof.Proof.S5BodySteps

@[expose] public section

set_option maxRecDepth 16384

noncomputable section

namespace Cert.KernelIdeal.Body

open Cert.S5Idx Cert.S5Real Cert.KernelIdeal Cert.KernelIdeal.Gen Idealize.ShloMosaic Idealize.ShloMosaic.TcCoe Idealize.SL.Sem

variable (lam : ℕ → ℕ → ℂ) (B C : ℕ → ℕ → ℕ → ℂ) (uu : ℕ → ℕ → ℕ → ℝ)

variable (x0 : Vec Ideal S2x1024x256 .bf16) (x1 x2 x3 : Vec Ideal S2x256x256 .bf16) (x4 : Vec Ideal S1x8x256 .f32)

/-- The first half of the input block. -/
theorem ld_u0 (x : Vec Ideal S2x1024x256 .bf16) (t : Fin 1024) (j : Fin 256) : (View.ld x r0_0 : Vec Ideal S1x1024x256 .bf16) (ix3 0 t j) = x (ix3 0 t j) := by
  refine congrArg x (funext fun b => ?_)
  fin_cases b
  · rfl
  · exact Fin.ext (by show 0 + 1 * t.val = t.val; omega)
  · exact Fin.ext (by show 0 + 1 * j.val = j.val; omega)

/-- The second half of the input block. -/
theorem ld_u1 (x : Vec Ideal S2x1024x256 .bf16) (t : Fin 1024) (j : Fin 256) : (View.ld x r0_1 : Vec Ideal S1x1024x256 .bf16) (ix3 0 t j) = x (ix3 1 t j) := by
  refine congrArg x (funext fun b => ?_)
  fin_cases b
  · rfl
  · exact Fin.ext (by show 0 + 1 * t.val = t.val; omega)
  · exact Fin.ext (by show 0 + 1 * j.val = j.val; omega)

/-- The first half of a table. -/
theorem ld_zero (x : Vec Ideal S2x256x256 .bf16) (t : Fin 256) (j : Fin 256) : (View.ld x r0_2 : Vec Ideal S1x256x256 .bf16) (ix3 0 t j) = x (ix3 0 t j) := by
  refine congrArg x (funext fun b => ?_)
  fin_cases b
  · rfl
  · exact Fin.ext (by show 0 + 1 * t.val = t.val; omega)
  · exact Fin.ext (by show 0 + 1 * j.val = j.val; omega)

/-- The second half of a table. -/
theorem ld_one (x : Vec Ideal S2x256x256 .bf16) (t : Fin 256) (j : Fin 256) : (View.ld x r0_3 : Vec Ideal S1x256x256 .bf16) (ix3 0 t j) = x (ix3 1 t j) := by
  refine congrArg x (funext fun b => ?_)
  fin_cases b
  · rfl
  · exact Fin.ext (by show 0 + 1 * t.val = t.val; omega)
  · exact Fin.ext (by show 0 + 1 * j.val = j.val; omega)

/-- The second half of the output block is what was stored there last. -/
theorem canon_snd (w1 w0 : Vec Ideal S1x1024x256 .f32) (r : Fin 1024) (j : Fin 256) :
    (View.canon [⟨r0_1, w1⟩, ⟨r0_0, w0⟩] : Vec Ideal S2x1024x256 .f32) (ix3 1 r j) = w1 (ix3 0 r j) := by
  have he : (ix3 1 r j : S2x1024x256.Idx) = r0_1.emb (ix3 0 r j) := by
    funext b
    fin_cases b
    · rfl
    · exact Fin.ext (by show r.val = 0 + 1 * r.val; omega)
    · exact Fin.ext (by show j.val = 0 + 1 * j.val; omega)
  rw [he]
  exact View.canon_cons_emb r0_1 _ _ (ix3 0 r j)

/-- The first half is untouched by the second store. -/
theorem not_mem_snd (r : Fin 1024) (j : Fin 256) : (ix3 0 r j : S2x1024x256.Idx) ∉ r0_1.set := by
  intro h
  have h1 : 1 ≤ (0 : ℕ) := (Rect.mem_set_unit.mp h 0).1
  exact absurd h1 (by decide)

/-- The first half, placed. -/
theorem emb_fst (r : Fin 1024) (j : Fin 256) : (ix3 0 r j : S2x1024x256.Idx) = r0_0.emb (ix3 0 r j) := by
  funext b
  fin_cases b
  · rfl
  · exact Fin.ext (by show r.val = 0 + 1 * r.val; omega)
  · exact Fin.ext (by show j.val = 0 + 1 * j.val; omega)

/-- The first half of the output block is what was stored there first. -/
theorem canon_fst (w1 w0 : Vec Ideal S1x1024x256 .f32) (r : Fin 1024) (j : Fin 256) :
    (View.canon [⟨r0_1, w1⟩, ⟨r0_0, w0⟩] : Vec Ideal S2x1024x256 .f32) (ix3 0 r j) = w0 (ix3 0 r j) := by
  have h1 := View.canon_cons_of_not_mem (Val := Elt Ideal) (e := .f32) ⟨r0_1, w1⟩ [⟨r0_0, w0⟩] (not_mem_snd r j)
  have h2 := View.canon_cons_emb (Val := Elt Ideal) (e := .f32) r0_0 w0 [] (ix3 0 r j)
  rw [← emb_fst r j] at h2
  exact h1.trans h2

/-- One pass of the body over real tables stores the recurrence's answers for both groups. -/
theorem out_at (hx0 : ∀ (s : Fin 2) (r : Fin 1024) (t : Fin 256), x0 (ix3 s r t) = ((uu s.val (16 * r.val + t.val / 16) (t.val % 16) : ℝ) : EReal))
    (hx1 : ∀ (s : Fin 2) (t j : Fin 256), x1 (ix3 s t j) = ((tab1 lam B C s.val t.val j.val : ℝ) : EReal))
    (hx2 : ∀ (s : Fin 2) (t j : Fin 256), x2 (ix3 s t j) = ((tab2 lam B s.val t.val j.val : ℝ) : EReal))
    (hx3 : ∀ (s : Fin 2) (t j : Fin 256), x3 (ix3 s t j) = ((tab3 lam C s.val t.val j.val : ℝ) : EReal))
    (hx4 : ∀ (l : Fin 8) (j : Fin 256), x4 (ix3 0 l j) = ((tab4 lam l.val j.val : ℝ) : EReal))
    (s : Fin 2) (r : Fin 1024) (j : Fin 256) : (out0_5 x0 x1 x2 x3 x4 : Vec Ideal S2x1024x256 .f32) (ix3 s r j) = ((ans lam B C uu s.val r.val j.val : ℝ) : EReal) := by
  have H := all_holds lam B uu x0 x1 x2 x3 x4 hx0 hx2 hx4
  rw [out_eq]
  generalize hR : H8R x0 x1 x2 x3 x4 = hr at H ⊢
  generalize hI : H8I x0 x1 x2 x3 x4 = hi at H ⊢
  have e1 := Y_eq lam B C uu 1 (View.ld x0 r0_1 : Vec Ideal S1x1024x256 .bf16) (View.ld x1 r0_3 : Vec Ideal S1x256x256 .bf16) (View.ld x3 r0_3 : Vec Ideal S1x256x256 .bf16) hr hi H
    (fun r t => (ld_u1 x0 r t).trans (hx0 1 r t)) (fun t j => (ld_one x1 t j).trans (hx1 1 t j)) (fun t j => (ld_one x3 t j).trans (hx3 1 t j))
  have e0 := Y_eq lam B C uu 0 (View.ld x0 r0_0 : Vec Ideal S1x1024x256 .bf16) (View.ld x1 r0_2 : Vec Ideal S1x256x256 .bf16) (View.ld x3 r0_2 : Vec Ideal S1x256x256 .bf16) hr hi H
    (fun r t => (ld_u0 x0 r t).trans (hx0 0 r t)) (fun t j => (ld_zero x1 t j).trans (hx1 0 t j)) (fun t j => (ld_zero x3 t j).trans (hx3 0 t j))
  fin_cases s
  · exact (canon_fst _ _ r j).trans (e0 r j)
  · exact (canon_snd _ _ r j).trans (e1 r j)

end Cert.KernelIdeal.Body

end
-- ==== Proof.HostEqsA.lean ====
/- What each of the first host operations leaves, in terms of what its operands hold at the launch: the step sizes, the
   discretised poles and input matrices, and the powers of the poles. -/
module

public import proofs.«01_k».proof.Proof.KernelIdealFrame
public import Idealize.ShloMosaic.Lib.Pipeline.ValueKit
public import Idealize.ShloMosaic.Lib.Pointwise

@[expose] public section

set_option maxRecDepth 65536

noncomputable section

namespace Cert.KernelIdeal.Host

open Cert.KernelIdeal Cert.KernelIdeal.Gen Idealize.ShloMosaic Idealize.ShloMosaic.TcCoe

variable (m : (ℓ : Loc nD τ sig) → Buf (Elt Ideal) ℓ)

theorem e_c (c : Dev nD) : V m c main_c = (fun i => lit0 (S16x16.rowMajor i)) :=
  HostLine.at_nullary rising _ 0 rfl rfl

theorem e_c_0 (c : Dev nD) : V m c main_c_0 = (constantI S16x16 1 0#1) :=
  HostLine.at_nullary rising _ 1 rfl rfl

theorem e_cst (c : Dev nD) : V m c main_cst = (fun i => FloatOps.ofBits (F := Ideal) .f32 (lit1 (S16x16.rowMajor i))) :=
  HostLine.at_nullary rising _ 2 rfl rfl

theorem e_v0 (c : Dev nD) : V m c main_v0 = shapeCast S1024x16x64x16 (V m c main_arg0) shapeCasts_S16384x1024_S1024x16x64x16 := by
  have h := HostLine.at_reshape rising (fun b => m (c, b)) 3 (x := main_arg0) (y := main_v0) rfl rfl (by decide)
  exact h

theorem e_v1 (c : Dev nD) : V m c main_v1 = ((transpose S64x1024x16x16 [2, 0, 1, 3] · transposes_S1024x16x64x16_S64x1024x16x16_2_0_1_3) : FVec Ideal S1024x16x64x16 .bf16 → FVec Ideal S64x1024x16x16 .bf16) (V m c main_v0) :=
  HostLine.at_unary rising _ 4 rfl rfl (by decide)

theorem e_v2 (c : Dev nD) : V m c main_v2 = shapeCast S64x1024x256 (V m c main_v1) shapeCasts_S64x1024x16x16_S64x1024x256 := by
  have h := HostLine.at_reshape rising (fun b => m (c, b)) 5 (x := main_v1) (y := main_v2) rfl rfl (by decide)
  exact h

theorem e_v3 (c : Dev nD) : V m c main_v3 = (Host.exp : FVec Ideal S64 .f32 → FVec Ideal S64 .f32) (V m c main_arg3) :=
  HostLine.at_unary rising _ 6 rfl rfl (by decide)

theorem e_v4 (c : Dev nD) : V m c main_v4 = (broadcastInDim S64x1 ![0] bcast_S64_S64x1_0 : FVec Ideal S64 .f32 → FVec Ideal S64x1 .f32) (V m c main_v3) :=
  HostLine.at_unary rising _ 7 rfl rfl (by decide)

theorem e_v5 (c : Dev nD) : V m c main_v5 = (broadcastInDim S64x64 ![0, 1] bcast_S64x1_S64x64_0_1 : FVec Ideal S64x1 .f32 → FVec Ideal S64x64 .f32) (V m c main_v4) :=
  HostLine.at_unary rising _ 8 rfl rfl (by decide)

theorem e_v6 (c : Dev nD) : V m c main_v6 = (mulf : FVec Ideal S64x64 .f32 → FVec Ideal S64x64 .f32 → FVec Ideal S64x64 .f32) (V m c main_arg1) (V m c main_v5) :=
  HostLine.at_binary rising _ 9 rfl rfl (by decide) (by decide)

theorem e_v7 (c : Dev nD) : V m c main_v7 = (Host.exp : FVec Ideal S64x64 .f32 → FVec Ideal S64x64 .f32) (V m c main_v6) :=
  HostLine.at_unary rising _ 10 rfl rfl (by decide)

theorem e_v8 (c : Dev nD) : V m c main_v8 = (broadcastInDim S64x64 ![0, 1] bcast_S64x1_S64x64_0_1 : FVec Ideal S64x1 .f32 → FVec Ideal S64x64 .f32) (V m c main_v4) :=
  HostLine.at_unary rising _ 11 rfl rfl (by decide)

theorem e_v9 (c : Dev nD) : V m c main_v9 = (mulf : FVec Ideal S64x64 .f32 → FVec Ideal S64x64 .f32 → FVec Ideal S64x64 .f32) (V m c main_arg2) (V m c main_v8) :=
  HostLine.at_binary rising _ 12 rfl rfl (by decide) (by decide)

theorem e_v10 (c : Dev nD) : V m c main_v10 = (Host.cos : FVec Ideal S64x64 .f32 → FVec Ideal S64x64 .f32) (V m c main_v9) :=
  HostLine.at_unary rising _ 13 rfl rfl (by decide)

theorem e_v11 (c : Dev nD) : V m c main_v11 = (mulf : FVec Ideal S64x64 .f32 → FVec Ideal S64x64 .f32 → FVec Ideal S64x64 .f32) (V m c main_v7) (V m c main_v10) :=
  HostLine.at_binary rising _ 14 rfl rfl (by decide) (by decide)

theorem e_v12 (c : Dev nD) : V m c main_v12 = (broadcastInDim S64x64 ![0, 1] bcast_S64x1_S64x64_0_1 : FVec Ideal S64x1 .f32 → FVec Ideal S64x64 .f32) (V m c main_v4) :=
  HostLine.at_unary rising _ 15 rfl rfl (by decide)

theorem e_v13 (c : Dev nD) : V m c main_v13 = (mulf : FVec Ideal S64x64 .f32 → FVec Ideal S64x64 .f32 → FVec Ideal S64x64 .f32) (V m c main_arg2) (V m c main_v12) :=
  HostLine.at_binary rising _ 16 rfl rfl (by decide) (by decide)

theorem e_v14 (c : Dev nD) : V m c main_v14 = (Host.sin : FVec Ideal S64x64 .f32 → FVec Ideal S64x64 .f32) (V m c main_v13) :=
  HostLine.at_unary rising _ 17 rfl rfl (by decide)

theorem e_v15 (c : Dev nD) : V m c main_v15 = (mulf : FVec Ideal S64x64 .f32 → FVec Ideal S64x64 .f32 → FVec Ideal S64x64 .f32) (V m c main_v7) (V m c main_v14) :=
  HostLine.at_binary rising _ 18 rfl rfl (by decide) (by decide)

theorem e_v16 (c : Dev nD) : V m c main_v16 = (mulf : FVec Ideal S64x64 .f32 → FVec Ideal S64x64 .f32 → FVec Ideal S64x64 .f32) (V m c main_arg1) (V m c main_arg1) :=
  HostLine.at_binary rising _ 19 rfl rfl (by decide) (by decide)

theorem e_v17 (c : Dev nD) : V m c main_v17 = (mulf : FVec Ideal S64x64 .f32 → FVec Ideal S64x64 .f32 → FVec Ideal S64x64 .f32) (V m c main_arg2) (V m c main_arg2) :=
  HostLine.at_binary rising _ 20 rfl rfl (by decide) (by decide)

theorem e_v18 (c : Dev nD) : V m c main_v18 = (addf : FVec Ideal S64x64 .f32 → FVec Ideal S64x64 .f32 → FVec Ideal S64x64 .f32) (V m c main_v16) (V m c main_v17) :=
  HostLine.at_binary rising _ 21 rfl rfl (by decide) (by decide)

theorem e_cst_1 (c : Dev nD) : V m c main_cst_1 = (constant (F := Ideal) S_ .f32 0x3F800000#32) :=
  HostLine.at_nullary rising _ 22 rfl rfl

theorem e_v19 (c : Dev nD) : V m c main_v19 = (broadcastInDim S64x64 ![] bcast_S_S64x64 : FVec Ideal S_ .f32 → FVec Ideal S64x64 .f32) (V m c main_cst_1) :=
  HostLine.at_unary rising _ 23 rfl rfl (by decide)

theorem e_v20 (c : Dev nD) : V m c main_v20 = (subf : FVec Ideal S64x64 .f32 → FVec Ideal S64x64 .f32 → FVec Ideal S64x64 .f32) (V m c main_v11) (V m c main_v19) :=
  HostLine.at_binary rising _ 24 rfl rfl (by decide) (by decide)

theorem e_v21 (c : Dev nD) : V m c main_v21 = (mulf : FVec Ideal S64x64 .f32 → FVec Ideal S64x64 .f32 → FVec Ideal S64x64 .f32) (V m c main_v20) (V m c main_arg1) :=
  HostLine.at_binary rising _ 25 rfl rfl (by decide) (by decide)

theorem e_v22 (c : Dev nD) : V m c main_v22 = (mulf : FVec Ideal S64x64 .f32 → FVec Ideal S64x64 .f32 → FVec Ideal S64x64 .f32) (V m c main_v15) (V m c main_arg2) :=
  HostLine.at_binary rising _ 26 rfl rfl (by decide) (by decide)

theorem e_v23 (c : Dev nD) : V m c main_v23 = (addf : FVec Ideal S64x64 .f32 → FVec Ideal S64x64 .f32 → FVec Ideal S64x64 .f32) (V m c main_v21) (V m c main_v22) :=
  HostLine.at_binary rising _ 27 rfl rfl (by decide) (by decide)

theorem e_v24 (c : Dev nD) : V m c main_v24 = (Host.divf : FVec Ideal S64x64 .f32 → FVec Ideal S64x64 .f32 → FVec Ideal S64x64 .f32) (V m c main_v23) (V m c main_v18) :=
  HostLine.at_binary rising _ 28 rfl rfl (by decide) (by decide)

theorem e_v25 (c : Dev nD) : V m c main_v25 = (mulf : FVec Ideal S64x64 .f32 → FVec Ideal S64x64 .f32 → FVec Ideal S64x64 .f32) (V m c main_v15) (V m c main_arg1) :=
  HostLine.at_binary rising _ 29 rfl rfl (by decide) (by decide)

theorem e_v26 (c : Dev nD) : V m c main_v26 = (mulf : FVec Ideal S64x64 .f32 → FVec Ideal S64x64 .f32 → FVec Ideal S64x64 .f32) (V m c main_v20) (V m c main_arg2) :=
  HostLine.at_binary rising _ 30 rfl rfl (by decide) (by decide)

theorem e_v27 (c : Dev nD) : V m c main_v27 = (subf : FVec Ideal S64x64 .f32 → FVec Ideal S64x64 .f32 → FVec Ideal S64x64 .f32) (V m c main_v25) (V m c main_v26) :=
  HostLine.at_binary rising _ 31 rfl rfl (by decide) (by decide)

theorem e_v28 (c : Dev nD) : V m c main_v28 = (Host.divf : FVec Ideal S64x64 .f32 → FVec Ideal S64x64 .f32 → FVec Ideal S64x64 .f32) (V m c main_v27) (V m c main_v18) :=
  HostLine.at_binary rising _ 32 rfl rfl (by decide) (by decide)

theorem e_v29 (c : Dev nD) : V m c main_v29 = (broadcastInDim S64x64x1 ![0, 1] bcast_S64x64_S64x64x1_0_1 : FVec Ideal S64x64 .f32 → FVec Ideal S64x64x1 .f32) (V m c main_v24) :=
  HostLine.at_unary rising _ 33 rfl rfl (by decide)

theorem e_v30 (c : Dev nD) : V m c main_v30 = (broadcastInDim S64x64x16 ![0, 1, 2] bcast_S64x64x1_S64x64x16_0_1_2 : FVec Ideal S64x64x1 .f32 → FVec Ideal S64x64x16 .f32) (V m c main_v29) :=
  HostLine.at_unary rising _ 34 rfl rfl (by decide)

theorem e_v31 (c : Dev nD) : V m c main_v31 = (mulf : FVec Ideal S64x64x16 .f32 → FVec Ideal S64x64x16 .f32 → FVec Ideal S64x64x16 .f32) (V m c main_v30) (V m c main_arg4) :=
  HostLine.at_binary rising _ 35 rfl rfl (by decide) (by decide)

theorem e_v32 (c : Dev nD) : V m c main_v32 = (broadcastInDim S64x64x1 ![0, 1] bcast_S64x64_S64x64x1_0_1 : FVec Ideal S64x64 .f32 → FVec Ideal S64x64x1 .f32) (V m c main_v28) :=
  HostLine.at_unary rising _ 36 rfl rfl (by decide)

theorem e_v33 (c : Dev nD) : V m c main_v33 = (broadcastInDim S64x64x16 ![0, 1, 2] bcast_S64x64x1_S64x64x16_0_1_2 : FVec Ideal S64x64x1 .f32 → FVec Ideal S64x64x16 .f32) (V m c main_v32) :=
  HostLine.at_unary rising _ 37 rfl rfl (by decide)

theorem e_v34 (c : Dev nD) : V m c main_v34 = (mulf : FVec Ideal S64x64x16 .f32 → FVec Ideal S64x64x16 .f32 → FVec Ideal S64x64x16 .f32) (V m c main_v33) (V m c main_arg5) :=
  HostLine.at_binary rising _ 38 rfl rfl (by decide) (by decide)

theorem e_v35 (c : Dev nD) : V m c main_v35 = (subf : FVec Ideal S64x64x16 .f32 → FVec Ideal S64x64x16 .f32 → FVec Ideal S64x64x16 .f32) (V m c main_v31) (V m c main_v34) :=
  HostLine.at_binary rising _ 39 rfl rfl (by decide) (by decide)

theorem e_v36 (c : Dev nD) : V m c main_v36 = (broadcastInDim S64x64x1 ![0, 1] bcast_S64x64_S64x64x1_0_1 : FVec Ideal S64x64 .f32 → FVec Ideal S64x64x1 .f32) (V m c main_v24) :=
  HostLine.at_unary rising _ 40 rfl rfl (by decide)

theorem e_v37 (c : Dev nD) : V m c main_v37 = (broadcastInDim S64x64x16 ![0, 1, 2] bcast_S64x64x1_S64x64x16_0_1_2 : FVec Ideal S64x64x1 .f32 → FVec Ideal S64x64x16 .f32) (V m c main_v36) :=
  HostLine.at_unary rising _ 41 rfl rfl (by decide)

theorem e_v38 (c : Dev nD) : V m c main_v38 = (mulf : FVec Ideal S64x64x16 .f32 → FVec Ideal S64x64x16 .f32 → FVec Ideal S64x64x16 .f32) (V m c main_v37) (V m c main_arg5) :=
  HostLine.at_binary rising _ 42 rfl rfl (by decide) (by decide)

theorem e_v39 (c : Dev nD) : V m c main_v39 = (broadcastInDim S64x64x1 ![0, 1] bcast_S64x64_S64x64x1_0_1 : FVec Ideal S64x64 .f32 → FVec Ideal S64x64x1 .f32) (V m c main_v28) :=
  HostLine.at_unary rising _ 43 rfl rfl (by decide)

theorem e_v40 (c : Dev nD) : V m c main_v40 = (broadcastInDim S64x64x16 ![0, 1, 2] bcast_S64x64x1_S64x64x16_0_1_2 : FVec Ideal S64x64x1 .f32 → FVec Ideal S64x64x16 .f32) (V m c main_v39) :=
  HostLine.at_unary rising _ 44 rfl rfl (by decide)

theorem e_v41 (c : Dev nD) : V m c main_v41 = (mulf : FVec Ideal S64x64x16 .f32 → FVec Ideal S64x64x16 .f32 → FVec Ideal S64x64x16 .f32) (V m c main_v40) (V m c main_arg4) :=
  HostLine.at_binary rising _ 45 rfl rfl (by decide) (by decide)

theorem e_v42 (c : Dev nD) : V m c main_v42 = (addf : FVec Ideal S64x64x16 .f32 → FVec Ideal S64x64x16 .f32 → FVec Ideal S64x64x16 .f32) (V m c main_v38) (V m c main_v41) :=
  HostLine.at_binary rising _ 46 rfl rfl (by decide) (by decide)

theorem e_cst_2 (c : Dev nD) : V m c main_cst_2 = (constant (F := Ideal) S_ .f32 0x3F800000#32) :=
  HostLine.at_nullary rising _ 47 rfl rfl

theorem e_v43 (c : Dev nD) : V m c main_v43 = (broadcastInDim S64x64 ![] bcast_S_S64x64 : FVec Ideal S_ .f32 → FVec Ideal S64x64 .f32) (V m c main_cst_2) :=
  HostLine.at_unary rising _ 48 rfl rfl (by decide)

theorem e_cst_3 (c : Dev nD) : V m c main_cst_3 = (constant (F := Ideal) S_ .f32 0x00000000#32) :=
  HostLine.at_nullary rising _ 49 rfl rfl

theorem e_v44 (c : Dev nD) : V m c main_v44 = (broadcastInDim S64x64 ![] bcast_S_S64x64 : FVec Ideal S_ .f32 → FVec Ideal S64x64 .f32) (V m c main_cst_3) :=
  HostLine.at_unary rising _ 50 rfl rfl (by decide)

theorem e_v45 (c : Dev nD) : V m c main_v45 = (mulf : FVec Ideal S64x64 .f32 → FVec Ideal S64x64 .f32 → FVec Ideal S64x64 .f32) (V m c main_v43) (V m c main_v11) :=
  HostLine.at_binary rising _ 51 rfl rfl (by decide) (by decide)

theorem e_v46 (c : Dev nD) : V m c main_v46 = (mulf : FVec Ideal S64x64 .f32 → FVec Ideal S64x64 .f32 → FVec Ideal S64x64 .f32) (V m c main_v44) (V m c main_v15) :=
  HostLine.at_binary rising _ 52 rfl rfl (by decide) (by decide)

theorem e_v47 (c : Dev nD) : V m c main_v47 = (subf : FVec Ideal S64x64 .f32 → FVec Ideal S64x64 .f32 → FVec Ideal S64x64 .f32) (V m c main_v45) (V m c main_v46) :=
  HostLine.at_binary rising _ 53 rfl rfl (by decide) (by decide)

theorem e_v48 (c : Dev nD) : V m c main_v48 = (mulf : FVec Ideal S64x64 .f32 → FVec Ideal S64x64 .f32 → FVec Ideal S64x64 .f32) (V m c main_v43) (V m c main_v15) :=
  HostLine.at_binary rising _ 54 rfl rfl (by decide) (by decide)

theorem e_v49 (c : Dev nD) : V m c main_v49 = (mulf : FVec Ideal S64x64 .f32 → FVec Ideal S64x64 .f32 → FVec Ideal S64x64 .f32) (V m c main_v44) (V m c main_v11) :=
  HostLine.at_binary rising _ 55 rfl rfl (by decide) (by decide)

theorem e_v50 (c : Dev nD) : V m c main_v50 = (addf : FVec Ideal S64x64 .f32 → FVec Ideal S64x64 .f32 → FVec Ideal S64x64 .f32) (V m c main_v48) (V m c main_v49) :=
  HostLine.at_binary rising _ 56 rfl rfl (by decide) (by decide)

theorem e_v51 (c : Dev nD) : V m c main_v51 = (mulf : FVec Ideal S64x64 .f32 → FVec Ideal S64x64 .f32 → FVec Ideal S64x64 .f32) (V m c main_v47) (V m c main_v11) :=
  HostLine.at_binary rising _ 57 rfl rfl (by decide) (by decide)

theorem e_v52 (c : Dev nD) : V m c main_v52 = (mulf : FVec Ideal S64x64 .f32 → FVec Ideal S64x64 .f32 → FVec Ideal S64x64 .f32) (V m c main_v50) (V m c main_v15) :=
  HostLine.at_binary rising _ 58 rfl rfl (by decide) (by decide)

theorem e_v53 (c : Dev nD) : V m c main_v53 = (subf : FVec Ideal S64x64 .f32 → FVec Ideal S64x64 .f32 → FVec Ideal S64x64 .f32) (V m c main_v51) (V m c main_v52) :=
  HostLine.at_binary rising _ 59 rfl rfl (by decide) (by decide)

theorem e_v54 (c : Dev nD) : V m c main_v54 = (mulf : FVec Ideal S64x64 .f32 → FVec Ideal S64x64 .f32 → FVec Ideal S64x64 .f32) (V m c main_v47) (V m c main_v15) :=
  HostLine.at_binary rising _ 60 rfl rfl (by decide) (by decide)

theorem e_v55 (c : Dev nD) : V m c main_v55 = (mulf : FVec Ideal S64x64 .f32 → FVec Ideal S64x64 .f32 → FVec Ideal S64x64 .f32) (V m c main_v50) (V m c main_v11) :=
  HostLine.at_binary rising _ 61 rfl rfl (by decide) (by decide)

theorem e_v56 (c : Dev nD) : V m c main_v56 = (addf : FVec Ideal S64x64 .f32 → FVec Ideal S64x64 .f32 → FVec Ideal S64x64 .f32) (V m c main_v54) (V m c main_v55) :=
  HostLine.at_binary rising _ 62 rfl rfl (by decide) (by decide)

theorem e_v57 (c : Dev nD) : V m c main_v57 = (mulf : FVec Ideal S64x64 .f32 → FVec Ideal S64x64 .f32 → FVec Ideal S64x64 .f32) (V m c main_v53) (V m c main_v11) :=
  HostLine.at_binary rising _ 63 rfl rfl (by decide) (by decide)

theorem e_v58 (c : Dev nD) : V m c main_v58 = (mulf : FVec Ideal S64x64 .f32 → FVec Ideal S64x64 .f32 → FVec Ideal S64x64 .f32) (V m c main_v56) (V m c main_v15) :=
  HostLine.at_binary rising _ 64 rfl rfl (by decide) (by decide)

theorem e_v59 (c : Dev nD) : V m c main_v59 = (subf : FVec Ideal S64x64 .f32 → FVec Ideal S64x64 .f32 → FVec Ideal S64x64 .f32) (V m c main_v57) (V m c main_v58) :=
  HostLine.at_binary rising _ 65 rfl rfl (by decide) (by decide)

theorem e_v60 (c : Dev nD) : V m c main_v60 = (mulf : FVec Ideal S64x64 .f32 → FVec Ideal S64x64 .f32 → FVec Ideal S64x64 .f32) (V m c main_v53) (V m c main_v15) :=
  HostLine.at_binary rising _ 66 rfl rfl (by decide) (by decide)

theorem e_v61 (c : Dev nD) : V m c main_v61 = (mulf : FVec Ideal S64x64 .f32 → FVec Ideal S64x64 .f32 → FVec Ideal S64x64 .f32) (V m c main_v56) (V m c main_v11) :=
  HostLine.at_binary rising _ 67 rfl rfl (by decide) (by decide)

theorem e_v62 (c : Dev nD) : V m c main_v62 = (addf : FVec Ideal S64x64 .f32 → FVec Ideal S64x64 .f32 → FVec Ideal S64x64 .f32) (V m c main_v60) (V m c main_v61) :=
  HostLine.at_binary rising _ 68 rfl rfl (by decide) (by decide)

theorem e_v63 (c : Dev nD) : V m c main_v63 = (mulf : FVec Ideal S64x64 .f32 → FVec Ideal S64x64 .f32 → FVec Ideal S64x64 .f32) (V m c main_v59) (V m c main_v11) :=
  HostLine.at_binary rising _ 69 rfl rfl (by decide) (by decide)

theorem e_v64 (c : Dev nD) : V m c main_v64 = (mulf : FVec Ideal S64x64 .f32 → FVec Ideal S64x64 .f32 → FVec Ideal S64x64 .f32) (V m c main_v62) (V m c main_v15) :=
  HostLine.at_binary rising _ 70 rfl rfl (by decide) (by decide)

theorem e_v65 (c : Dev nD) : V m c main_v65 = (subf : FVec Ideal S64x64 .f32 → FVec Ideal S64x64 .f32 → FVec Ideal S64x64 .f32) (V m c main_v63) (V m c main_v64) :=
  HostLine.at_binary rising _ 71 rfl rfl (by decide) (by decide)

theorem e_v66 (c : Dev nD) : V m c main_v66 = (mulf : FVec Ideal S64x64 .f32 → FVec Ideal S64x64 .f32 → FVec Ideal S64x64 .f32) (V m c main_v59) (V m c main_v15) :=
  HostLine.at_binary rising _ 72 rfl rfl (by decide) (by decide)

theorem e_v67 (c : Dev nD) : V m c main_v67 = (mulf : FVec Ideal S64x64 .f32 → FVec Ideal S64x64 .f32 → FVec Ideal S64x64 .f32) (V m c main_v62) (V m c main_v11) :=
  HostLine.at_binary rising _ 73 rfl rfl (by decide) (by decide)

theorem e_v68 (c : Dev nD) : V m c main_v68 = (addf : FVec Ideal S64x64 .f32 → FVec Ideal S64x64 .f32 → FVec Ideal S64x64 .f32) (V m c main_v66) (V m c main_v67) :=
  HostLine.at_binary rising _ 74 rfl rfl (by decide) (by decide)

theorem e_v69 (c : Dev nD) : V m c main_v69 = (mulf : FVec Ideal S64x64 .f32 → FVec Ideal S64x64 .f32 → FVec Ideal S64x64 .f32) (V m c main_v65) (V m c main_v11) :=
  HostLine.at_binary rising _ 75 rfl rfl (by decide) (by decide)

theorem e_v70 (c : Dev nD) : V m c main_v70 = (mulf : FVec Ideal S64x64 .f32 → FVec Ideal S64x64 .f32 → FVec Ideal S64x64 .f32) (V m c main_v68) (V m c main_v15) :=
  HostLine.at_binary rising _ 76 rfl rfl (by decide) (by decide)

theorem e_v71 (c : Dev nD) : V m c main_v71 = (subf : FVec Ideal S64x64 .f32 → FVec Ideal S64x64 .f32 → FVec Ideal S64x64 .f32) (V m c main_v69) (V m c main_v70) :=
  HostLine.at_binary rising _ 77 rfl rfl (by decide) (by decide)

theorem e_v72 (c : Dev nD) : V m c main_v72 = (mulf : FVec Ideal S64x64 .f32 → FVec Ideal S64x64 .f32 → FVec Ideal S64x64 .f32) (V m c main_v65) (V m c main_v15) :=
  HostLine.at_binary rising _ 78 rfl rfl (by decide) (by decide)

theorem e_v73 (c : Dev nD) : V m c main_v73 = (mulf : FVec Ideal S64x64 .f32 → FVec Ideal S64x64 .f32 → FVec Ideal S64x64 .f32) (V m c main_v68) (V m c main_v11) :=
  HostLine.at_binary rising _ 79 rfl rfl (by decide) (by decide)

theorem e_v74 (c : Dev nD) : V m c main_v74 = (addf : FVec Ideal S64x64 .f32 → FVec Ideal S64x64 .f32 → FVec Ideal S64x64 .f32) (V m c main_v72) (V m c main_v73) :=
  HostLine.at_binary rising _ 80 rfl rfl (by decide) (by decide)

theorem e_v75 (c : Dev nD) : V m c main_v75 = (mulf : FVec Ideal S64x64 .f32 → FVec Ideal S64x64 .f32 → FVec Ideal S64x64 .f32) (V m c main_v71) (V m c main_v11) :=
  HostLine.at_binary rising _ 81 rfl rfl (by decide) (by decide)

theorem e_v76 (c : Dev nD) : V m c main_v76 = (mulf : FVec Ideal S64x64 .f32 → FVec Ideal S64x64 .f32 → FVec Ideal S64x64 .f32) (V m c main_v74) (V m c main_v15) :=
  HostLine.at_binary rising _ 82 rfl rfl (by decide) (by decide)

theorem e_v77 (c : Dev nD) : V m c main_v77 = (subf : FVec Ideal S64x64 .f32 → FVec Ideal S64x64 .f32 → FVec Ideal S64x64 .f32) (V m c main_v75) (V m c main_v76) :=
  HostLine.at_binary rising _ 83 rfl rfl (by decide) (by decide)

theorem e_v78 (c : Dev nD) : V m c main_v78 = (mulf : FVec Ideal S64x64 .f32 → FVec Ideal S64x64 .f32 → FVec Ideal S64x64 .f32) (V m c main_v71) (V m c main_v15) :=
  HostLine.at_binary rising _ 84 rfl rfl (by decide) (by decide)

theorem e_v79 (c : Dev nD) : V m c main_v79 = (mulf : FVec Ideal S64x64 .f32 → FVec Ideal S64x64 .f32 → FVec Ideal S64x64 .f32) (V m c main_v74) (V m c main_v11) :=
  HostLine.at_binary rising _ 85 rfl rfl (by decide) (by decide)

theorem e_v80 (c : Dev nD) : V m c main_v80 = (addf : FVec Ideal S64x64 .f32 → FVec Ideal S64x64 .f32 → FVec Ideal S64x64 .f32) (V m c main_v78) (V m c main_v79) :=
  HostLine.at_binary rising _ 86 rfl rfl (by decide) (by decide)

theorem e_v81 (c : Dev nD) : V m c main_v81 = (mulf : FVec Ideal S64x64 .f32 → FVec Ideal S64x64 .f32 → FVec Ideal S64x64 .f32) (V m c main_v77) (V m c main_v11) :=
  HostLine.at_binary rising _ 87 rfl rfl (by decide) (by decide)

theorem e_v82 (c : Dev nD) : V m c main_v82 = (mulf : FVec Ideal S64x64 .f32 → FVec Ideal S64x64 .f32 → FVec Ideal S64x64 .f32) (V m c main_v80) (V m c main_v15) :=
  HostLine.at_binary rising _ 88 rfl rfl (by decide) (by decide)

theorem e_v83 (c : Dev nD) : V m c main_v83 = (subf : FVec Ideal S64x64 .f32 → FVec Ideal S64x64 .f32 → FVec Ideal S64x64 .f32) (V m c main_v81) (V m c main_v82) :=
  HostLine.at_binary rising _ 89 rfl rfl (by decide) (by decide)

theorem e_v84 (c : Dev nD) : V m c main_v84 = (mulf : FVec Ideal S64x64 .f32 → FVec Ideal S64x64 .f32 → FVec Ideal S64x64 .f32) (V m c main_v77) (V m c main_v15) :=
  HostLine.at_binary rising _ 90 rfl rfl (by decide) (by decide)

theorem e_v85 (c : Dev nD) : V m c main_v85 = (mulf : FVec Ideal S64x64 .f32 → FVec Ideal S64x64 .f32 → FVec Ideal S64x64 .f32) (V m c main_v80) (V m c main_v11) :=
  HostLine.at_binary rising _ 91 rfl rfl (by decide) (by decide)

theorem e_v86 (c : Dev nD) : V m c main_v86 = (addf : FVec Ideal S64x64 .f32 → FVec Ideal S64x64 .f32 → FVec Ideal S64x64 .f32) (V m c main_v84) (V m c main_v85) :=
  HostLine.at_binary rising _ 92 rfl rfl (by decide) (by decide)

theorem e_v87 (c : Dev nD) : V m c main_v87 = (mulf : FVec Ideal S64x64 .f32 → FVec Ideal S64x64 .f32 → FVec Ideal S64x64 .f32) (V m c main_v83) (V m c main_v11) :=
  HostLine.at_binary rising _ 93 rfl rfl (by decide) (by decide)

theorem e_v88 (c : Dev nD) : V m c main_v88 = (mulf : FVec Ideal S64x64 .f32 → FVec Ideal S64x64 .f32 → FVec Ideal S64x64 .f32) (V m c main_v86) (V m c main_v15) :=
  HostLine.at_binary rising _ 94 rfl rfl (by decide) (by decide)

theorem e_v89 (c : Dev nD) : V m c main_v89 = (subf : FVec Ideal S64x64 .f32 → FVec Ideal S64x64 .f32 → FVec Ideal S64x64 .f32) (V m c main_v87) (V m c main_v88) :=
  HostLine.at_binary rising _ 95 rfl rfl (by decide) (by decide)

theorem e_v90 (c : Dev nD) : V m c main_v90 = (mulf : FVec Ideal S64x64 .f32 → FVec Ideal S64x64 .f32 → FVec Ideal S64x64 .f32) (V m c main_v83) (V m c main_v15) :=
  HostLine.at_binary rising _ 96 rfl rfl (by decide) (by decide)

theorem e_v91 (c : Dev nD) : V m c main_v91 = (mulf : FVec Ideal S64x64 .f32 → FVec Ideal S64x64 .f32 → FVec Ideal S64x64 .f32) (V m c main_v86) (V m c main_v11) :=
  HostLine.at_binary rising _ 97 rfl rfl (by decide) (by decide)

theorem e_v92 (c : Dev nD) : V m c main_v92 = (addf : FVec Ideal S64x64 .f32 → FVec Ideal S64x64 .f32 → FVec Ideal S64x64 .f32) (V m c main_v90) (V m c main_v91) :=
  HostLine.at_binary rising _ 98 rfl rfl (by decide) (by decide)

theorem e_v93 (c : Dev nD) : V m c main_v93 = (mulf : FVec Ideal S64x64 .f32 → FVec Ideal S64x64 .f32 → FVec Ideal S64x64 .f32) (V m c main_v89) (V m c main_v11) :=
  HostLine.at_binary rising _ 99 rfl rfl (by decide) (by decide)

theorem e_v94 (c : Dev nD) : V m c main_v94 = (mulf : FVec Ideal S64x64 .f32 → FVec Ideal S64x64 .f32 → FVec Ideal S64x64 .f32) (V m c main_v92) (V m c main_v15) :=
  HostLine.at_binary rising _ 100 rfl rfl (by decide) (by decide)

theorem e_v95 (c : Dev nD) : V m c main_v95 = (subf : FVec Ideal S64x64 .f32 → FVec Ideal S64x64 .f32 → FVec Ideal S64x64 .f32) (V m c main_v93) (V m c main_v94) :=
  HostLine.at_binary rising _ 101 rfl rfl (by decide) (by decide)

theorem e_v96 (c : Dev nD) : V m c main_v96 = (mulf : FVec Ideal S64x64 .f32 → FVec Ideal S64x64 .f32 → FVec Ideal S64x64 .f32) (V m c main_v89) (V m c main_v15) :=
  HostLine.at_binary rising _ 102 rfl rfl (by decide) (by decide)

theorem e_v97 (c : Dev nD) : V m c main_v97 = (mulf : FVec Ideal S64x64 .f32 → FVec Ideal S64x64 .f32 → FVec Ideal S64x64 .f32) (V m c main_v92) (V m c main_v11) :=
  HostLine.at_binary rising _ 103 rfl rfl (by decide) (by decide)

theorem e_v98 (c : Dev nD) : V m c main_v98 = (addf : FVec Ideal S64x64 .f32 → FVec Ideal S64x64 .f32 → FVec Ideal S64x64 .f32) (V m c main_v96) (V m c main_v97) :=
  HostLine.at_binary rising _ 104 rfl rfl (by decide) (by decide)

theorem e_v99 (c : Dev nD) : V m c main_v99 = (mulf : FVec Ideal S64x64 .f32 → FVec Ideal S64x64 .f32 → FVec Ideal S64x64 .f32) (V m c main_v95) (V m c main_v11) :=
  HostLine.at_binary rising _ 105 rfl rfl (by decide) (by decide)

theorem e_v100 (c : Dev nD) : V m c main_v100 = (mulf : FVec Ideal S64x64 .f32 → FVec Ideal S64x64 .f32 → FVec Ideal S64x64 .f32) (V m c main_v98) (V m c main_v15) :=
  HostLine.at_binary rising _ 106 rfl rfl (by decide) (by decide)

theorem e_v101 (c : Dev nD) : V m c main_v101 = (subf : FVec Ideal S64x64 .f32 → FVec Ideal S64x64 .f32 → FVec Ideal S64x64 .f32) (V m c main_v99) (V m c main_v100) :=
  HostLine.at_binary rising _ 107 rfl rfl (by decide) (by decide)

theorem e_v102 (c : Dev nD) : V m c main_v102 = (mulf : FVec Ideal S64x64 .f32 → FVec Ideal S64x64 .f32 → FVec Ideal S64x64 .f32) (V m c main_v95) (V m c main_v15) :=
  HostLine.at_binary rising _ 108 rfl rfl (by decide) (by decide)

theorem e_v103 (c : Dev nD) : V m c main_v103 = (mulf : FVec Ideal S64x64 .f32 → FVec Ideal S64x64 .f32 → FVec Ideal S64x64 .f32) (V m c main_v98) (V m c main_v11) :=
  HostLine.at_binary rising _ 109 rfl rfl (by decide) (by decide)

theorem e_v104 (c : Dev nD) : V m c main_v104 = (addf : FVec Ideal S64x64 .f32 → FVec Ideal S64x64 .f32 → FVec Ideal S64x64 .f32) (V m c main_v102) (V m c main_v103) :=
  HostLine.at_binary rising _ 110 rfl rfl (by decide) (by decide)

theorem e_v105 (c : Dev nD) : V m c main_v105 = (mulf : FVec Ideal S64x64 .f32 → FVec Ideal S64x64 .f32 → FVec Ideal S64x64 .f32) (V m c main_v101) (V m c main_v11) :=
  HostLine.at_binary rising _ 111 rfl rfl (by decide) (by decide)

theorem e_v106 (c : Dev nD) : V m c main_v106 = (mulf : FVec Ideal S64x64 .f32 → FVec Ideal S64x64 .f32 → FVec Ideal S64x64 .f32) (V m c main_v104) (V m c main_v15) :=
  HostLine.at_binary rising _ 112 rfl rfl (by decide) (by decide)

theorem e_v107 (c : Dev nD) : V m c main_v107 = (subf : FVec Ideal S64x64 .f32 → FVec Ideal S64x64 .f32 → FVec Ideal S64x64 .f32) (V m c main_v105) (V m c main_v106) :=
  HostLine.at_binary rising _ 113 rfl rfl (by decide) (by decide)

theorem e_v108 (c : Dev nD) : V m c main_v108 = (mulf : FVec Ideal S64x64 .f32 → FVec Ideal S64x64 .f32 → FVec Ideal S64x64 .f32) (V m c main_v101) (V m c main_v15) :=
  HostLine.at_binary rising _ 114 rfl rfl (by decide) (by decide)

theorem e_v109 (c : Dev nD) : V m c main_v109 = (mulf : FVec Ideal S64x64 .f32 → FVec Ideal S64x64 .f32 → FVec Ideal S64x64 .f32) (V m c main_v104) (V m c main_v11) :=
  HostLine.at_binary rising _ 115 rfl rfl (by decide) (by decide)

theorem e_v110 (c : Dev nD) : V m c main_v110 = (addf : FVec Ideal S64x64 .f32 → FVec Ideal S64x64 .f32 → FVec Ideal S64x64 .f32) (V m c main_v108) (V m c main_v109) :=
  HostLine.at_binary rising _ 116 rfl rfl (by decide) (by decide)

theorem e_v111 (c : Dev nD) : V m c main_v111 = (mulf : FVec Ideal S64x64 .f32 → FVec Ideal S64x64 .f32 → FVec Ideal S64x64 .f32) (V m c main_v107) (V m c main_v11) :=
  HostLine.at_binary rising _ 117 rfl rfl (by decide) (by decide)

theorem e_v112 (c : Dev nD) : V m c main_v112 = (mulf : FVec Ideal S64x64 .f32 → FVec Ideal S64x64 .f32 → FVec Ideal S64x64 .f32) (V m c main_v110) (V m c main_v15) :=
  HostLine.at_binary rising _ 118 rfl rfl (by decide) (by decide)

theorem e_v113 (c : Dev nD) : V m c main_v113 = (subf : FVec Ideal S64x64 .f32 → FVec Ideal S64x64 .f32 → FVec Ideal S64x64 .f32) (V m c main_v111) (V m c main_v112) :=
  HostLine.at_binary rising _ 119 rfl rfl (by decide) (by decide)

theorem e_v114 (c : Dev nD) : V m c main_v114 = (mulf : FVec Ideal S64x64 .f32 → FVec Ideal S64x64 .f32 → FVec Ideal S64x64 .f32) (V m c main_v107) (V m c main_v15) :=
  HostLine.at_binary rising _ 120 rfl rfl (by decide) (by decide)

theorem e_v115 (c : Dev nD) : V m c main_v115 = (mulf : FVec Ideal S64x64 .f32 → FVec Ideal S64x64 .f32 → FVec Ideal S64x64 .f32) (V m c main_v110) (V m c main_v11) :=
  HostLine.at_binary rising _ 121 rfl rfl (by decide) (by decide)

theorem e_v116 (c : Dev nD) : V m c main_v116 = (addf : FVec Ideal S64x64 .f32 → FVec Ideal S64x64 .f32 → FVec Ideal S64x64 .f32) (V m c main_v114) (V m c main_v115) :=
  HostLine.at_binary rising _ 122 rfl rfl (by decide) (by decide)

theorem e_v117 (c : Dev nD) : V m c main_v117 = (mulf : FVec Ideal S64x64 .f32 → FVec Ideal S64x64 .f32 → FVec Ideal S64x64 .f32) (V m c main_v113) (V m c main_v11) :=
  HostLine.at_binary rising _ 123 rfl rfl (by decide) (by decide)

theorem e_v118 (c : Dev nD) : V m c main_v118 = (mulf : FVec Ideal S64x64 .f32 → FVec Ideal S64x64 .f32 → FVec Ideal S64x64 .f32) (V m c main_v116) (V m c main_v15) :=
  HostLine.at_binary rising _ 124 rfl rfl (by decide) (by decide)

theorem e_v119 (c : Dev nD) : V m c main_v119 = (subf : FVec Ideal S64x64 .f32 → FVec Ideal S64x64 .f32 → FVec Ideal S64x64 .f32) (V m c main_v117) (V m c main_v118) :=
  HostLine.at_binary rising _ 125 rfl rfl (by decide) (by decide)

theorem e_v120 (c : Dev nD) : V m c main_v120 = (mulf : FVec Ideal S64x64 .f32 → FVec Ideal S64x64 .f32 → FVec Ideal S64x64 .f32) (V m c main_v113) (V m c main_v15) :=
  HostLine.at_binary rising _ 126 rfl rfl (by decide) (by decide)

theorem e_v121 (c : Dev nD) : V m c main_v121 = (mulf : FVec Ideal S64x64 .f32 → FVec Ideal S64x64 .f32 → FVec Ideal S64x64 .f32) (V m c main_v116) (V m c main_v11) :=
  HostLine.at_binary rising _ 127 rfl rfl (by decide) (by decide)

theorem e_v122 (c : Dev nD) : V m c main_v122 = (addf : FVec Ideal S64x64 .f32 → FVec Ideal S64x64 .f32 → FVec Ideal S64x64 .f32) (V m c main_v120) (V m c main_v121) :=
  HostLine.at_binary rising _ 128 rfl rfl (by decide) (by decide)

theorem e_v123 (c : Dev nD) : V m c main_v123 = (mulf : FVec Ideal S64x64 .f32 → FVec Ideal S64x64 .f32 → FVec Ideal S64x64 .f32) (V m c main_v119) (V m c main_v11) :=
  HostLine.at_binary rising _ 129 rfl rfl (by decide) (by decide)

theorem e_v124 (c : Dev nD) : V m c main_v124 = (mulf : FVec Ideal S64x64 .f32 → FVec Ideal S64x64 .f32 → FVec Ideal S64x64 .f32) (V m c main_v122) (V m c main_v15) :=
  HostLine.at_binary rising _ 130 rfl rfl (by decide) (by decide)

theorem e_v125 (c : Dev nD) : V m c main_v125 = (subf : FVec Ideal S64x64 .f32 → FVec Ideal S64x64 .f32 → FVec Ideal S64x64 .f32) (V m c main_v123) (V m c main_v124) :=
  HostLine.at_binary rising _ 131 rfl rfl (by decide) (by decide)

theorem e_v126 (c : Dev nD) : V m c main_v126 = (mulf : FVec Ideal S64x64 .f32 → FVec Ideal S64x64 .f32 → FVec Ideal S64x64 .f32) (V m c main_v119) (V m c main_v15) :=
  HostLine.at_binary rising _ 132 rfl rfl (by decide) (by decide)

theorem e_v127 (c : Dev nD) : V m c main_v127 = (mulf : FVec Ideal S64x64 .f32 → FVec Ideal S64x64 .f32 → FVec Ideal S64x64 .f32) (V m c main_v122) (V m c main_v11) :=
  HostLine.at_binary rising _ 133 rfl rfl (by decide) (by decide)

theorem e_v128 (c : Dev nD) : V m c main_v128 = (addf : FVec Ideal S64x64 .f32 → FVec Ideal S64x64 .f32 → FVec Ideal S64x64 .f32) (V m c main_v126) (V m c main_v127) :=
  HostLine.at_binary rising _ 134 rfl rfl (by decide) (by decide)

theorem e_v129 (c : Dev nD) : V m c main_v129 = (mulf : FVec Ideal S64x64 .f32 → FVec Ideal S64x64 .f32 → FVec Ideal S64x64 .f32) (V m c main_v125) (V m c main_v11) :=
  HostLine.at_binary rising _ 135 rfl rfl (by decide) (by decide)

theorem e_v130 (c : Dev nD) : V m c main_v130 = (mulf : FVec Ideal S64x64 .f32 → FVec Ideal S64x64 .f32 → FVec Ideal S64x64 .f32) (V m c main_v128) (V m c main_v15) :=
  HostLine.at_binary rising _ 136 rfl rfl (by decide) (by decide)

theorem e_v131 (c : Dev nD) : V m c main_v131 = (subf : FVec Ideal S64x64 .f32 → FVec Ideal S64x64 .f32 → FVec Ideal S64x64 .f32) (V m c main_v129) (V m c main_v130) :=
  HostLine.at_binary rising _ 137 rfl rfl (by decide) (by decide)

theorem e_v132 (c : Dev nD) : V m c main_v132 = (mulf : FVec Ideal S64x64 .f32 → FVec Ideal S64x64 .f32 → FVec Ideal S64x64 .f32) (V m c main_v125) (V m c main_v15) :=
  HostLine.at_binary rising _ 138 rfl rfl (by decide) (by decide)

theorem e_v133 (c : Dev nD) : V m c main_v133 = (mulf : FVec Ideal S64x64 .f32 → FVec Ideal S64x64 .f32 → FVec Ideal S64x64 .f32) (V m c main_v128) (V m c main_v11) :=
  HostLine.at_binary rising _ 139 rfl rfl (by decide) (by decide)

theorem e_v134 (c : Dev nD) : V m c main_v134 = (addf : FVec Ideal S64x64 .f32 → FVec Ideal S64x64 .f32 → FVec Ideal S64x64 .f32) (V m c main_v132) (V m c main_v133) :=
  HostLine.at_binary rising _ 140 rfl rfl (by decide) (by decide)

theorem e_v135 (c : Dev nD) : V m c main_v135 = (mulf : FVec Ideal S64x64 .f32 → FVec Ideal S64x64 .f32 → FVec Ideal S64x64 .f32) (V m c main_v131) (V m c main_v11) :=
  HostLine.at_binary rising _ 141 rfl rfl (by decide) (by decide)

theorem e_v136 (c : Dev nD) : V m c main_v136 = (mulf : FVec Ideal S64x64 .f32 → FVec Ideal S64x64 .f32 → FVec Ideal S64x64 .f32) (V m c main_v134) (V m c main_v15) :=
  HostLine.at_binary rising _ 142 rfl rfl (by decide) (by decide)

theorem e_v137 (c : Dev nD) : V m c main_v137 = (subf : FVec Ideal S64x64 .f32 → FVec Ideal S64x64 .f32 → FVec Ideal S64x64 .f32) (V m c main_v135) (V m c main_v136) :=
  HostLine.at_binary rising _ 143 rfl rfl (by decide) (by decide)

theorem e_v138 (c : Dev nD) : V m c main_v138 = (mulf : FVec Ideal S64x64 .f32 → FVec Ideal S64x64 .f32 → FVec Ideal S64x64 .f32) (V m c main_v131) (V m c main_v15) :=
  HostLine.at_binary rising _ 144 rfl rfl (by decide) (by decide)

theorem e_v139 (c : Dev nD) : V m c main_v139 = (mulf : FVec Ideal S64x64 .f32 → FVec Ideal S64x64 .f32 → FVec Ideal S64x64 .f32) (V m c main_v134) (V m c main_v11) :=
  HostLine.at_binary rising _ 145 rfl rfl (by decide) (by decide)

theorem e_v140 (c : Dev nD) : V m c main_v140 = (addf : FVec Ideal S64x64 .f32 → FVec Ideal S64x64 .f32 → FVec Ideal S64x64 .f32) (V m c main_v138) (V m c main_v139) :=
  HostLine.at_binary rising _ 146 rfl rfl (by decide) (by decide)

end Cert.KernelIdeal.Host

end
-- ==== Proof.HostEqsB.lean ====
/- What each of the next host operations leaves: the powers stacked, the lagged kernels, the tables of the chunk's inputs
   to its state and of its state to its outputs. -/
module

public import proofs.«01_k».proof.Proof.KernelIdealFrame
public import Idealize.ShloMosaic.Lib.Pipeline.ValueKit
public import Idealize.ShloMosaic.Lib.Pointwise

@[expose] public section

set_option maxRecDepth 65536

noncomputable section

namespace Cert.KernelIdeal.Host

open Cert.KernelIdeal Cert.KernelIdeal.Gen Idealize.ShloMosaic Idealize.ShloMosaic.TcCoe

variable (m : (ℓ : Loc nD τ sig) → Buf (Elt Ideal) ℓ)

theorem e_v141 (c : Dev nD) : V m c main_v141 = (broadcastInDim S1x64x64 ![1, 2] bcast_S64x64_S1x64x64_1_2 : FVec Ideal S64x64 .f32 → FVec Ideal S1x64x64 .f32) (V m c main_v43) :=
  HostLine.at_unary rising _ 147 rfl rfl (by decide)

theorem e_v142 (c : Dev nD) : V m c main_v142 = (broadcastInDim S1x64x64 ![1, 2] bcast_S64x64_S1x64x64_1_2 : FVec Ideal S64x64 .f32 → FVec Ideal S1x64x64 .f32) (V m c main_v47) :=
  HostLine.at_unary rising _ 148 rfl rfl (by decide)

theorem e_v143 (c : Dev nD) : V m c main_v143 = (broadcastInDim S1x64x64 ![1, 2] bcast_S64x64_S1x64x64_1_2 : FVec Ideal S64x64 .f32 → FVec Ideal S1x64x64 .f32) (V m c main_v53) :=
  HostLine.at_unary rising _ 149 rfl rfl (by decide)

theorem e_v144 (c : Dev nD) : V m c main_v144 = (broadcastInDim S1x64x64 ![1, 2] bcast_S64x64_S1x64x64_1_2 : FVec Ideal S64x64 .f32 → FVec Ideal S1x64x64 .f32) (V m c main_v59) :=
  HostLine.at_unary rising _ 150 rfl rfl (by decide)

theorem e_v145 (c : Dev nD) : V m c main_v145 = (broadcastInDim S1x64x64 ![1, 2] bcast_S64x64_S1x64x64_1_2 : FVec Ideal S64x64 .f32 → FVec Ideal S1x64x64 .f32) (V m c main_v65) :=
  HostLine.at_unary rising _ 151 rfl rfl (by decide)

theorem e_v146 (c : Dev nD) : V m c main_v146 = (broadcastInDim S1x64x64 ![1, 2] bcast_S64x64_S1x64x64_1_2 : FVec Ideal S64x64 .f32 → FVec Ideal S1x64x64 .f32) (V m c main_v71) :=
  HostLine.at_unary rising _ 152 rfl rfl (by decide)

theorem e_v147 (c : Dev nD) : V m c main_v147 = (broadcastInDim S1x64x64 ![1, 2] bcast_S64x64_S1x64x64_1_2 : FVec Ideal S64x64 .f32 → FVec Ideal S1x64x64 .f32) (V m c main_v77) :=
  HostLine.at_unary rising _ 153 rfl rfl (by decide)

theorem e_v148 (c : Dev nD) : V m c main_v148 = (broadcastInDim S1x64x64 ![1, 2] bcast_S64x64_S1x64x64_1_2 : FVec Ideal S64x64 .f32 → FVec Ideal S1x64x64 .f32) (V m c main_v83) :=
  HostLine.at_unary rising _ 154 rfl rfl (by decide)

theorem e_v149 (c : Dev nD) : V m c main_v149 = (broadcastInDim S1x64x64 ![1, 2] bcast_S64x64_S1x64x64_1_2 : FVec Ideal S64x64 .f32 → FVec Ideal S1x64x64 .f32) (V m c main_v89) :=
  HostLine.at_unary rising _ 155 rfl rfl (by decide)

theorem e_v150 (c : Dev nD) : V m c main_v150 = (broadcastInDim S1x64x64 ![1, 2] bcast_S64x64_S1x64x64_1_2 : FVec Ideal S64x64 .f32 → FVec Ideal S1x64x64 .f32) (V m c main_v95) :=
  HostLine.at_unary rising _ 156 rfl rfl (by decide)

theorem e_v151 (c : Dev nD) : V m c main_v151 = (broadcastInDim S1x64x64 ![1, 2] bcast_S64x64_S1x64x64_1_2 : FVec Ideal S64x64 .f32 → FVec Ideal S1x64x64 .f32) (V m c main_v101) :=
  HostLine.at_unary rising _ 157 rfl rfl (by decide)

theorem e_v152 (c : Dev nD) : V m c main_v152 = (broadcastInDim S1x64x64 ![1, 2] bcast_S64x64_S1x64x64_1_2 : FVec Ideal S64x64 .f32 → FVec Ideal S1x64x64 .f32) (V m c main_v107) :=
  HostLine.at_unary rising _ 158 rfl rfl (by decide)

theorem e_v153 (c : Dev nD) : V m c main_v153 = (broadcastInDim S1x64x64 ![1, 2] bcast_S64x64_S1x64x64_1_2 : FVec Ideal S64x64 .f32 → FVec Ideal S1x64x64 .f32) (V m c main_v113) :=
  HostLine.at_unary rising _ 159 rfl rfl (by decide)

theorem e_v154 (c : Dev nD) : V m c main_v154 = (broadcastInDim S1x64x64 ![1, 2] bcast_S64x64_S1x64x64_1_2 : FVec Ideal S64x64 .f32 → FVec Ideal S1x64x64 .f32) (V m c main_v119) :=
  HostLine.at_unary rising _ 160 rfl rfl (by decide)

theorem e_v155 (c : Dev nD) : V m c main_v155 = (broadcastInDim S1x64x64 ![1, 2] bcast_S64x64_S1x64x64_1_2 : FVec Ideal S64x64 .f32 → FVec Ideal S1x64x64 .f32) (V m c main_v125) :=
  HostLine.at_unary rising _ 161 rfl rfl (by decide)

theorem e_v156 (c : Dev nD) : V m c main_v156 = (broadcastInDim S1x64x64 ![1, 2] bcast_S64x64_S1x64x64_1_2 : FVec Ideal S64x64 .f32 → FVec Ideal S1x64x64 .f32) (V m c main_v131) :=
  HostLine.at_unary rising _ 162 rfl rfl (by decide)

theorem e_v157 (c : Dev nD) : V m c main_v157 = (concatenate S16x64x64 0 [⟨S1x64x64, (V m c main_v141)⟩, ⟨S1x64x64, (V m c main_v142)⟩, ⟨S1x64x64, (V m c main_v143)⟩, ⟨S1x64x64, (V m c main_v144)⟩, ⟨S1x64x64, (V m c main_v145)⟩, ⟨S1x64x64, (V m c main_v146)⟩, ⟨S1x64x64, (V m c main_v147)⟩, ⟨S1x64x64, (V m c main_v148)⟩, ⟨S1x64x64, (V m c main_v149)⟩, ⟨S1x64x64, (V m c main_v150)⟩, ⟨S1x64x64, (V m c main_v151)⟩, ⟨S1x64x64, (V m c main_v152)⟩, ⟨S1x64x64, (V m c main_v153)⟩, ⟨S1x64x64, (V m c main_v154)⟩, ⟨S1x64x64, (V m c main_v155)⟩, ⟨S1x64x64, (V m c main_v156)⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 : FVec Ideal S16x64x64 .f32) :=
  HostLine.at_nary rising _ 163 rfl rfl (by decide)

theorem e_v158 (c : Dev nD) : V m c main_v158 = (broadcastInDim S1x64x64 ![1, 2] bcast_S64x64_S1x64x64_1_2 : FVec Ideal S64x64 .f32 → FVec Ideal S1x64x64 .f32) (V m c main_v137) :=
  HostLine.at_unary rising _ 164 rfl rfl (by decide)

theorem e_v159 (c : Dev nD) : V m c main_v159 = ((fun a b => concatenate S17x64x64 0 [⟨S16x64x64, a⟩, ⟨S1x64x64, b⟩] concatenates_S16x64x64_S1x64x64_S17x64x64_d0) : FVec Ideal S16x64x64 .f32 → FVec Ideal S1x64x64 .f32 → FVec Ideal S17x64x64 .f32) (V m c main_v157) (V m c main_v158) :=
  HostLine.at_binary rising _ 165 rfl rfl (by decide) (by decide)

theorem e_v160 (c : Dev nD) : V m c main_v160 = (broadcastInDim S1x64x64 ![1, 2] bcast_S64x64_S1x64x64_1_2 : FVec Ideal S64x64 .f32 → FVec Ideal S1x64x64 .f32) (V m c main_v44) :=
  HostLine.at_unary rising _ 166 rfl rfl (by decide)

theorem e_v161 (c : Dev nD) : V m c main_v161 = (broadcastInDim S1x64x64 ![1, 2] bcast_S64x64_S1x64x64_1_2 : FVec Ideal S64x64 .f32 → FVec Ideal S1x64x64 .f32) (V m c main_v50) :=
  HostLine.at_unary rising _ 167 rfl rfl (by decide)

theorem e_v162 (c : Dev nD) : V m c main_v162 = (broadcastInDim S1x64x64 ![1, 2] bcast_S64x64_S1x64x64_1_2 : FVec Ideal S64x64 .f32 → FVec Ideal S1x64x64 .f32) (V m c main_v56) :=
  HostLine.at_unary rising _ 168 rfl rfl (by decide)

theorem e_v163 (c : Dev nD) : V m c main_v163 = (broadcastInDim S1x64x64 ![1, 2] bcast_S64x64_S1x64x64_1_2 : FVec Ideal S64x64 .f32 → FVec Ideal S1x64x64 .f32) (V m c main_v62) :=
  HostLine.at_unary rising _ 169 rfl rfl (by decide)

theorem e_v164 (c : Dev nD) : V m c main_v164 = (broadcastInDim S1x64x64 ![1, 2] bcast_S64x64_S1x64x64_1_2 : FVec Ideal S64x64 .f32 → FVec Ideal S1x64x64 .f32) (V m c main_v68) :=
  HostLine.at_unary rising _ 170 rfl rfl (by decide)

theorem e_v165 (c : Dev nD) : V m c main_v165 = (broadcastInDim S1x64x64 ![1, 2] bcast_S64x64_S1x64x64_1_2 : FVec Ideal S64x64 .f32 → FVec Ideal S1x64x64 .f32) (V m c main_v74) :=
  HostLine.at_unary rising _ 171 rfl rfl (by decide)

theorem e_v166 (c : Dev nD) : V m c main_v166 = (broadcastInDim S1x64x64 ![1, 2] bcast_S64x64_S1x64x64_1_2 : FVec Ideal S64x64 .f32 → FVec Ideal S1x64x64 .f32) (V m c main_v80) :=
  HostLine.at_unary rising _ 172 rfl rfl (by decide)

theorem e_v167 (c : Dev nD) : V m c main_v167 = (broadcastInDim S1x64x64 ![1, 2] bcast_S64x64_S1x64x64_1_2 : FVec Ideal S64x64 .f32 → FVec Ideal S1x64x64 .f32) (V m c main_v86) :=
  HostLine.at_unary rising _ 173 rfl rfl (by decide)

theorem e_v168 (c : Dev nD) : V m c main_v168 = (broadcastInDim S1x64x64 ![1, 2] bcast_S64x64_S1x64x64_1_2 : FVec Ideal S64x64 .f32 → FVec Ideal S1x64x64 .f32) (V m c main_v92) :=
  HostLine.at_unary rising _ 174 rfl rfl (by decide)

theorem e_v169 (c : Dev nD) : V m c main_v169 = (broadcastInDim S1x64x64 ![1, 2] bcast_S64x64_S1x64x64_1_2 : FVec Ideal S64x64 .f32 → FVec Ideal S1x64x64 .f32) (V m c main_v98) :=
  HostLine.at_unary rising _ 175 rfl rfl (by decide)

theorem e_v170 (c : Dev nD) : V m c main_v170 = (broadcastInDim S1x64x64 ![1, 2] bcast_S64x64_S1x64x64_1_2 : FVec Ideal S64x64 .f32 → FVec Ideal S1x64x64 .f32) (V m c main_v104) :=
  HostLine.at_unary rising _ 176 rfl rfl (by decide)

theorem e_v171 (c : Dev nD) : V m c main_v171 = (broadcastInDim S1x64x64 ![1, 2] bcast_S64x64_S1x64x64_1_2 : FVec Ideal S64x64 .f32 → FVec Ideal S1x64x64 .f32) (V m c main_v110) :=
  HostLine.at_unary rising _ 177 rfl rfl (by decide)

theorem e_v172 (c : Dev nD) : V m c main_v172 = (broadcastInDim S1x64x64 ![1, 2] bcast_S64x64_S1x64x64_1_2 : FVec Ideal S64x64 .f32 → FVec Ideal S1x64x64 .f32) (V m c main_v116) :=
  HostLine.at_unary rising _ 178 rfl rfl (by decide)

theorem e_v173 (c : Dev nD) : V m c main_v173 = (broadcastInDim S1x64x64 ![1, 2] bcast_S64x64_S1x64x64_1_2 : FVec Ideal S64x64 .f32 → FVec Ideal S1x64x64 .f32) (V m c main_v122) :=
  HostLine.at_unary rising _ 179 rfl rfl (by decide)

theorem e_v174 (c : Dev nD) : V m c main_v174 = (broadcastInDim S1x64x64 ![1, 2] bcast_S64x64_S1x64x64_1_2 : FVec Ideal S64x64 .f32 → FVec Ideal S1x64x64 .f32) (V m c main_v128) :=
  HostLine.at_unary rising _ 180 rfl rfl (by decide)

theorem e_v175 (c : Dev nD) : V m c main_v175 = (broadcastInDim S1x64x64 ![1, 2] bcast_S64x64_S1x64x64_1_2 : FVec Ideal S64x64 .f32 → FVec Ideal S1x64x64 .f32) (V m c main_v134) :=
  HostLine.at_unary rising _ 181 rfl rfl (by decide)

theorem e_v176 (c : Dev nD) : V m c main_v176 = (concatenate S16x64x64 0 [⟨S1x64x64, (V m c main_v160)⟩, ⟨S1x64x64, (V m c main_v161)⟩, ⟨S1x64x64, (V m c main_v162)⟩, ⟨S1x64x64, (V m c main_v163)⟩, ⟨S1x64x64, (V m c main_v164)⟩, ⟨S1x64x64, (V m c main_v165)⟩, ⟨S1x64x64, (V m c main_v166)⟩, ⟨S1x64x64, (V m c main_v167)⟩, ⟨S1x64x64, (V m c main_v168)⟩, ⟨S1x64x64, (V m c main_v169)⟩, ⟨S1x64x64, (V m c main_v170)⟩, ⟨S1x64x64, (V m c main_v171)⟩, ⟨S1x64x64, (V m c main_v172)⟩, ⟨S1x64x64, (V m c main_v173)⟩, ⟨S1x64x64, (V m c main_v174)⟩, ⟨S1x64x64, (V m c main_v175)⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 : FVec Ideal S16x64x64 .f32) :=
  HostLine.at_nary rising _ 182 rfl rfl (by decide)

theorem e_v177 (c : Dev nD) : V m c main_v177 = (broadcastInDim S1x64x64 ![1, 2] bcast_S64x64_S1x64x64_1_2 : FVec Ideal S64x64 .f32 → FVec Ideal S1x64x64 .f32) (V m c main_v140) :=
  HostLine.at_unary rising _ 183 rfl rfl (by decide)

theorem e_v178 (c : Dev nD) : V m c main_v178 = ((fun a b => concatenate S17x64x64 0 [⟨S16x64x64, a⟩, ⟨S1x64x64, b⟩] concatenates_S16x64x64_S1x64x64_S17x64x64_d0) : FVec Ideal S16x64x64 .f32 → FVec Ideal S1x64x64 .f32 → FVec Ideal S17x64x64 .f32) (V m c main_v176) (V m c main_v177) :=
  HostLine.at_binary rising _ 184 rfl rfl (by decide) (by decide)

theorem e_v179 (c : Dev nD) : V m c main_v179 = (broadcastInDim S17x64x64x1 ![0, 1, 2] bcast_S17x64x64_S17x64x64x1_0_1_2 : FVec Ideal S17x64x64 .f32 → FVec Ideal S17x64x64x1 .f32) (V m c main_v159) :=
  HostLine.at_unary rising _ 185 rfl rfl (by decide)

theorem e_v180 (c : Dev nD) : V m c main_v180 = (broadcastInDim S1x64x64x16 ![1, 2, 3] bcast_S64x64x16_S1x64x64x16_1_2_3 : FVec Ideal S64x64x16 .f32 → FVec Ideal S1x64x64x16 .f32) (V m c main_v35) :=
  HostLine.at_unary rising _ 186 rfl rfl (by decide)

theorem e_v181 (c : Dev nD) : V m c main_v181 = (broadcastInDim S17x64x64x16 ![0, 1, 2, 3] bcast_S17x64x64x1_S17x64x64x16_0_1_2_3 : FVec Ideal S17x64x64x1 .f32 → FVec Ideal S17x64x64x16 .f32) (V m c main_v179) :=
  HostLine.at_unary rising _ 187 rfl rfl (by decide)

theorem e_v182 (c : Dev nD) : V m c main_v182 = (broadcastInDim S17x64x64x16 ![0, 1, 2, 3] bcast_S1x64x64x16_S17x64x64x16_0_1_2_3 : FVec Ideal S1x64x64x16 .f32 → FVec Ideal S17x64x64x16 .f32) (V m c main_v180) :=
  HostLine.at_unary rising _ 188 rfl rfl (by decide)

theorem e_v183 (c : Dev nD) : V m c main_v183 = (mulf : FVec Ideal S17x64x64x16 .f32 → FVec Ideal S17x64x64x16 .f32 → FVec Ideal S17x64x64x16 .f32) (V m c main_v181) (V m c main_v182) :=
  HostLine.at_binary rising _ 189 rfl rfl (by decide) (by decide)

theorem e_v184 (c : Dev nD) : V m c main_v184 = (broadcastInDim S17x64x64x1 ![0, 1, 2] bcast_S17x64x64_S17x64x64x1_0_1_2 : FVec Ideal S17x64x64 .f32 → FVec Ideal S17x64x64x1 .f32) (V m c main_v178) :=
  HostLine.at_unary rising _ 190 rfl rfl (by decide)

theorem e_v185 (c : Dev nD) : V m c main_v185 = (broadcastInDim S1x64x64x16 ![1, 2, 3] bcast_S64x64x16_S1x64x64x16_1_2_3 : FVec Ideal S64x64x16 .f32 → FVec Ideal S1x64x64x16 .f32) (V m c main_v42) :=
  HostLine.at_unary rising _ 191 rfl rfl (by decide)

theorem e_v186 (c : Dev nD) : V m c main_v186 = (broadcastInDim S17x64x64x16 ![0, 1, 2, 3] bcast_S17x64x64x1_S17x64x64x16_0_1_2_3 : FVec Ideal S17x64x64x1 .f32 → FVec Ideal S17x64x64x16 .f32) (V m c main_v184) :=
  HostLine.at_unary rising _ 192 rfl rfl (by decide)

theorem e_v187 (c : Dev nD) : V m c main_v187 = (broadcastInDim S17x64x64x16 ![0, 1, 2, 3] bcast_S1x64x64x16_S17x64x64x16_0_1_2_3 : FVec Ideal S1x64x64x16 .f32 → FVec Ideal S17x64x64x16 .f32) (V m c main_v185) :=
  HostLine.at_unary rising _ 193 rfl rfl (by decide)

theorem e_v188 (c : Dev nD) : V m c main_v188 = (mulf : FVec Ideal S17x64x64x16 .f32 → FVec Ideal S17x64x64x16 .f32 → FVec Ideal S17x64x64x16 .f32) (V m c main_v186) (V m c main_v187) :=
  HostLine.at_binary rising _ 194 rfl rfl (by decide) (by decide)

theorem e_v189 (c : Dev nD) : V m c main_v189 = (subf : FVec Ideal S17x64x64x16 .f32 → FVec Ideal S17x64x64x16 .f32 → FVec Ideal S17x64x64x16 .f32) (V m c main_v183) (V m c main_v188) :=
  HostLine.at_binary rising _ 195 rfl rfl (by decide) (by decide)

theorem e_v190 (c : Dev nD) : V m c main_v190 = (broadcastInDim S17x64x64x1 ![0, 1, 2] bcast_S17x64x64_S17x64x64x1_0_1_2 : FVec Ideal S17x64x64 .f32 → FVec Ideal S17x64x64x1 .f32) (V m c main_v159) :=
  HostLine.at_unary rising _ 196 rfl rfl (by decide)

theorem e_v191 (c : Dev nD) : V m c main_v191 = (broadcastInDim S1x64x64x16 ![1, 2, 3] bcast_S64x64x16_S1x64x64x16_1_2_3 : FVec Ideal S64x64x16 .f32 → FVec Ideal S1x64x64x16 .f32) (V m c main_v42) :=
  HostLine.at_unary rising _ 197 rfl rfl (by decide)

theorem e_v192 (c : Dev nD) : V m c main_v192 = (broadcastInDim S17x64x64x16 ![0, 1, 2, 3] bcast_S17x64x64x1_S17x64x64x16_0_1_2_3 : FVec Ideal S17x64x64x1 .f32 → FVec Ideal S17x64x64x16 .f32) (V m c main_v190) :=
  HostLine.at_unary rising _ 198 rfl rfl (by decide)

theorem e_v193 (c : Dev nD) : V m c main_v193 = (broadcastInDim S17x64x64x16 ![0, 1, 2, 3] bcast_S1x64x64x16_S17x64x64x16_0_1_2_3 : FVec Ideal S1x64x64x16 .f32 → FVec Ideal S17x64x64x16 .f32) (V m c main_v191) :=
  HostLine.at_unary rising _ 199 rfl rfl (by decide)

theorem e_v194 (c : Dev nD) : V m c main_v194 = (mulf : FVec Ideal S17x64x64x16 .f32 → FVec Ideal S17x64x64x16 .f32 → FVec Ideal S17x64x64x16 .f32) (V m c main_v192) (V m c main_v193) :=
  HostLine.at_binary rising _ 200 rfl rfl (by decide) (by decide)

theorem e_v195 (c : Dev nD) : V m c main_v195 = (broadcastInDim S17x64x64x1 ![0, 1, 2] bcast_S17x64x64_S17x64x64x1_0_1_2 : FVec Ideal S17x64x64 .f32 → FVec Ideal S17x64x64x1 .f32) (V m c main_v178) :=
  HostLine.at_unary rising _ 201 rfl rfl (by decide)

theorem e_v196 (c : Dev nD) : V m c main_v196 = (broadcastInDim S1x64x64x16 ![1, 2, 3] bcast_S64x64x16_S1x64x64x16_1_2_3 : FVec Ideal S64x64x16 .f32 → FVec Ideal S1x64x64x16 .f32) (V m c main_v35) :=
  HostLine.at_unary rising _ 202 rfl rfl (by decide)

theorem e_v197 (c : Dev nD) : V m c main_v197 = (broadcastInDim S17x64x64x16 ![0, 1, 2, 3] bcast_S17x64x64x1_S17x64x64x16_0_1_2_3 : FVec Ideal S17x64x64x1 .f32 → FVec Ideal S17x64x64x16 .f32) (V m c main_v195) :=
  HostLine.at_unary rising _ 203 rfl rfl (by decide)

theorem e_v198 (c : Dev nD) : V m c main_v198 = (broadcastInDim S17x64x64x16 ![0, 1, 2, 3] bcast_S1x64x64x16_S17x64x64x16_0_1_2_3 : FVec Ideal S1x64x64x16 .f32 → FVec Ideal S17x64x64x16 .f32) (V m c main_v196) :=
  HostLine.at_unary rising _ 204 rfl rfl (by decide)

theorem e_v199 (c : Dev nD) : V m c main_v199 = (mulf : FVec Ideal S17x64x64x16 .f32 → FVec Ideal S17x64x64x16 .f32 → FVec Ideal S17x64x64x16 .f32) (V m c main_v197) (V m c main_v198) :=
  HostLine.at_binary rising _ 205 rfl rfl (by decide) (by decide)

theorem e_v200 (c : Dev nD) : V m c main_v200 = (addf : FVec Ideal S17x64x64x16 .f32 → FVec Ideal S17x64x64x16 .f32 → FVec Ideal S17x64x64x16 .f32) (V m c main_v194) (V m c main_v199) :=
  HostLine.at_binary rising _ 206 rfl rfl (by decide) (by decide)

theorem e_v201 (c : Dev nD) : V m c main_v201 = ((extractStridedSlice S16x64x64x16 ![0, 0, 0, 0] · slices_S17x64x64x16_S16x64x64x16_0_0_0_0) : FVec Ideal S17x64x64x16 .f32 → FVec Ideal S16x64x64x16 .f32) (V m c main_v189) :=
  HostLine.at_unary rising _ 207 rfl rfl (by decide)

theorem e_v202 (c : Dev nD) : V m c main_v202 = ((fun l r => Host.dotGeneral dot_S16x64x64x16_S64x16x64_S64x16x16x16_2_2_03_1_1_0 (some .fp32) l r) : FVec Ideal S16x64x64x16 .f32 → FVec Ideal S64x16x64 .f32 → FVec Ideal S64x16x16x16 .f32) (V m c main_v201) (V m c main_arg6) :=
  HostLine.at_binary rising _ 208 rfl rfl (by decide) (by decide)

theorem e_v203 (c : Dev nD) : V m c main_v203 = ((transpose S64x16x16x16 [0, 1, 3, 2] · transposes_S64x16x16x16_S64x16x16x16_0_1_3_2) : FVec Ideal S64x16x16x16 .f32 → FVec Ideal S64x16x16x16 .f32) (V m c main_v202) :=
  HostLine.at_unary rising _ 209 rfl rfl (by decide)

theorem e_v204 (c : Dev nD) : V m c main_v204 = ((extractStridedSlice S16x64x64x16 ![0, 0, 0, 0] · slices_S17x64x64x16_S16x64x64x16_0_0_0_0) : FVec Ideal S17x64x64x16 .f32 → FVec Ideal S16x64x64x16 .f32) (V m c main_v200) :=
  HostLine.at_unary rising _ 210 rfl rfl (by decide)

theorem e_v205 (c : Dev nD) : V m c main_v205 = ((fun l r => Host.dotGeneral dot_S16x64x64x16_S64x16x64_S64x16x16x16_2_2_03_1_1_0 (some .fp32) l r) : FVec Ideal S16x64x64x16 .f32 → FVec Ideal S64x16x64 .f32 → FVec Ideal S64x16x16x16 .f32) (V m c main_v204) (V m c main_arg7) :=
  HostLine.at_binary rising _ 211 rfl rfl (by decide) (by decide)

theorem e_v206 (c : Dev nD) : V m c main_v206 = ((transpose S64x16x16x16 [0, 1, 3, 2] · transposes_S64x16x16x16_S64x16x16x16_0_1_3_2) : FVec Ideal S64x16x16x16 .f32 → FVec Ideal S64x16x16x16 .f32) (V m c main_v205) :=
  HostLine.at_unary rising _ 212 rfl rfl (by decide)

theorem e_v207 (c : Dev nD) : V m c main_v207 = (subf : FVec Ideal S64x16x16x16 .f32 → FVec Ideal S64x16x16x16 .f32 → FVec Ideal S64x16x16x16 .f32) (V m c main_v203) (V m c main_v206) :=
  HostLine.at_binary rising _ 213 rfl rfl (by decide) (by decide)

theorem e_c_4 (c : Dev nD) : V m c main_c_4 = (constantI S_ 32 16#32) :=
  HostLine.at_nullary rising _ 214 rfl rfl

theorem e_v208 (c : Dev nD) : V m c main_v208 = (broadcastInDim S16x16 ![] bcast_S_S16x16 : IVec S_ 32 → IVec S16x16 32) (V m c main_c_4) :=
  HostLine.at_unary rising _ 215 rfl rfl (by decide)

theorem e_v209 (c : Dev nD) : V m c main_v209 = (addi : IVec S16x16 32 → IVec S16x16 32 → IVec S16x16 32) (V m c main_c) (V m c main_v208) :=
  HostLine.at_binary rising _ 216 rfl rfl (by decide) (by decide)

theorem e_v210 (c : Dev nD) : V m c main_v210 = (select : IVec S16x16 1 → IVec S16x16 32 → IVec S16x16 32 → IVec S16x16 32) (V m c main_c_0) (V m c main_v209) (V m c main_c) :=
  HostLine.at_ternary rising _ 217 rfl rfl (by decide) (by decide) (by decide)

theorem e_v211 (c : Dev nD) : V m c main_v211 = (broadcastInDim S16x16x1 ![0, 1] bcast_S16x16_S16x16x1_0_1 : IVec S16x16 32 → IVec S16x16x1 32) (V m c main_v210) :=
  HostLine.at_unary rising _ 218 rfl rfl (by decide)

theorem e_v212 (c : Dev nD) : V m c main_v212 = ((fun x i => Host.gather gather_S64x16x16x16_S16x16x1_S64x16x16x16x16_034_1_n_n_1_2_6411616 x i) : FVec Ideal S64x16x16x16 .f32 → IVec S16x16x1 32 → FVec Ideal S64x16x16x16x16 .f32) (V m c main_v207) (V m c main_v211) :=
  HostLine.at_binary rising _ 219 rfl rfl (by decide) (by decide)

theorem e_v213 (c : Dev nD) : V m c main_v213 = (broadcastInDim S1x16x16x1x1 ![1, 2] bcast_S16x16_S1x16x16x1x1_1_2 : FVec Ideal S16x16 .f32 → FVec Ideal S1x16x16x1x1 .f32) (V m c main_cst) :=
  HostLine.at_unary rising _ 220 rfl rfl (by decide)

theorem e_v214 (c : Dev nD) : V m c main_v214 = (broadcastInDim S64x16x16x16x16 ![0, 1, 2, 3, 4] bcast_S1x16x16x1x1_S64x16x16x16x16_0_1_2_3_4 : FVec Ideal S1x16x16x1x1 .f32 → FVec Ideal S64x16x16x16x16 .f32) (V m c main_v213) :=
  HostLine.at_unary rising _ 221 rfl rfl (by decide)

theorem e_v215 (c : Dev nD) : V m c main_v215 = (mulf : FVec Ideal S64x16x16x16x16 .f32 → FVec Ideal S64x16x16x16x16 .f32 → FVec Ideal S64x16x16x16x16 .f32) (V m c main_v212) (V m c main_v214) :=
  HostLine.at_binary rising _ 222 rfl rfl (by decide) (by decide)

theorem e_v216 (c : Dev nD) : V m c main_v216 = ((transpose S64x16x16x16x16 [0, 1, 4, 2, 3] · transposes_S64x16x16x16x16_S64x16x16x16x16_0_1_4_2_3) : FVec Ideal S64x16x16x16x16 .f32 → FVec Ideal S64x16x16x16x16 .f32) (V m c main_v215) :=
  HostLine.at_unary rising _ 223 rfl rfl (by decide)

theorem e_v217 (c : Dev nD) : V m c main_v217 = shapeCast S64x256x256 (V m c main_v216) shapeCasts_S64x16x16x16x16_S64x256x256 := by
  have h := HostLine.at_reshape rising (fun b => m (c, b)) 224 (x := main_v216) (y := main_v217) rfl rfl (by decide)
  exact h

theorem e_v218 (c : Dev nD) : V m c main_v218 = ((extractStridedSlice S16x64x64x16 ![0, 0, 0, 0] · slices_S17x64x64x16_S16x64x64x16_0_0_0_0) : FVec Ideal S17x64x64x16 .f32 → FVec Ideal S16x64x64x16 .f32) (V m c main_v189) :=
  HostLine.at_unary rising _ 225 rfl rfl (by decide)

theorem e_v219 (c : Dev nD) : V m c main_v219 = (Host.reverse [0] : FVec Ideal S16x64x64x16 .f32 → FVec Ideal S16x64x64x16 .f32) (V m c main_v218) :=
  HostLine.at_unary rising _ 226 rfl rfl (by decide)

theorem e_v220 (c : Dev nD) : V m c main_v220 = ((transpose S64x16x16x64 [1, 0, 3, 2] · transposes_S16x64x64x16_S64x16x16x64_1_0_3_2) : FVec Ideal S16x64x64x16 .f32 → FVec Ideal S64x16x16x64 .f32) (V m c main_v219) :=
  HostLine.at_unary rising _ 227 rfl rfl (by decide)

theorem e_v221 (c : Dev nD) : V m c main_v221 = shapeCast S64x256x64 (V m c main_v220) shapeCasts_S64x16x16x64_S64x256x64 := by
  have h := HostLine.at_reshape rising (fun b => m (c, b)) 228 (x := main_v220) (y := main_v221) rfl rfl (by decide)
  exact h

theorem e_v222 (c : Dev nD) : V m c main_v222 = ((extractStridedSlice S16x64x64x16 ![0, 0, 0, 0] · slices_S17x64x64x16_S16x64x64x16_0_0_0_0) : FVec Ideal S17x64x64x16 .f32 → FVec Ideal S16x64x64x16 .f32) (V m c main_v200) :=
  HostLine.at_unary rising _ 229 rfl rfl (by decide)

theorem e_v223 (c : Dev nD) : V m c main_v223 = (Host.reverse [0] : FVec Ideal S16x64x64x16 .f32 → FVec Ideal S16x64x64x16 .f32) (V m c main_v222) :=
  HostLine.at_unary rising _ 230 rfl rfl (by decide)

theorem e_v224 (c : Dev nD) : V m c main_v224 = ((transpose S64x16x16x64 [1, 0, 3, 2] · transposes_S16x64x64x16_S64x16x16x64_1_0_3_2) : FVec Ideal S16x64x64x16 .f32 → FVec Ideal S64x16x16x64 .f32) (V m c main_v223) :=
  HostLine.at_unary rising _ 231 rfl rfl (by decide)

theorem e_v225 (c : Dev nD) : V m c main_v225 = shapeCast S64x256x64 (V m c main_v224) shapeCasts_S64x16x16x64_S64x256x64 := by
  have h := HostLine.at_reshape rising (fun b => m (c, b)) 232 (x := main_v224) (y := main_v225) rfl rfl (by decide)
  exact h

theorem e_v226 (c : Dev nD) : V m c main_v226 = (broadcastInDim S64x1x16x64 ![0, 2, 3] bcast_S64x16x64_S64x1x16x64_0_2_3 : FVec Ideal S64x16x64 .f32 → FVec Ideal S64x1x16x64 .f32) (V m c main_arg6) :=
  HostLine.at_unary rising _ 233 rfl rfl (by decide)

theorem e_v227 (c : Dev nD) : V m c main_v227 = ((extractStridedSlice S16x64x64 ![1, 0, 0] · slices_S17x64x64_S16x64x64_1_0_0) : FVec Ideal S17x64x64 .f32 → FVec Ideal S16x64x64 .f32) (V m c main_v159) :=
  HostLine.at_unary rising _ 234 rfl rfl (by decide)

theorem e_v228 (c : Dev nD) : V m c main_v228 = ((transpose S64x16x64 [1, 0, 2] · transposes_S16x64x64_S64x16x64_1_0_2) : FVec Ideal S16x64x64 .f32 → FVec Ideal S64x16x64 .f32) (V m c main_v227) :=
  HostLine.at_unary rising _ 235 rfl rfl (by decide)

theorem e_v229 (c : Dev nD) : V m c main_v229 = (broadcastInDim S64x16x1x64 ![0, 1, 3] bcast_S64x16x64_S64x16x1x64_0_1_3 : FVec Ideal S64x16x64 .f32 → FVec Ideal S64x16x1x64 .f32) (V m c main_v228) :=
  HostLine.at_unary rising _ 236 rfl rfl (by decide)

theorem e_v230 (c : Dev nD) : V m c main_v230 = (broadcastInDim S64x16x16x64 ![0, 1, 2, 3] bcast_S64x1x16x64_S64x16x16x64_0_1_2_3 : FVec Ideal S64x1x16x64 .f32 → FVec Ideal S64x16x16x64 .f32) (V m c main_v226) :=
  HostLine.at_unary rising _ 237 rfl rfl (by decide)

theorem e_v231 (c : Dev nD) : V m c main_v231 = (broadcastInDim S64x16x16x64 ![0, 1, 2, 3] bcast_S64x16x1x64_S64x16x16x64_0_1_2_3 : FVec Ideal S64x16x1x64 .f32 → FVec Ideal S64x16x16x64 .f32) (V m c main_v229) :=
  HostLine.at_unary rising _ 238 rfl rfl (by decide)

theorem e_v232 (c : Dev nD) : V m c main_v232 = (mulf : FVec Ideal S64x16x16x64 .f32 → FVec Ideal S64x16x16x64 .f32 → FVec Ideal S64x16x16x64 .f32) (V m c main_v230) (V m c main_v231) :=
  HostLine.at_binary rising _ 239 rfl rfl (by decide) (by decide)

theorem e_v233 (c : Dev nD) : V m c main_v233 = (broadcastInDim S64x1x16x64 ![0, 2, 3] bcast_S64x16x64_S64x1x16x64_0_2_3 : FVec Ideal S64x16x64 .f32 → FVec Ideal S64x1x16x64 .f32) (V m c main_arg7) :=
  HostLine.at_unary rising _ 240 rfl rfl (by decide)

theorem e_v234 (c : Dev nD) : V m c main_v234 = ((extractStridedSlice S16x64x64 ![1, 0, 0] · slices_S17x64x64_S16x64x64_1_0_0) : FVec Ideal S17x64x64 .f32 → FVec Ideal S16x64x64 .f32) (V m c main_v178) :=
  HostLine.at_unary rising _ 241 rfl rfl (by decide)

theorem e_v235 (c : Dev nD) : V m c main_v235 = ((transpose S64x16x64 [1, 0, 2] · transposes_S16x64x64_S64x16x64_1_0_2) : FVec Ideal S16x64x64 .f32 → FVec Ideal S64x16x64 .f32) (V m c main_v234) :=
  HostLine.at_unary rising _ 242 rfl rfl (by decide)

theorem e_v236 (c : Dev nD) : V m c main_v236 = (broadcastInDim S64x16x1x64 ![0, 1, 3] bcast_S64x16x64_S64x16x1x64_0_1_3 : FVec Ideal S64x16x64 .f32 → FVec Ideal S64x16x1x64 .f32) (V m c main_v235) :=
  HostLine.at_unary rising _ 243 rfl rfl (by decide)

theorem e_v237 (c : Dev nD) : V m c main_v237 = (broadcastInDim S64x16x16x64 ![0, 1, 2, 3] bcast_S64x1x16x64_S64x16x16x64_0_1_2_3 : FVec Ideal S64x1x16x64 .f32 → FVec Ideal S64x16x16x64 .f32) (V m c main_v233) :=
  HostLine.at_unary rising _ 244 rfl rfl (by decide)

theorem e_v238 (c : Dev nD) : V m c main_v238 = (broadcastInDim S64x16x16x64 ![0, 1, 2, 3] bcast_S64x16x1x64_S64x16x16x64_0_1_2_3 : FVec Ideal S64x16x1x64 .f32 → FVec Ideal S64x16x16x64 .f32) (V m c main_v236) :=
  HostLine.at_unary rising _ 245 rfl rfl (by decide)

theorem e_v239 (c : Dev nD) : V m c main_v239 = (mulf : FVec Ideal S64x16x16x64 .f32 → FVec Ideal S64x16x16x64 .f32 → FVec Ideal S64x16x16x64 .f32) (V m c main_v237) (V m c main_v238) :=
  HostLine.at_binary rising _ 246 rfl rfl (by decide) (by decide)

theorem e_v240 (c : Dev nD) : V m c main_v240 = (subf : FVec Ideal S64x16x16x64 .f32 → FVec Ideal S64x16x16x64 .f32 → FVec Ideal S64x16x16x64 .f32) (V m c main_v232) (V m c main_v239) :=
  HostLine.at_binary rising _ 247 rfl rfl (by decide) (by decide)

theorem e_v241 (c : Dev nD) : V m c main_v241 = (broadcastInDim S64x1x16x64 ![0, 2, 3] bcast_S64x16x64_S64x1x16x64_0_2_3 : FVec Ideal S64x16x64 .f32 → FVec Ideal S64x1x16x64 .f32) (V m c main_arg6) :=
  HostLine.at_unary rising _ 248 rfl rfl (by decide)

theorem e_v242 (c : Dev nD) : V m c main_v242 = ((extractStridedSlice S16x64x64 ![1, 0, 0] · slices_S17x64x64_S16x64x64_1_0_0) : FVec Ideal S17x64x64 .f32 → FVec Ideal S16x64x64 .f32) (V m c main_v178) :=
  HostLine.at_unary rising _ 249 rfl rfl (by decide)

theorem e_v243 (c : Dev nD) : V m c main_v243 = ((transpose S64x16x64 [1, 0, 2] · transposes_S16x64x64_S64x16x64_1_0_2) : FVec Ideal S16x64x64 .f32 → FVec Ideal S64x16x64 .f32) (V m c main_v242) :=
  HostLine.at_unary rising _ 250 rfl rfl (by decide)

theorem e_v244 (c : Dev nD) : V m c main_v244 = (broadcastInDim S64x16x1x64 ![0, 1, 3] bcast_S64x16x64_S64x16x1x64_0_1_3 : FVec Ideal S64x16x64 .f32 → FVec Ideal S64x16x1x64 .f32) (V m c main_v243) :=
  HostLine.at_unary rising _ 251 rfl rfl (by decide)

theorem e_v245 (c : Dev nD) : V m c main_v245 = (broadcastInDim S64x16x16x64 ![0, 1, 2, 3] bcast_S64x1x16x64_S64x16x16x64_0_1_2_3 : FVec Ideal S64x1x16x64 .f32 → FVec Ideal S64x16x16x64 .f32) (V m c main_v241) :=
  HostLine.at_unary rising _ 252 rfl rfl (by decide)

theorem e_v246 (c : Dev nD) : V m c main_v246 = (broadcastInDim S64x16x16x64 ![0, 1, 2, 3] bcast_S64x16x1x64_S64x16x16x64_0_1_2_3 : FVec Ideal S64x16x1x64 .f32 → FVec Ideal S64x16x16x64 .f32) (V m c main_v244) :=
  HostLine.at_unary rising _ 253 rfl rfl (by decide)

theorem e_v247 (c : Dev nD) : V m c main_v247 = (mulf : FVec Ideal S64x16x16x64 .f32 → FVec Ideal S64x16x16x64 .f32 → FVec Ideal S64x16x16x64 .f32) (V m c main_v245) (V m c main_v246) :=
  HostLine.at_binary rising _ 254 rfl rfl (by decide) (by decide)

theorem e_v248 (c : Dev nD) : V m c main_v248 = (broadcastInDim S64x1x16x64 ![0, 2, 3] bcast_S64x16x64_S64x1x16x64_0_2_3 : FVec Ideal S64x16x64 .f32 → FVec Ideal S64x1x16x64 .f32) (V m c main_arg7) :=
  HostLine.at_unary rising _ 255 rfl rfl (by decide)

theorem e_v249 (c : Dev nD) : V m c main_v249 = ((extractStridedSlice S16x64x64 ![1, 0, 0] · slices_S17x64x64_S16x64x64_1_0_0) : FVec Ideal S17x64x64 .f32 → FVec Ideal S16x64x64 .f32) (V m c main_v159) :=
  HostLine.at_unary rising _ 256 rfl rfl (by decide)

theorem e_v250 (c : Dev nD) : V m c main_v250 = ((transpose S64x16x64 [1, 0, 2] · transposes_S16x64x64_S64x16x64_1_0_2) : FVec Ideal S16x64x64 .f32 → FVec Ideal S64x16x64 .f32) (V m c main_v249) :=
  HostLine.at_unary rising _ 257 rfl rfl (by decide)

theorem e_v251 (c : Dev nD) : V m c main_v251 = (broadcastInDim S64x16x1x64 ![0, 1, 3] bcast_S64x16x64_S64x16x1x64_0_1_3 : FVec Ideal S64x16x64 .f32 → FVec Ideal S64x16x1x64 .f32) (V m c main_v250) :=
  HostLine.at_unary rising _ 258 rfl rfl (by decide)

theorem e_v252 (c : Dev nD) : V m c main_v252 = (broadcastInDim S64x16x16x64 ![0, 1, 2, 3] bcast_S64x1x16x64_S64x16x16x64_0_1_2_3 : FVec Ideal S64x1x16x64 .f32 → FVec Ideal S64x16x16x64 .f32) (V m c main_v248) :=
  HostLine.at_unary rising _ 259 rfl rfl (by decide)

theorem e_v253 (c : Dev nD) : V m c main_v253 = (broadcastInDim S64x16x16x64 ![0, 1, 2, 3] bcast_S64x16x1x64_S64x16x16x64_0_1_2_3 : FVec Ideal S64x16x1x64 .f32 → FVec Ideal S64x16x16x64 .f32) (V m c main_v251) :=
  HostLine.at_unary rising _ 260 rfl rfl (by decide)

theorem e_v254 (c : Dev nD) : V m c main_v254 = (mulf : FVec Ideal S64x16x16x64 .f32 → FVec Ideal S64x16x16x64 .f32 → FVec Ideal S64x16x16x64 .f32) (V m c main_v252) (V m c main_v253) :=
  HostLine.at_binary rising _ 261 rfl rfl (by decide) (by decide)

theorem e_v255 (c : Dev nD) : V m c main_v255 = (addf : FVec Ideal S64x16x16x64 .f32 → FVec Ideal S64x16x16x64 .f32 → FVec Ideal S64x16x16x64 .f32) (V m c main_v247) (V m c main_v254) :=
  HostLine.at_binary rising _ 262 rfl rfl (by decide) (by decide)

theorem e_v256 (c : Dev nD) : V m c main_v256 = ((transpose S64x64x16x16 [0, 3, 1, 2] · transposes_S64x16x16x64_S64x64x16x16_0_3_1_2) : FVec Ideal S64x16x16x64 .f32 → FVec Ideal S64x64x16x16 .f32) (V m c main_v240) :=
  HostLine.at_unary rising _ 263 rfl rfl (by decide)

end Cert.KernelIdeal.Host

end
-- ==== Proof.HostEqsC.lean ====
/- What each of the next host operations leaves: the tables packed two groups to a block, and the first doublings. -/
module

public import proofs.«01_k».proof.Proof.KernelIdealFrame
public import Idealize.ShloMosaic.Lib.Pipeline.ValueKit
public import Idealize.ShloMosaic.Lib.Pointwise

@[expose] public section

set_option maxRecDepth 65536

noncomputable section

namespace Cert.KernelIdeal.Host

open Cert.KernelIdeal Cert.KernelIdeal.Gen Idealize.ShloMosaic Idealize.ShloMosaic.TcCoe

variable (m : (ℓ : Loc nD τ sig) → Buf (Elt Ideal) ℓ)

theorem e_v257 (c : Dev nD) : V m c main_v257 = shapeCast S64x64x256 (V m c main_v256) shapeCasts_S64x64x16x16_S64x64x256 := by
  have h := HostLine.at_reshape rising (fun b => m (c, b)) 264 (x := main_v256) (y := main_v257) rfl rfl (by decide)
  exact h

theorem e_v258 (c : Dev nD) : V m c main_v258 = (Host.negf : FVec Ideal S64x16x16x64 .f32 → FVec Ideal S64x16x16x64 .f32) (V m c main_v255) :=
  HostLine.at_unary rising _ 265 rfl rfl (by decide)

theorem e_v259 (c : Dev nD) : V m c main_v259 = ((transpose S64x64x16x16 [0, 3, 1, 2] · transposes_S64x16x16x64_S64x64x16x16_0_3_1_2) : FVec Ideal S64x16x16x64 .f32 → FVec Ideal S64x64x16x16 .f32) (V m c main_v258) :=
  HostLine.at_unary rising _ 266 rfl rfl (by decide)

theorem e_v260 (c : Dev nD) : V m c main_v260 = shapeCast S64x64x256 (V m c main_v259) shapeCasts_S64x64x16x16_S64x64x256 := by
  have h := HostLine.at_reshape rising (fun b => m (c, b)) 267 (x := main_v259) (y := main_v260) rfl rfl (by decide)
  exact h

theorem e_cst_5 (c : Dev nD) : V m c main_cst_5 = (constant (F := Ideal) S_ .f32 0x00000000#32) :=
  HostLine.at_nullary rising _ 268 rfl rfl

theorem e_v261 (c : Dev nD) : V m c main_v261 = (broadcastInDim S32x256x64 ![] bcast_S_S32x256x64 : FVec Ideal S_ .f32 → FVec Ideal S32x256x64 .f32) (V m c main_cst_5) :=
  HostLine.at_unary rising _ 269 rfl rfl (by decide)

theorem e_v262 (c : Dev nD) : V m c main_v262 = shapeCast S32x2x256x64 (V m c main_v221) shapeCasts_S64x256x64_S32x2x256x64 := by
  have h := HostLine.at_reshape rising (fun b => m (c, b)) 270 (x := main_v221) (y := main_v262) rfl rfl (by decide)
  exact h

theorem e_v263 (c : Dev nD) : V m c main_v263 = shapeCast S32x2x256x64 (V m c main_v225) shapeCasts_S64x256x64_S32x2x256x64 := by
  have h := HostLine.at_reshape rising (fun b => m (c, b)) 271 (x := main_v225) (y := main_v263) rfl rfl (by decide)
  exact h

theorem e_v264 (c : Dev nD) : V m c main_v264 = ((extractStridedSlice S32x1x256x64 ![0, 0, 0, 0] · slices_S32x2x256x64_S32x1x256x64_0_0_0_0) : FVec Ideal S32x2x256x64 .f32 → FVec Ideal S32x1x256x64 .f32) (V m c main_v262) :=
  HostLine.at_unary rising _ 272 rfl rfl (by decide)

theorem e_v265 (c : Dev nD) : V m c main_v265 = shapeCast S32x256x64 (V m c main_v264) shapeCasts_S32x1x256x64_S32x256x64 := by
  have h := HostLine.at_reshape rising (fun b => m (c, b)) 273 (x := main_v264) (y := main_v265) rfl rfl (by decide)
  exact h

theorem e_v266 (c : Dev nD) : V m c main_v266 = ((extractStridedSlice S32x1x256x64 ![0, 0, 0, 0] · slices_S32x2x256x64_S32x1x256x64_0_0_0_0) : FVec Ideal S32x2x256x64 .f32 → FVec Ideal S32x1x256x64 .f32) (V m c main_v263) :=
  HostLine.at_unary rising _ 274 rfl rfl (by decide)

theorem e_v267 (c : Dev nD) : V m c main_v267 = shapeCast S32x256x64 (V m c main_v266) shapeCasts_S32x1x256x64_S32x256x64 := by
  have h := HostLine.at_reshape rising (fun b => m (c, b)) 275 (x := main_v266) (y := main_v267) rfl rfl (by decide)
  exact h

theorem e_v268 (c : Dev nD) : V m c main_v268 = (concatenate S32x256x256 2 [⟨S32x256x64, (V m c main_v265)⟩, ⟨S32x256x64, (V m c main_v261)⟩, ⟨S32x256x64, (V m c main_v267)⟩, ⟨S32x256x64, (V m c main_v261)⟩] concatenates_S32x256x64_S32x256x64_S32x256x64_S32x256x64_S32x256x256_d2 : FVec Ideal S32x256x256 .f32) :=
  HostLine.at_nary rising _ 276 rfl rfl (by decide)

theorem e_v269 (c : Dev nD) : V m c main_v269 = ((extractStridedSlice S32x1x256x64 ![0, 1, 0, 0] · slices_S32x2x256x64_S32x1x256x64_0_1_0_0) : FVec Ideal S32x2x256x64 .f32 → FVec Ideal S32x1x256x64 .f32) (V m c main_v262) :=
  HostLine.at_unary rising _ 277 rfl rfl (by decide)

theorem e_v270 (c : Dev nD) : V m c main_v270 = shapeCast S32x256x64 (V m c main_v269) shapeCasts_S32x1x256x64_S32x256x64 := by
  have h := HostLine.at_reshape rising (fun b => m (c, b)) 278 (x := main_v269) (y := main_v270) rfl rfl (by decide)
  exact h

theorem e_v271 (c : Dev nD) : V m c main_v271 = ((extractStridedSlice S32x1x256x64 ![0, 1, 0, 0] · slices_S32x2x256x64_S32x1x256x64_0_1_0_0) : FVec Ideal S32x2x256x64 .f32 → FVec Ideal S32x1x256x64 .f32) (V m c main_v263) :=
  HostLine.at_unary rising _ 279 rfl rfl (by decide)

theorem e_v272 (c : Dev nD) : V m c main_v272 = shapeCast S32x256x64 (V m c main_v271) shapeCasts_S32x1x256x64_S32x256x64 := by
  have h := HostLine.at_reshape rising (fun b => m (c, b)) 280 (x := main_v271) (y := main_v272) rfl rfl (by decide)
  exact h

theorem e_v273 (c : Dev nD) : V m c main_v273 = (concatenate S32x256x256 2 [⟨S32x256x64, (V m c main_v261)⟩, ⟨S32x256x64, (V m c main_v270)⟩, ⟨S32x256x64, (V m c main_v261)⟩, ⟨S32x256x64, (V m c main_v272)⟩] concatenates_S32x256x64_S32x256x64_S32x256x64_S32x256x64_S32x256x256_d2 : FVec Ideal S32x256x256 .f32) :=
  HostLine.at_nary rising _ 281 rfl rfl (by decide)

theorem e_v274 (c : Dev nD) : V m c main_v274 = (broadcastInDim S32x1x256x256 ![0, 2, 3] bcast_S32x256x256_S32x1x256x256_0_2_3 : FVec Ideal S32x256x256 .f32 → FVec Ideal S32x1x256x256 .f32) (V m c main_v268) :=
  HostLine.at_unary rising _ 282 rfl rfl (by decide)

theorem e_v275 (c : Dev nD) : V m c main_v275 = (broadcastInDim S32x1x256x256 ![0, 2, 3] bcast_S32x256x256_S32x1x256x256_0_2_3 : FVec Ideal S32x256x256 .f32 → FVec Ideal S32x1x256x256 .f32) (V m c main_v273) :=
  HostLine.at_unary rising _ 283 rfl rfl (by decide)

theorem e_v276 (c : Dev nD) : V m c main_v276 = ((fun a b => concatenate S32x2x256x256 1 [⟨S32x1x256x256, a⟩, ⟨S32x1x256x256, b⟩] concatenates_S32x1x256x256_S32x1x256x256_S32x2x256x256_d1) : FVec Ideal S32x1x256x256 .f32 → FVec Ideal S32x1x256x256 .f32 → FVec Ideal S32x2x256x256 .f32) (V m c main_v274) (V m c main_v275) :=
  HostLine.at_binary rising _ 284 rfl rfl (by decide) (by decide)

theorem e_v277 (c : Dev nD) : V m c main_v277 = shapeCast S64x256x256 (V m c main_v276) shapeCasts_S32x2x256x256_S64x256x256 := by
  have h := HostLine.at_reshape rising (fun b => m (c, b)) 285 (x := main_v276) (y := main_v277) rfl rfl (by decide)
  exact h

theorem e_cst_6 (c : Dev nD) : V m c main_cst_6 = (constant (F := Ideal) S_ .f32 0x00000000#32) :=
  HostLine.at_nullary rising _ 286 rfl rfl

theorem e_v278 (c : Dev nD) : V m c main_v278 = (broadcastInDim S32x64x256 ![] bcast_S_S32x64x256 : FVec Ideal S_ .f32 → FVec Ideal S32x64x256 .f32) (V m c main_cst_6) :=
  HostLine.at_unary rising _ 287 rfl rfl (by decide)

theorem e_v279 (c : Dev nD) : V m c main_v279 = shapeCast S32x2x64x256 (V m c main_v257) shapeCasts_S64x64x256_S32x2x64x256 := by
  have h := HostLine.at_reshape rising (fun b => m (c, b)) 288 (x := main_v257) (y := main_v279) rfl rfl (by decide)
  exact h

theorem e_v280 (c : Dev nD) : V m c main_v280 = shapeCast S32x2x64x256 (V m c main_v260) shapeCasts_S64x64x256_S32x2x64x256 := by
  have h := HostLine.at_reshape rising (fun b => m (c, b)) 289 (x := main_v260) (y := main_v280) rfl rfl (by decide)
  exact h

theorem e_v281 (c : Dev nD) : V m c main_v281 = ((extractStridedSlice S32x1x64x256 ![0, 0, 0, 0] · slices_S32x2x64x256_S32x1x64x256_0_0_0_0) : FVec Ideal S32x2x64x256 .f32 → FVec Ideal S32x1x64x256 .f32) (V m c main_v279) :=
  HostLine.at_unary rising _ 290 rfl rfl (by decide)

theorem e_v282 (c : Dev nD) : V m c main_v282 = shapeCast S32x64x256 (V m c main_v281) shapeCasts_S32x1x64x256_S32x64x256 := by
  have h := HostLine.at_reshape rising (fun b => m (c, b)) 291 (x := main_v281) (y := main_v282) rfl rfl (by decide)
  exact h

theorem e_v283 (c : Dev nD) : V m c main_v283 = ((extractStridedSlice S32x1x64x256 ![0, 0, 0, 0] · slices_S32x2x64x256_S32x1x64x256_0_0_0_0) : FVec Ideal S32x2x64x256 .f32 → FVec Ideal S32x1x64x256 .f32) (V m c main_v280) :=
  HostLine.at_unary rising _ 292 rfl rfl (by decide)

theorem e_v284 (c : Dev nD) : V m c main_v284 = shapeCast S32x64x256 (V m c main_v283) shapeCasts_S32x1x64x256_S32x64x256 := by
  have h := HostLine.at_reshape rising (fun b => m (c, b)) 293 (x := main_v283) (y := main_v284) rfl rfl (by decide)
  exact h

theorem e_v285 (c : Dev nD) : V m c main_v285 = (concatenate S32x256x256 1 [⟨S32x64x256, (V m c main_v282)⟩, ⟨S32x64x256, (V m c main_v278)⟩, ⟨S32x64x256, (V m c main_v284)⟩, ⟨S32x64x256, (V m c main_v278)⟩] concatenates_S32x64x256_S32x64x256_S32x64x256_S32x64x256_S32x256x256_d1 : FVec Ideal S32x256x256 .f32) :=
  HostLine.at_nary rising _ 294 rfl rfl (by decide)

theorem e_v286 (c : Dev nD) : V m c main_v286 = ((extractStridedSlice S32x1x64x256 ![0, 1, 0, 0] · slices_S32x2x64x256_S32x1x64x256_0_1_0_0) : FVec Ideal S32x2x64x256 .f32 → FVec Ideal S32x1x64x256 .f32) (V m c main_v279) :=
  HostLine.at_unary rising _ 295 rfl rfl (by decide)

theorem e_v287 (c : Dev nD) : V m c main_v287 = shapeCast S32x64x256 (V m c main_v286) shapeCasts_S32x1x64x256_S32x64x256 := by
  have h := HostLine.at_reshape rising (fun b => m (c, b)) 296 (x := main_v286) (y := main_v287) rfl rfl (by decide)
  exact h

theorem e_v288 (c : Dev nD) : V m c main_v288 = ((extractStridedSlice S32x1x64x256 ![0, 1, 0, 0] · slices_S32x2x64x256_S32x1x64x256_0_1_0_0) : FVec Ideal S32x2x64x256 .f32 → FVec Ideal S32x1x64x256 .f32) (V m c main_v280) :=
  HostLine.at_unary rising _ 297 rfl rfl (by decide)

theorem e_v289 (c : Dev nD) : V m c main_v289 = shapeCast S32x64x256 (V m c main_v288) shapeCasts_S32x1x64x256_S32x64x256 := by
  have h := HostLine.at_reshape rising (fun b => m (c, b)) 298 (x := main_v288) (y := main_v289) rfl rfl (by decide)
  exact h

theorem e_v290 (c : Dev nD) : V m c main_v290 = (concatenate S32x256x256 1 [⟨S32x64x256, (V m c main_v278)⟩, ⟨S32x64x256, (V m c main_v287)⟩, ⟨S32x64x256, (V m c main_v278)⟩, ⟨S32x64x256, (V m c main_v289)⟩] concatenates_S32x64x256_S32x64x256_S32x64x256_S32x64x256_S32x256x256_d1 : FVec Ideal S32x256x256 .f32) :=
  HostLine.at_nary rising _ 299 rfl rfl (by decide)

theorem e_v291 (c : Dev nD) : V m c main_v291 = (broadcastInDim S32x1x256x256 ![0, 2, 3] bcast_S32x256x256_S32x1x256x256_0_2_3 : FVec Ideal S32x256x256 .f32 → FVec Ideal S32x1x256x256 .f32) (V m c main_v285) :=
  HostLine.at_unary rising _ 300 rfl rfl (by decide)

theorem e_v292 (c : Dev nD) : V m c main_v292 = (broadcastInDim S32x1x256x256 ![0, 2, 3] bcast_S32x256x256_S32x1x256x256_0_2_3 : FVec Ideal S32x256x256 .f32 → FVec Ideal S32x1x256x256 .f32) (V m c main_v290) :=
  HostLine.at_unary rising _ 301 rfl rfl (by decide)

theorem e_v293 (c : Dev nD) : V m c main_v293 = ((fun a b => concatenate S32x2x256x256 1 [⟨S32x1x256x256, a⟩, ⟨S32x1x256x256, b⟩] concatenates_S32x1x256x256_S32x1x256x256_S32x2x256x256_d1) : FVec Ideal S32x1x256x256 .f32 → FVec Ideal S32x1x256x256 .f32 → FVec Ideal S32x2x256x256 .f32) (V m c main_v291) (V m c main_v292) :=
  HostLine.at_binary rising _ 302 rfl rfl (by decide) (by decide)

theorem e_v294 (c : Dev nD) : V m c main_v294 = shapeCast S64x256x256 (V m c main_v293) shapeCasts_S32x2x256x256_S64x256x256 := by
  have h := HostLine.at_reshape rising (fun b => m (c, b)) 303 (x := main_v293) (y := main_v294) rfl rfl (by decide)
  exact h

theorem e_v295 (c : Dev nD) : V m c main_v295 = ((extractStridedSlice S1x64x64 ![16, 0, 0] · slices_S17x64x64_S1x64x64_16_0_0) : FVec Ideal S17x64x64 .f32 → FVec Ideal S1x64x64 .f32) (V m c main_v159) :=
  HostLine.at_unary rising _ 304 rfl rfl (by decide)

theorem e_v296 (c : Dev nD) : V m c main_v296 = shapeCast S64x64 (V m c main_v295) shapeCasts_S1x64x64_S64x64 := by
  have h := HostLine.at_reshape rising (fun b => m (c, b)) 305 (x := main_v295) (y := main_v296) rfl rfl (by decide)
  exact h

theorem e_v297 (c : Dev nD) : V m c main_v297 = ((extractStridedSlice S1x64x64 ![16, 0, 0] · slices_S17x64x64_S1x64x64_16_0_0) : FVec Ideal S17x64x64 .f32 → FVec Ideal S1x64x64 .f32) (V m c main_v178) :=
  HostLine.at_unary rising _ 306 rfl rfl (by decide)

theorem e_v298 (c : Dev nD) : V m c main_v298 = shapeCast S64x64 (V m c main_v297) shapeCasts_S1x64x64_S64x64 := by
  have h := HostLine.at_reshape rising (fun b => m (c, b)) 307 (x := main_v297) (y := main_v298) rfl rfl (by decide)
  exact h

theorem e_v299 (c : Dev nD) : V m c main_v299 = shapeCast S32x2x64 (V m c main_v296) shapeCasts_S64x64_S32x2x64 := by
  have h := HostLine.at_reshape rising (fun b => m (c, b)) 308 (x := main_v296) (y := main_v299) rfl rfl (by decide)
  exact h

theorem e_v300 (c : Dev nD) : V m c main_v300 = shapeCast S32x2x64 (V m c main_v298) shapeCasts_S64x64_S32x2x64 := by
  have h := HostLine.at_reshape rising (fun b => m (c, b)) 309 (x := main_v298) (y := main_v300) rfl rfl (by decide)
  exact h

theorem e_v301 (c : Dev nD) : V m c main_v301 = ((extractStridedSlice S32x1x64 ![0, 0, 0] · slices_S32x2x64_S32x1x64_0_0_0) : FVec Ideal S32x2x64 .f32 → FVec Ideal S32x1x64 .f32) (V m c main_v299) :=
  HostLine.at_unary rising _ 310 rfl rfl (by decide)

theorem e_v302 (c : Dev nD) : V m c main_v302 = shapeCast S32x64 (V m c main_v301) shapeCasts_S32x1x64_S32x64 := by
  have h := HostLine.at_reshape rising (fun b => m (c, b)) 311 (x := main_v301) (y := main_v302) rfl rfl (by decide)
  exact h

theorem e_v303 (c : Dev nD) : V m c main_v303 = ((extractStridedSlice S32x1x64 ![0, 1, 0] · slices_S32x2x64_S32x1x64_0_1_0) : FVec Ideal S32x2x64 .f32 → FVec Ideal S32x1x64 .f32) (V m c main_v299) :=
  HostLine.at_unary rising _ 312 rfl rfl (by decide)

theorem e_v304 (c : Dev nD) : V m c main_v304 = shapeCast S32x64 (V m c main_v303) shapeCasts_S32x1x64_S32x64 := by
  have h := HostLine.at_reshape rising (fun b => m (c, b)) 313 (x := main_v303) (y := main_v304) rfl rfl (by decide)
  exact h

theorem e_v305 (c : Dev nD) : V m c main_v305 = ((extractStridedSlice S32x1x64 ![0, 0, 0] · slices_S32x2x64_S32x1x64_0_0_0) : FVec Ideal S32x2x64 .f32 → FVec Ideal S32x1x64 .f32) (V m c main_v300) :=
  HostLine.at_unary rising _ 314 rfl rfl (by decide)

theorem e_v306 (c : Dev nD) : V m c main_v306 = shapeCast S32x64 (V m c main_v305) shapeCasts_S32x1x64_S32x64 := by
  have h := HostLine.at_reshape rising (fun b => m (c, b)) 315 (x := main_v305) (y := main_v306) rfl rfl (by decide)
  exact h

theorem e_v307 (c : Dev nD) : V m c main_v307 = ((extractStridedSlice S32x1x64 ![0, 1, 0] · slices_S32x2x64_S32x1x64_0_1_0) : FVec Ideal S32x2x64 .f32 → FVec Ideal S32x1x64 .f32) (V m c main_v300) :=
  HostLine.at_unary rising _ 316 rfl rfl (by decide)

theorem e_v308 (c : Dev nD) : V m c main_v308 = shapeCast S32x64 (V m c main_v307) shapeCasts_S32x1x64_S32x64 := by
  have h := HostLine.at_reshape rising (fun b => m (c, b)) 317 (x := main_v307) (y := main_v308) rfl rfl (by decide)
  exact h

theorem e_v309 (c : Dev nD) : V m c main_v309 = (concatenate S32x256 1 [⟨S32x64, (V m c main_v302)⟩, ⟨S32x64, (V m c main_v304)⟩, ⟨S32x64, (V m c main_v306)⟩, ⟨S32x64, (V m c main_v308)⟩] concatenates_S32x64_S32x64_S32x64_S32x64_S32x256_d1 : FVec Ideal S32x256 .f32) :=
  HostLine.at_nary rising _ 318 rfl rfl (by decide)

theorem e_v310 (c : Dev nD) : V m c main_v310 = (mulf : FVec Ideal S64x64 .f32 → FVec Ideal S64x64 .f32 → FVec Ideal S64x64 .f32) (V m c main_v296) (V m c main_v296) :=
  HostLine.at_binary rising _ 319 rfl rfl (by decide) (by decide)

theorem e_v311 (c : Dev nD) : V m c main_v311 = (mulf : FVec Ideal S64x64 .f32 → FVec Ideal S64x64 .f32 → FVec Ideal S64x64 .f32) (V m c main_v298) (V m c main_v298) :=
  HostLine.at_binary rising _ 320 rfl rfl (by decide) (by decide)

theorem e_v312 (c : Dev nD) : V m c main_v312 = (subf : FVec Ideal S64x64 .f32 → FVec Ideal S64x64 .f32 → FVec Ideal S64x64 .f32) (V m c main_v310) (V m c main_v311) :=
  HostLine.at_binary rising _ 321 rfl rfl (by decide) (by decide)

theorem e_v313 (c : Dev nD) : V m c main_v313 = (mulf : FVec Ideal S64x64 .f32 → FVec Ideal S64x64 .f32 → FVec Ideal S64x64 .f32) (V m c main_v296) (V m c main_v298) :=
  HostLine.at_binary rising _ 322 rfl rfl (by decide) (by decide)

theorem e_v314 (c : Dev nD) : V m c main_v314 = (mulf : FVec Ideal S64x64 .f32 → FVec Ideal S64x64 .f32 → FVec Ideal S64x64 .f32) (V m c main_v298) (V m c main_v296) :=
  HostLine.at_binary rising _ 323 rfl rfl (by decide) (by decide)

theorem e_v315 (c : Dev nD) : V m c main_v315 = (addf : FVec Ideal S64x64 .f32 → FVec Ideal S64x64 .f32 → FVec Ideal S64x64 .f32) (V m c main_v313) (V m c main_v314) :=
  HostLine.at_binary rising _ 324 rfl rfl (by decide) (by decide)

theorem e_v316 (c : Dev nD) : V m c main_v316 = shapeCast S32x2x64 (V m c main_v312) shapeCasts_S64x64_S32x2x64 := by
  have h := HostLine.at_reshape rising (fun b => m (c, b)) 325 (x := main_v312) (y := main_v316) rfl rfl (by decide)
  exact h

theorem e_v317 (c : Dev nD) : V m c main_v317 = shapeCast S32x2x64 (V m c main_v315) shapeCasts_S64x64_S32x2x64 := by
  have h := HostLine.at_reshape rising (fun b => m (c, b)) 326 (x := main_v315) (y := main_v317) rfl rfl (by decide)
  exact h

theorem e_v318 (c : Dev nD) : V m c main_v318 = ((extractStridedSlice S32x1x64 ![0, 0, 0] · slices_S32x2x64_S32x1x64_0_0_0) : FVec Ideal S32x2x64 .f32 → FVec Ideal S32x1x64 .f32) (V m c main_v316) :=
  HostLine.at_unary rising _ 327 rfl rfl (by decide)

theorem e_v319 (c : Dev nD) : V m c main_v319 = shapeCast S32x64 (V m c main_v318) shapeCasts_S32x1x64_S32x64 := by
  have h := HostLine.at_reshape rising (fun b => m (c, b)) 328 (x := main_v318) (y := main_v319) rfl rfl (by decide)
  exact h

theorem e_v320 (c : Dev nD) : V m c main_v320 = ((extractStridedSlice S32x1x64 ![0, 1, 0] · slices_S32x2x64_S32x1x64_0_1_0) : FVec Ideal S32x2x64 .f32 → FVec Ideal S32x1x64 .f32) (V m c main_v316) :=
  HostLine.at_unary rising _ 329 rfl rfl (by decide)

theorem e_v321 (c : Dev nD) : V m c main_v321 = shapeCast S32x64 (V m c main_v320) shapeCasts_S32x1x64_S32x64 := by
  have h := HostLine.at_reshape rising (fun b => m (c, b)) 330 (x := main_v320) (y := main_v321) rfl rfl (by decide)
  exact h

theorem e_v322 (c : Dev nD) : V m c main_v322 = ((extractStridedSlice S32x1x64 ![0, 0, 0] · slices_S32x2x64_S32x1x64_0_0_0) : FVec Ideal S32x2x64 .f32 → FVec Ideal S32x1x64 .f32) (V m c main_v317) :=
  HostLine.at_unary rising _ 331 rfl rfl (by decide)

theorem e_v323 (c : Dev nD) : V m c main_v323 = shapeCast S32x64 (V m c main_v322) shapeCasts_S32x1x64_S32x64 := by
  have h := HostLine.at_reshape rising (fun b => m (c, b)) 332 (x := main_v322) (y := main_v323) rfl rfl (by decide)
  exact h

theorem e_v324 (c : Dev nD) : V m c main_v324 = ((extractStridedSlice S32x1x64 ![0, 1, 0] · slices_S32x2x64_S32x1x64_0_1_0) : FVec Ideal S32x2x64 .f32 → FVec Ideal S32x1x64 .f32) (V m c main_v317) :=
  HostLine.at_unary rising _ 333 rfl rfl (by decide)

theorem e_v325 (c : Dev nD) : V m c main_v325 = shapeCast S32x64 (V m c main_v324) shapeCasts_S32x1x64_S32x64 := by
  have h := HostLine.at_reshape rising (fun b => m (c, b)) 334 (x := main_v324) (y := main_v325) rfl rfl (by decide)
  exact h

theorem e_v326 (c : Dev nD) : V m c main_v326 = (concatenate S32x256 1 [⟨S32x64, (V m c main_v319)⟩, ⟨S32x64, (V m c main_v321)⟩, ⟨S32x64, (V m c main_v323)⟩, ⟨S32x64, (V m c main_v325)⟩] concatenates_S32x64_S32x64_S32x64_S32x64_S32x256_d1 : FVec Ideal S32x256 .f32) :=
  HostLine.at_nary rising _ 335 rfl rfl (by decide)

theorem e_v327 (c : Dev nD) : V m c main_v327 = (mulf : FVec Ideal S64x64 .f32 → FVec Ideal S64x64 .f32 → FVec Ideal S64x64 .f32) (V m c main_v312) (V m c main_v312) :=
  HostLine.at_binary rising _ 336 rfl rfl (by decide) (by decide)

theorem e_v328 (c : Dev nD) : V m c main_v328 = (mulf : FVec Ideal S64x64 .f32 → FVec Ideal S64x64 .f32 → FVec Ideal S64x64 .f32) (V m c main_v315) (V m c main_v315) :=
  HostLine.at_binary rising _ 337 rfl rfl (by decide) (by decide)

theorem e_v329 (c : Dev nD) : V m c main_v329 = (subf : FVec Ideal S64x64 .f32 → FVec Ideal S64x64 .f32 → FVec Ideal S64x64 .f32) (V m c main_v327) (V m c main_v328) :=
  HostLine.at_binary rising _ 338 rfl rfl (by decide) (by decide)

theorem e_v330 (c : Dev nD) : V m c main_v330 = (mulf : FVec Ideal S64x64 .f32 → FVec Ideal S64x64 .f32 → FVec Ideal S64x64 .f32) (V m c main_v312) (V m c main_v315) :=
  HostLine.at_binary rising _ 339 rfl rfl (by decide) (by decide)

theorem e_v331 (c : Dev nD) : V m c main_v331 = (mulf : FVec Ideal S64x64 .f32 → FVec Ideal S64x64 .f32 → FVec Ideal S64x64 .f32) (V m c main_v315) (V m c main_v312) :=
  HostLine.at_binary rising _ 340 rfl rfl (by decide) (by decide)

theorem e_v332 (c : Dev nD) : V m c main_v332 = (addf : FVec Ideal S64x64 .f32 → FVec Ideal S64x64 .f32 → FVec Ideal S64x64 .f32) (V m c main_v330) (V m c main_v331) :=
  HostLine.at_binary rising _ 341 rfl rfl (by decide) (by decide)

theorem e_v333 (c : Dev nD) : V m c main_v333 = shapeCast S32x2x64 (V m c main_v329) shapeCasts_S64x64_S32x2x64 := by
  have h := HostLine.at_reshape rising (fun b => m (c, b)) 342 (x := main_v329) (y := main_v333) rfl rfl (by decide)
  exact h

theorem e_v334 (c : Dev nD) : V m c main_v334 = shapeCast S32x2x64 (V m c main_v332) shapeCasts_S64x64_S32x2x64 := by
  have h := HostLine.at_reshape rising (fun b => m (c, b)) 343 (x := main_v332) (y := main_v334) rfl rfl (by decide)
  exact h

theorem e_v335 (c : Dev nD) : V m c main_v335 = ((extractStridedSlice S32x1x64 ![0, 0, 0] · slices_S32x2x64_S32x1x64_0_0_0) : FVec Ideal S32x2x64 .f32 → FVec Ideal S32x1x64 .f32) (V m c main_v333) :=
  HostLine.at_unary rising _ 344 rfl rfl (by decide)

theorem e_v336 (c : Dev nD) : V m c main_v336 = shapeCast S32x64 (V m c main_v335) shapeCasts_S32x1x64_S32x64 := by
  have h := HostLine.at_reshape rising (fun b => m (c, b)) 345 (x := main_v335) (y := main_v336) rfl rfl (by decide)
  exact h

theorem e_v337 (c : Dev nD) : V m c main_v337 = ((extractStridedSlice S32x1x64 ![0, 1, 0] · slices_S32x2x64_S32x1x64_0_1_0) : FVec Ideal S32x2x64 .f32 → FVec Ideal S32x1x64 .f32) (V m c main_v333) :=
  HostLine.at_unary rising _ 346 rfl rfl (by decide)

theorem e_v338 (c : Dev nD) : V m c main_v338 = shapeCast S32x64 (V m c main_v337) shapeCasts_S32x1x64_S32x64 := by
  have h := HostLine.at_reshape rising (fun b => m (c, b)) 347 (x := main_v337) (y := main_v338) rfl rfl (by decide)
  exact h

theorem e_v339 (c : Dev nD) : V m c main_v339 = ((extractStridedSlice S32x1x64 ![0, 0, 0] · slices_S32x2x64_S32x1x64_0_0_0) : FVec Ideal S32x2x64 .f32 → FVec Ideal S32x1x64 .f32) (V m c main_v334) :=
  HostLine.at_unary rising _ 348 rfl rfl (by decide)

theorem e_v340 (c : Dev nD) : V m c main_v340 = shapeCast S32x64 (V m c main_v339) shapeCasts_S32x1x64_S32x64 := by
  have h := HostLine.at_reshape rising (fun b => m (c, b)) 349 (x := main_v339) (y := main_v340) rfl rfl (by decide)
  exact h

theorem e_v341 (c : Dev nD) : V m c main_v341 = ((extractStridedSlice S32x1x64 ![0, 1, 0] · slices_S32x2x64_S32x1x64_0_1_0) : FVec Ideal S32x2x64 .f32 → FVec Ideal S32x1x64 .f32) (V m c main_v334) :=
  HostLine.at_unary rising _ 350 rfl rfl (by decide)

theorem e_v342 (c : Dev nD) : V m c main_v342 = shapeCast S32x64 (V m c main_v341) shapeCasts_S32x1x64_S32x64 := by
  have h := HostLine.at_reshape rising (fun b => m (c, b)) 351 (x := main_v341) (y := main_v342) rfl rfl (by decide)
  exact h

theorem e_v343 (c : Dev nD) : V m c main_v343 = (concatenate S32x256 1 [⟨S32x64, (V m c main_v336)⟩, ⟨S32x64, (V m c main_v338)⟩, ⟨S32x64, (V m c main_v340)⟩, ⟨S32x64, (V m c main_v342)⟩] concatenates_S32x64_S32x64_S32x64_S32x64_S32x256_d1 : FVec Ideal S32x256 .f32) :=
  HostLine.at_nary rising _ 352 rfl rfl (by decide)

theorem e_v344 (c : Dev nD) : V m c main_v344 = (mulf : FVec Ideal S64x64 .f32 → FVec Ideal S64x64 .f32 → FVec Ideal S64x64 .f32) (V m c main_v329) (V m c main_v329) :=
  HostLine.at_binary rising _ 353 rfl rfl (by decide) (by decide)

theorem e_v345 (c : Dev nD) : V m c main_v345 = (mulf : FVec Ideal S64x64 .f32 → FVec Ideal S64x64 .f32 → FVec Ideal S64x64 .f32) (V m c main_v332) (V m c main_v332) :=
  HostLine.at_binary rising _ 354 rfl rfl (by decide) (by decide)

theorem e_v346 (c : Dev nD) : V m c main_v346 = (subf : FVec Ideal S64x64 .f32 → FVec Ideal S64x64 .f32 → FVec Ideal S64x64 .f32) (V m c main_v344) (V m c main_v345) :=
  HostLine.at_binary rising _ 355 rfl rfl (by decide) (by decide)

theorem e_v347 (c : Dev nD) : V m c main_v347 = (mulf : FVec Ideal S64x64 .f32 → FVec Ideal S64x64 .f32 → FVec Ideal S64x64 .f32) (V m c main_v329) (V m c main_v332) :=
  HostLine.at_binary rising _ 356 rfl rfl (by decide) (by decide)

theorem e_v348 (c : Dev nD) : V m c main_v348 = (mulf : FVec Ideal S64x64 .f32 → FVec Ideal S64x64 .f32 → FVec Ideal S64x64 .f32) (V m c main_v332) (V m c main_v329) :=
  HostLine.at_binary rising _ 357 rfl rfl (by decide) (by decide)

theorem e_v349 (c : Dev nD) : V m c main_v349 = (addf : FVec Ideal S64x64 .f32 → FVec Ideal S64x64 .f32 → FVec Ideal S64x64 .f32) (V m c main_v347) (V m c main_v348) :=
  HostLine.at_binary rising _ 358 rfl rfl (by decide) (by decide)

theorem e_v350 (c : Dev nD) : V m c main_v350 = shapeCast S32x2x64 (V m c main_v346) shapeCasts_S64x64_S32x2x64 := by
  have h := HostLine.at_reshape rising (fun b => m (c, b)) 359 (x := main_v346) (y := main_v350) rfl rfl (by decide)
  exact h

end Cert.KernelIdeal.Host

end
-- ==== Proof.HostEqsD.lean ====
/- What each of the last host operations leaves: the remaining doublings and the tables as the launch takes them. -/
module

public import proofs.«01_k».proof.Proof.KernelIdealFrame
public import Idealize.ShloMosaic.Lib.Pipeline.ValueKit
public import Idealize.ShloMosaic.Lib.Pointwise

@[expose] public section

set_option maxRecDepth 65536

noncomputable section

namespace Cert.KernelIdeal.Host

open Cert.KernelIdeal Cert.KernelIdeal.Gen Idealize.ShloMosaic Idealize.ShloMosaic.TcCoe

variable (m : (ℓ : Loc nD τ sig) → Buf (Elt Ideal) ℓ)

theorem e_v351 (c : Dev nD) : V m c main_v351 = shapeCast S32x2x64 (V m c main_v349) shapeCasts_S64x64_S32x2x64 := by
  have h := HostLine.at_reshape rising (fun b => m (c, b)) 360 (x := main_v349) (y := main_v351) rfl rfl (by decide)
  exact h

theorem e_v352 (c : Dev nD) : V m c main_v352 = ((extractStridedSlice S32x1x64 ![0, 0, 0] · slices_S32x2x64_S32x1x64_0_0_0) : FVec Ideal S32x2x64 .f32 → FVec Ideal S32x1x64 .f32) (V m c main_v350) :=
  HostLine.at_unary rising _ 361 rfl rfl (by decide)

theorem e_v353 (c : Dev nD) : V m c main_v353 = shapeCast S32x64 (V m c main_v352) shapeCasts_S32x1x64_S32x64 := by
  have h := HostLine.at_reshape rising (fun b => m (c, b)) 362 (x := main_v352) (y := main_v353) rfl rfl (by decide)
  exact h

theorem e_v354 (c : Dev nD) : V m c main_v354 = ((extractStridedSlice S32x1x64 ![0, 1, 0] · slices_S32x2x64_S32x1x64_0_1_0) : FVec Ideal S32x2x64 .f32 → FVec Ideal S32x1x64 .f32) (V m c main_v350) :=
  HostLine.at_unary rising _ 363 rfl rfl (by decide)

theorem e_v355 (c : Dev nD) : V m c main_v355 = shapeCast S32x64 (V m c main_v354) shapeCasts_S32x1x64_S32x64 := by
  have h := HostLine.at_reshape rising (fun b => m (c, b)) 364 (x := main_v354) (y := main_v355) rfl rfl (by decide)
  exact h

theorem e_v356 (c : Dev nD) : V m c main_v356 = ((extractStridedSlice S32x1x64 ![0, 0, 0] · slices_S32x2x64_S32x1x64_0_0_0) : FVec Ideal S32x2x64 .f32 → FVec Ideal S32x1x64 .f32) (V m c main_v351) :=
  HostLine.at_unary rising _ 365 rfl rfl (by decide)

theorem e_v357 (c : Dev nD) : V m c main_v357 = shapeCast S32x64 (V m c main_v356) shapeCasts_S32x1x64_S32x64 := by
  have h := HostLine.at_reshape rising (fun b => m (c, b)) 366 (x := main_v356) (y := main_v357) rfl rfl (by decide)
  exact h

theorem e_v358 (c : Dev nD) : V m c main_v358 = ((extractStridedSlice S32x1x64 ![0, 1, 0] · slices_S32x2x64_S32x1x64_0_1_0) : FVec Ideal S32x2x64 .f32 → FVec Ideal S32x1x64 .f32) (V m c main_v351) :=
  HostLine.at_unary rising _ 367 rfl rfl (by decide)

theorem e_v359 (c : Dev nD) : V m c main_v359 = shapeCast S32x64 (V m c main_v358) shapeCasts_S32x1x64_S32x64 := by
  have h := HostLine.at_reshape rising (fun b => m (c, b)) 368 (x := main_v358) (y := main_v359) rfl rfl (by decide)
  exact h

theorem e_v360 (c : Dev nD) : V m c main_v360 = (concatenate S32x256 1 [⟨S32x64, (V m c main_v353)⟩, ⟨S32x64, (V m c main_v355)⟩, ⟨S32x64, (V m c main_v357)⟩, ⟨S32x64, (V m c main_v359)⟩] concatenates_S32x64_S32x64_S32x64_S32x64_S32x256_d1 : FVec Ideal S32x256 .f32) :=
  HostLine.at_nary rising _ 369 rfl rfl (by decide)

theorem e_v361 (c : Dev nD) : V m c main_v361 = (mulf : FVec Ideal S64x64 .f32 → FVec Ideal S64x64 .f32 → FVec Ideal S64x64 .f32) (V m c main_v346) (V m c main_v346) :=
  HostLine.at_binary rising _ 370 rfl rfl (by decide) (by decide)

theorem e_v362 (c : Dev nD) : V m c main_v362 = (mulf : FVec Ideal S64x64 .f32 → FVec Ideal S64x64 .f32 → FVec Ideal S64x64 .f32) (V m c main_v349) (V m c main_v349) :=
  HostLine.at_binary rising _ 371 rfl rfl (by decide) (by decide)

theorem e_v363 (c : Dev nD) : V m c main_v363 = (subf : FVec Ideal S64x64 .f32 → FVec Ideal S64x64 .f32 → FVec Ideal S64x64 .f32) (V m c main_v361) (V m c main_v362) :=
  HostLine.at_binary rising _ 372 rfl rfl (by decide) (by decide)

theorem e_v364 (c : Dev nD) : V m c main_v364 = (mulf : FVec Ideal S64x64 .f32 → FVec Ideal S64x64 .f32 → FVec Ideal S64x64 .f32) (V m c main_v346) (V m c main_v349) :=
  HostLine.at_binary rising _ 373 rfl rfl (by decide) (by decide)

theorem e_v365 (c : Dev nD) : V m c main_v365 = (mulf : FVec Ideal S64x64 .f32 → FVec Ideal S64x64 .f32 → FVec Ideal S64x64 .f32) (V m c main_v349) (V m c main_v346) :=
  HostLine.at_binary rising _ 374 rfl rfl (by decide) (by decide)

theorem e_v366 (c : Dev nD) : V m c main_v366 = (addf : FVec Ideal S64x64 .f32 → FVec Ideal S64x64 .f32 → FVec Ideal S64x64 .f32) (V m c main_v364) (V m c main_v365) :=
  HostLine.at_binary rising _ 375 rfl rfl (by decide) (by decide)

theorem e_v367 (c : Dev nD) : V m c main_v367 = shapeCast S32x2x64 (V m c main_v363) shapeCasts_S64x64_S32x2x64 := by
  have h := HostLine.at_reshape rising (fun b => m (c, b)) 376 (x := main_v363) (y := main_v367) rfl rfl (by decide)
  exact h

theorem e_v368 (c : Dev nD) : V m c main_v368 = shapeCast S32x2x64 (V m c main_v366) shapeCasts_S64x64_S32x2x64 := by
  have h := HostLine.at_reshape rising (fun b => m (c, b)) 377 (x := main_v366) (y := main_v368) rfl rfl (by decide)
  exact h

theorem e_v369 (c : Dev nD) : V m c main_v369 = ((extractStridedSlice S32x1x64 ![0, 0, 0] · slices_S32x2x64_S32x1x64_0_0_0) : FVec Ideal S32x2x64 .f32 → FVec Ideal S32x1x64 .f32) (V m c main_v367) :=
  HostLine.at_unary rising _ 378 rfl rfl (by decide)

theorem e_v370 (c : Dev nD) : V m c main_v370 = shapeCast S32x64 (V m c main_v369) shapeCasts_S32x1x64_S32x64 := by
  have h := HostLine.at_reshape rising (fun b => m (c, b)) 379 (x := main_v369) (y := main_v370) rfl rfl (by decide)
  exact h

theorem e_v371 (c : Dev nD) : V m c main_v371 = ((extractStridedSlice S32x1x64 ![0, 1, 0] · slices_S32x2x64_S32x1x64_0_1_0) : FVec Ideal S32x2x64 .f32 → FVec Ideal S32x1x64 .f32) (V m c main_v367) :=
  HostLine.at_unary rising _ 380 rfl rfl (by decide)

theorem e_v372 (c : Dev nD) : V m c main_v372 = shapeCast S32x64 (V m c main_v371) shapeCasts_S32x1x64_S32x64 := by
  have h := HostLine.at_reshape rising (fun b => m (c, b)) 381 (x := main_v371) (y := main_v372) rfl rfl (by decide)
  exact h

theorem e_v373 (c : Dev nD) : V m c main_v373 = ((extractStridedSlice S32x1x64 ![0, 0, 0] · slices_S32x2x64_S32x1x64_0_0_0) : FVec Ideal S32x2x64 .f32 → FVec Ideal S32x1x64 .f32) (V m c main_v368) :=
  HostLine.at_unary rising _ 382 rfl rfl (by decide)

theorem e_v374 (c : Dev nD) : V m c main_v374 = shapeCast S32x64 (V m c main_v373) shapeCasts_S32x1x64_S32x64 := by
  have h := HostLine.at_reshape rising (fun b => m (c, b)) 383 (x := main_v373) (y := main_v374) rfl rfl (by decide)
  exact h

theorem e_v375 (c : Dev nD) : V m c main_v375 = ((extractStridedSlice S32x1x64 ![0, 1, 0] · slices_S32x2x64_S32x1x64_0_1_0) : FVec Ideal S32x2x64 .f32 → FVec Ideal S32x1x64 .f32) (V m c main_v368) :=
  HostLine.at_unary rising _ 384 rfl rfl (by decide)

theorem e_v376 (c : Dev nD) : V m c main_v376 = shapeCast S32x64 (V m c main_v375) shapeCasts_S32x1x64_S32x64 := by
  have h := HostLine.at_reshape rising (fun b => m (c, b)) 385 (x := main_v375) (y := main_v376) rfl rfl (by decide)
  exact h

theorem e_v377 (c : Dev nD) : V m c main_v377 = (concatenate S32x256 1 [⟨S32x64, (V m c main_v370)⟩, ⟨S32x64, (V m c main_v372)⟩, ⟨S32x64, (V m c main_v374)⟩, ⟨S32x64, (V m c main_v376)⟩] concatenates_S32x64_S32x64_S32x64_S32x64_S32x256_d1 : FVec Ideal S32x256 .f32) :=
  HostLine.at_nary rising _ 386 rfl rfl (by decide)

theorem e_v378 (c : Dev nD) : V m c main_v378 = (mulf : FVec Ideal S64x64 .f32 → FVec Ideal S64x64 .f32 → FVec Ideal S64x64 .f32) (V m c main_v363) (V m c main_v363) :=
  HostLine.at_binary rising _ 387 rfl rfl (by decide) (by decide)

theorem e_v379 (c : Dev nD) : V m c main_v379 = (mulf : FVec Ideal S64x64 .f32 → FVec Ideal S64x64 .f32 → FVec Ideal S64x64 .f32) (V m c main_v366) (V m c main_v366) :=
  HostLine.at_binary rising _ 388 rfl rfl (by decide) (by decide)

theorem e_v380 (c : Dev nD) : V m c main_v380 = (subf : FVec Ideal S64x64 .f32 → FVec Ideal S64x64 .f32 → FVec Ideal S64x64 .f32) (V m c main_v378) (V m c main_v379) :=
  HostLine.at_binary rising _ 389 rfl rfl (by decide) (by decide)

theorem e_v381 (c : Dev nD) : V m c main_v381 = (mulf : FVec Ideal S64x64 .f32 → FVec Ideal S64x64 .f32 → FVec Ideal S64x64 .f32) (V m c main_v363) (V m c main_v366) :=
  HostLine.at_binary rising _ 390 rfl rfl (by decide) (by decide)

theorem e_v382 (c : Dev nD) : V m c main_v382 = (mulf : FVec Ideal S64x64 .f32 → FVec Ideal S64x64 .f32 → FVec Ideal S64x64 .f32) (V m c main_v366) (V m c main_v363) :=
  HostLine.at_binary rising _ 391 rfl rfl (by decide) (by decide)

theorem e_v383 (c : Dev nD) : V m c main_v383 = (addf : FVec Ideal S64x64 .f32 → FVec Ideal S64x64 .f32 → FVec Ideal S64x64 .f32) (V m c main_v381) (V m c main_v382) :=
  HostLine.at_binary rising _ 392 rfl rfl (by decide) (by decide)

theorem e_v384 (c : Dev nD) : V m c main_v384 = shapeCast S32x2x64 (V m c main_v380) shapeCasts_S64x64_S32x2x64 := by
  have h := HostLine.at_reshape rising (fun b => m (c, b)) 393 (x := main_v380) (y := main_v384) rfl rfl (by decide)
  exact h

theorem e_v385 (c : Dev nD) : V m c main_v385 = shapeCast S32x2x64 (V m c main_v383) shapeCasts_S64x64_S32x2x64 := by
  have h := HostLine.at_reshape rising (fun b => m (c, b)) 394 (x := main_v383) (y := main_v385) rfl rfl (by decide)
  exact h

theorem e_v386 (c : Dev nD) : V m c main_v386 = ((extractStridedSlice S32x1x64 ![0, 0, 0] · slices_S32x2x64_S32x1x64_0_0_0) : FVec Ideal S32x2x64 .f32 → FVec Ideal S32x1x64 .f32) (V m c main_v384) :=
  HostLine.at_unary rising _ 395 rfl rfl (by decide)

theorem e_v387 (c : Dev nD) : V m c main_v387 = shapeCast S32x64 (V m c main_v386) shapeCasts_S32x1x64_S32x64 := by
  have h := HostLine.at_reshape rising (fun b => m (c, b)) 396 (x := main_v386) (y := main_v387) rfl rfl (by decide)
  exact h

theorem e_v388 (c : Dev nD) : V m c main_v388 = ((extractStridedSlice S32x1x64 ![0, 1, 0] · slices_S32x2x64_S32x1x64_0_1_0) : FVec Ideal S32x2x64 .f32 → FVec Ideal S32x1x64 .f32) (V m c main_v384) :=
  HostLine.at_unary rising _ 397 rfl rfl (by decide)

theorem e_v389 (c : Dev nD) : V m c main_v389 = shapeCast S32x64 (V m c main_v388) shapeCasts_S32x1x64_S32x64 := by
  have h := HostLine.at_reshape rising (fun b => m (c, b)) 398 (x := main_v388) (y := main_v389) rfl rfl (by decide)
  exact h

theorem e_v390 (c : Dev nD) : V m c main_v390 = ((extractStridedSlice S32x1x64 ![0, 0, 0] · slices_S32x2x64_S32x1x64_0_0_0) : FVec Ideal S32x2x64 .f32 → FVec Ideal S32x1x64 .f32) (V m c main_v385) :=
  HostLine.at_unary rising _ 399 rfl rfl (by decide)

theorem e_v391 (c : Dev nD) : V m c main_v391 = shapeCast S32x64 (V m c main_v390) shapeCasts_S32x1x64_S32x64 := by
  have h := HostLine.at_reshape rising (fun b => m (c, b)) 400 (x := main_v390) (y := main_v391) rfl rfl (by decide)
  exact h

theorem e_v392 (c : Dev nD) : V m c main_v392 = ((extractStridedSlice S32x1x64 ![0, 1, 0] · slices_S32x2x64_S32x1x64_0_1_0) : FVec Ideal S32x2x64 .f32 → FVec Ideal S32x1x64 .f32) (V m c main_v385) :=
  HostLine.at_unary rising _ 401 rfl rfl (by decide)

theorem e_v393 (c : Dev nD) : V m c main_v393 = shapeCast S32x64 (V m c main_v392) shapeCasts_S32x1x64_S32x64 := by
  have h := HostLine.at_reshape rising (fun b => m (c, b)) 402 (x := main_v392) (y := main_v393) rfl rfl (by decide)
  exact h

theorem e_v394 (c : Dev nD) : V m c main_v394 = (concatenate S32x256 1 [⟨S32x64, (V m c main_v387)⟩, ⟨S32x64, (V m c main_v389)⟩, ⟨S32x64, (V m c main_v391)⟩, ⟨S32x64, (V m c main_v393)⟩] concatenates_S32x64_S32x64_S32x64_S32x64_S32x256_d1 : FVec Ideal S32x256 .f32) :=
  HostLine.at_nary rising _ 403 rfl rfl (by decide)

theorem e_v395 (c : Dev nD) : V m c main_v395 = (mulf : FVec Ideal S64x64 .f32 → FVec Ideal S64x64 .f32 → FVec Ideal S64x64 .f32) (V m c main_v380) (V m c main_v380) :=
  HostLine.at_binary rising _ 404 rfl rfl (by decide) (by decide)

theorem e_v396 (c : Dev nD) : V m c main_v396 = (mulf : FVec Ideal S64x64 .f32 → FVec Ideal S64x64 .f32 → FVec Ideal S64x64 .f32) (V m c main_v383) (V m c main_v383) :=
  HostLine.at_binary rising _ 405 rfl rfl (by decide) (by decide)

theorem e_v397 (c : Dev nD) : V m c main_v397 = (subf : FVec Ideal S64x64 .f32 → FVec Ideal S64x64 .f32 → FVec Ideal S64x64 .f32) (V m c main_v395) (V m c main_v396) :=
  HostLine.at_binary rising _ 406 rfl rfl (by decide) (by decide)

theorem e_v398 (c : Dev nD) : V m c main_v398 = (mulf : FVec Ideal S64x64 .f32 → FVec Ideal S64x64 .f32 → FVec Ideal S64x64 .f32) (V m c main_v380) (V m c main_v383) :=
  HostLine.at_binary rising _ 407 rfl rfl (by decide) (by decide)

theorem e_v399 (c : Dev nD) : V m c main_v399 = (mulf : FVec Ideal S64x64 .f32 → FVec Ideal S64x64 .f32 → FVec Ideal S64x64 .f32) (V m c main_v383) (V m c main_v380) :=
  HostLine.at_binary rising _ 408 rfl rfl (by decide) (by decide)

theorem e_v400 (c : Dev nD) : V m c main_v400 = (addf : FVec Ideal S64x64 .f32 → FVec Ideal S64x64 .f32 → FVec Ideal S64x64 .f32) (V m c main_v398) (V m c main_v399) :=
  HostLine.at_binary rising _ 409 rfl rfl (by decide) (by decide)

theorem e_v401 (c : Dev nD) : V m c main_v401 = shapeCast S32x2x64 (V m c main_v397) shapeCasts_S64x64_S32x2x64 := by
  have h := HostLine.at_reshape rising (fun b => m (c, b)) 410 (x := main_v397) (y := main_v401) rfl rfl (by decide)
  exact h

theorem e_v402 (c : Dev nD) : V m c main_v402 = shapeCast S32x2x64 (V m c main_v400) shapeCasts_S64x64_S32x2x64 := by
  have h := HostLine.at_reshape rising (fun b => m (c, b)) 411 (x := main_v400) (y := main_v402) rfl rfl (by decide)
  exact h

theorem e_v403 (c : Dev nD) : V m c main_v403 = ((extractStridedSlice S32x1x64 ![0, 0, 0] · slices_S32x2x64_S32x1x64_0_0_0) : FVec Ideal S32x2x64 .f32 → FVec Ideal S32x1x64 .f32) (V m c main_v401) :=
  HostLine.at_unary rising _ 412 rfl rfl (by decide)

theorem e_v404 (c : Dev nD) : V m c main_v404 = shapeCast S32x64 (V m c main_v403) shapeCasts_S32x1x64_S32x64 := by
  have h := HostLine.at_reshape rising (fun b => m (c, b)) 413 (x := main_v403) (y := main_v404) rfl rfl (by decide)
  exact h

theorem e_v405 (c : Dev nD) : V m c main_v405 = ((extractStridedSlice S32x1x64 ![0, 1, 0] · slices_S32x2x64_S32x1x64_0_1_0) : FVec Ideal S32x2x64 .f32 → FVec Ideal S32x1x64 .f32) (V m c main_v401) :=
  HostLine.at_unary rising _ 414 rfl rfl (by decide)

theorem e_v406 (c : Dev nD) : V m c main_v406 = shapeCast S32x64 (V m c main_v405) shapeCasts_S32x1x64_S32x64 := by
  have h := HostLine.at_reshape rising (fun b => m (c, b)) 415 (x := main_v405) (y := main_v406) rfl rfl (by decide)
  exact h

theorem e_v407 (c : Dev nD) : V m c main_v407 = ((extractStridedSlice S32x1x64 ![0, 0, 0] · slices_S32x2x64_S32x1x64_0_0_0) : FVec Ideal S32x2x64 .f32 → FVec Ideal S32x1x64 .f32) (V m c main_v402) :=
  HostLine.at_unary rising _ 416 rfl rfl (by decide)

theorem e_v408 (c : Dev nD) : V m c main_v408 = shapeCast S32x64 (V m c main_v407) shapeCasts_S32x1x64_S32x64 := by
  have h := HostLine.at_reshape rising (fun b => m (c, b)) 417 (x := main_v407) (y := main_v408) rfl rfl (by decide)
  exact h

theorem e_v409 (c : Dev nD) : V m c main_v409 = ((extractStridedSlice S32x1x64 ![0, 1, 0] · slices_S32x2x64_S32x1x64_0_1_0) : FVec Ideal S32x2x64 .f32 → FVec Ideal S32x1x64 .f32) (V m c main_v402) :=
  HostLine.at_unary rising _ 418 rfl rfl (by decide)

theorem e_v410 (c : Dev nD) : V m c main_v410 = shapeCast S32x64 (V m c main_v409) shapeCasts_S32x1x64_S32x64 := by
  have h := HostLine.at_reshape rising (fun b => m (c, b)) 419 (x := main_v409) (y := main_v410) rfl rfl (by decide)
  exact h

theorem e_v411 (c : Dev nD) : V m c main_v411 = (concatenate S32x256 1 [⟨S32x64, (V m c main_v404)⟩, ⟨S32x64, (V m c main_v406)⟩, ⟨S32x64, (V m c main_v408)⟩, ⟨S32x64, (V m c main_v410)⟩] concatenates_S32x64_S32x64_S32x64_S32x64_S32x256_d1 : FVec Ideal S32x256 .f32) :=
  HostLine.at_nary rising _ 420 rfl rfl (by decide)

theorem e_v412 (c : Dev nD) : V m c main_v412 = (mulf : FVec Ideal S64x64 .f32 → FVec Ideal S64x64 .f32 → FVec Ideal S64x64 .f32) (V m c main_v397) (V m c main_v397) :=
  HostLine.at_binary rising _ 421 rfl rfl (by decide) (by decide)

theorem e_v413 (c : Dev nD) : V m c main_v413 = (mulf : FVec Ideal S64x64 .f32 → FVec Ideal S64x64 .f32 → FVec Ideal S64x64 .f32) (V m c main_v400) (V m c main_v400) :=
  HostLine.at_binary rising _ 422 rfl rfl (by decide) (by decide)

theorem e_v414 (c : Dev nD) : V m c main_v414 = (subf : FVec Ideal S64x64 .f32 → FVec Ideal S64x64 .f32 → FVec Ideal S64x64 .f32) (V m c main_v412) (V m c main_v413) :=
  HostLine.at_binary rising _ 423 rfl rfl (by decide) (by decide)

theorem e_v415 (c : Dev nD) : V m c main_v415 = (mulf : FVec Ideal S64x64 .f32 → FVec Ideal S64x64 .f32 → FVec Ideal S64x64 .f32) (V m c main_v397) (V m c main_v400) :=
  HostLine.at_binary rising _ 424 rfl rfl (by decide) (by decide)

theorem e_v416 (c : Dev nD) : V m c main_v416 = (mulf : FVec Ideal S64x64 .f32 → FVec Ideal S64x64 .f32 → FVec Ideal S64x64 .f32) (V m c main_v400) (V m c main_v397) :=
  HostLine.at_binary rising _ 425 rfl rfl (by decide) (by decide)

theorem e_v417 (c : Dev nD) : V m c main_v417 = (addf : FVec Ideal S64x64 .f32 → FVec Ideal S64x64 .f32 → FVec Ideal S64x64 .f32) (V m c main_v415) (V m c main_v416) :=
  HostLine.at_binary rising _ 426 rfl rfl (by decide) (by decide)

theorem e_v418 (c : Dev nD) : V m c main_v418 = shapeCast S32x2x64 (V m c main_v414) shapeCasts_S64x64_S32x2x64 := by
  have h := HostLine.at_reshape rising (fun b => m (c, b)) 427 (x := main_v414) (y := main_v418) rfl rfl (by decide)
  exact h

theorem e_v419 (c : Dev nD) : V m c main_v419 = shapeCast S32x2x64 (V m c main_v417) shapeCasts_S64x64_S32x2x64 := by
  have h := HostLine.at_reshape rising (fun b => m (c, b)) 428 (x := main_v417) (y := main_v419) rfl rfl (by decide)
  exact h

theorem e_v420 (c : Dev nD) : V m c main_v420 = ((extractStridedSlice S32x1x64 ![0, 0, 0] · slices_S32x2x64_S32x1x64_0_0_0) : FVec Ideal S32x2x64 .f32 → FVec Ideal S32x1x64 .f32) (V m c main_v418) :=
  HostLine.at_unary rising _ 429 rfl rfl (by decide)

theorem e_v421 (c : Dev nD) : V m c main_v421 = shapeCast S32x64 (V m c main_v420) shapeCasts_S32x1x64_S32x64 := by
  have h := HostLine.at_reshape rising (fun b => m (c, b)) 430 (x := main_v420) (y := main_v421) rfl rfl (by decide)
  exact h

theorem e_v422 (c : Dev nD) : V m c main_v422 = ((extractStridedSlice S32x1x64 ![0, 1, 0] · slices_S32x2x64_S32x1x64_0_1_0) : FVec Ideal S32x2x64 .f32 → FVec Ideal S32x1x64 .f32) (V m c main_v418) :=
  HostLine.at_unary rising _ 431 rfl rfl (by decide)

theorem e_v423 (c : Dev nD) : V m c main_v423 = shapeCast S32x64 (V m c main_v422) shapeCasts_S32x1x64_S32x64 := by
  have h := HostLine.at_reshape rising (fun b => m (c, b)) 432 (x := main_v422) (y := main_v423) rfl rfl (by decide)
  exact h

theorem e_v424 (c : Dev nD) : V m c main_v424 = ((extractStridedSlice S32x1x64 ![0, 0, 0] · slices_S32x2x64_S32x1x64_0_0_0) : FVec Ideal S32x2x64 .f32 → FVec Ideal S32x1x64 .f32) (V m c main_v419) :=
  HostLine.at_unary rising _ 433 rfl rfl (by decide)

theorem e_v425 (c : Dev nD) : V m c main_v425 = shapeCast S32x64 (V m c main_v424) shapeCasts_S32x1x64_S32x64 := by
  have h := HostLine.at_reshape rising (fun b => m (c, b)) 434 (x := main_v424) (y := main_v425) rfl rfl (by decide)
  exact h

theorem e_v426 (c : Dev nD) : V m c main_v426 = ((extractStridedSlice S32x1x64 ![0, 1, 0] · slices_S32x2x64_S32x1x64_0_1_0) : FVec Ideal S32x2x64 .f32 → FVec Ideal S32x1x64 .f32) (V m c main_v419) :=
  HostLine.at_unary rising _ 435 rfl rfl (by decide)

theorem e_v427 (c : Dev nD) : V m c main_v427 = shapeCast S32x64 (V m c main_v426) shapeCasts_S32x1x64_S32x64 := by
  have h := HostLine.at_reshape rising (fun b => m (c, b)) 436 (x := main_v426) (y := main_v427) rfl rfl (by decide)
  exact h

theorem e_v428 (c : Dev nD) : V m c main_v428 = (concatenate S32x256 1 [⟨S32x64, (V m c main_v421)⟩, ⟨S32x64, (V m c main_v423)⟩, ⟨S32x64, (V m c main_v425)⟩, ⟨S32x64, (V m c main_v427)⟩] concatenates_S32x64_S32x64_S32x64_S32x64_S32x256_d1 : FVec Ideal S32x256 .f32) :=
  HostLine.at_nary rising _ 437 rfl rfl (by decide)

theorem e_v429 (c : Dev nD) : V m c main_v429 = (mulf : FVec Ideal S64x64 .f32 → FVec Ideal S64x64 .f32 → FVec Ideal S64x64 .f32) (V m c main_v414) (V m c main_v414) :=
  HostLine.at_binary rising _ 438 rfl rfl (by decide) (by decide)

theorem e_v430 (c : Dev nD) : V m c main_v430 = (mulf : FVec Ideal S64x64 .f32 → FVec Ideal S64x64 .f32 → FVec Ideal S64x64 .f32) (V m c main_v417) (V m c main_v417) :=
  HostLine.at_binary rising _ 439 rfl rfl (by decide) (by decide)

theorem e_v431 (c : Dev nD) : V m c main_v431 = (subf : FVec Ideal S64x64 .f32 → FVec Ideal S64x64 .f32 → FVec Ideal S64x64 .f32) (V m c main_v429) (V m c main_v430) :=
  HostLine.at_binary rising _ 440 rfl rfl (by decide) (by decide)

theorem e_v432 (c : Dev nD) : V m c main_v432 = (mulf : FVec Ideal S64x64 .f32 → FVec Ideal S64x64 .f32 → FVec Ideal S64x64 .f32) (V m c main_v414) (V m c main_v417) :=
  HostLine.at_binary rising _ 441 rfl rfl (by decide) (by decide)

theorem e_v433 (c : Dev nD) : V m c main_v433 = (mulf : FVec Ideal S64x64 .f32 → FVec Ideal S64x64 .f32 → FVec Ideal S64x64 .f32) (V m c main_v417) (V m c main_v414) :=
  HostLine.at_binary rising _ 442 rfl rfl (by decide) (by decide)

theorem e_v434 (c : Dev nD) : V m c main_v434 = (addf : FVec Ideal S64x64 .f32 → FVec Ideal S64x64 .f32 → FVec Ideal S64x64 .f32) (V m c main_v432) (V m c main_v433) :=
  HostLine.at_binary rising _ 443 rfl rfl (by decide) (by decide)

theorem e_v435 (c : Dev nD) : V m c main_v435 = (broadcastInDim S32x1x256 ![0, 2] bcast_S32x256_S32x1x256_0_2 : FVec Ideal S32x256 .f32 → FVec Ideal S32x1x256 .f32) (V m c main_v309) :=
  HostLine.at_unary rising _ 444 rfl rfl (by decide)

theorem e_v436 (c : Dev nD) : V m c main_v436 = (broadcastInDim S32x1x256 ![0, 2] bcast_S32x256_S32x1x256_0_2 : FVec Ideal S32x256 .f32 → FVec Ideal S32x1x256 .f32) (V m c main_v326) :=
  HostLine.at_unary rising _ 445 rfl rfl (by decide)

theorem e_v437 (c : Dev nD) : V m c main_v437 = (broadcastInDim S32x1x256 ![0, 2] bcast_S32x256_S32x1x256_0_2 : FVec Ideal S32x256 .f32 → FVec Ideal S32x1x256 .f32) (V m c main_v343) :=
  HostLine.at_unary rising _ 446 rfl rfl (by decide)

theorem e_v438 (c : Dev nD) : V m c main_v438 = (broadcastInDim S32x1x256 ![0, 2] bcast_S32x256_S32x1x256_0_2 : FVec Ideal S32x256 .f32 → FVec Ideal S32x1x256 .f32) (V m c main_v360) :=
  HostLine.at_unary rising _ 447 rfl rfl (by decide)

theorem e_v439 (c : Dev nD) : V m c main_v439 = (broadcastInDim S32x1x256 ![0, 2] bcast_S32x256_S32x1x256_0_2 : FVec Ideal S32x256 .f32 → FVec Ideal S32x1x256 .f32) (V m c main_v377) :=
  HostLine.at_unary rising _ 448 rfl rfl (by decide)

theorem e_v440 (c : Dev nD) : V m c main_v440 = (broadcastInDim S32x1x256 ![0, 2] bcast_S32x256_S32x1x256_0_2 : FVec Ideal S32x256 .f32 → FVec Ideal S32x1x256 .f32) (V m c main_v394) :=
  HostLine.at_unary rising _ 449 rfl rfl (by decide)

theorem e_v441 (c : Dev nD) : V m c main_v441 = (broadcastInDim S32x1x256 ![0, 2] bcast_S32x256_S32x1x256_0_2 : FVec Ideal S32x256 .f32 → FVec Ideal S32x1x256 .f32) (V m c main_v411) :=
  HostLine.at_unary rising _ 450 rfl rfl (by decide)

theorem e_v442 (c : Dev nD) : V m c main_v442 = (broadcastInDim S32x1x256 ![0, 2] bcast_S32x256_S32x1x256_0_2 : FVec Ideal S32x256 .f32 → FVec Ideal S32x1x256 .f32) (V m c main_v428) :=
  HostLine.at_unary rising _ 451 rfl rfl (by decide)

theorem e_v443 (c : Dev nD) : V m c main_v443 = (concatenate S32x8x256 1 [⟨S32x1x256, (V m c main_v435)⟩, ⟨S32x1x256, (V m c main_v436)⟩, ⟨S32x1x256, (V m c main_v437)⟩, ⟨S32x1x256, (V m c main_v438)⟩, ⟨S32x1x256, (V m c main_v439)⟩, ⟨S32x1x256, (V m c main_v440)⟩, ⟨S32x1x256, (V m c main_v441)⟩, ⟨S32x1x256, (V m c main_v442)⟩] concatenates_S32x1x256_S32x1x256_S32x1x256_S32x1x256_S32x1x256_S32x1x256_S32x1x256_S32x1x256_S32x8x256_d1 : FVec Ideal S32x8x256 .f32) :=
  HostLine.at_nary rising _ 452 rfl rfl (by decide)

theorem e_v444 (c : Dev nD) : V m c main_v444 = ((truncf .bf16 · bitsLt_bf16_f32) : FVec Ideal S64x256x256 .f32 → FVec Ideal S64x256x256 .bf16) (V m c main_v217) :=
  HostLine.at_unary rising _ 453 rfl rfl (by decide)

theorem e_v445 (c : Dev nD) : V m c main_v445 = ((truncf .bf16 · bitsLt_bf16_f32) : FVec Ideal S64x256x256 .f32 → FVec Ideal S64x256x256 .bf16) (V m c main_v277) :=
  HostLine.at_unary rising _ 454 rfl rfl (by decide)

theorem e_v446 (c : Dev nD) : V m c main_v446 = ((truncf .bf16 · bitsLt_bf16_f32) : FVec Ideal S64x256x256 .f32 → FVec Ideal S64x256x256 .bf16) (V m c main_v294) :=
  HostLine.at_unary rising _ 455 rfl rfl (by decide)

end Cert.KernelIdeal.Host

end
-- ==== Proof.HostEqs.lean ====
/- The host operations before the recurrence's launch, each as an equation between what the arrays hold at the launch. -/
module

public import proofs.«01_k».proof.Proof.HostEqsA
public import proofs.«01_k».proof.Proof.HostEqsB
public import proofs.«01_k».proof.Proof.HostEqsC
public import proofs.«01_k».proof.Proof.HostEqsD
-- ==== Proof.S5TablesA.lean ====
/- The tables of the recurrence, entry by entry, each a lemma over arbitrary arrays: the powers times the input matrix,
   the kernel of a chunk and its Toeplitz table, and the table that sums a chunk into a state. -/
module

public import proofs.«01_k».proof.Proof.Gen.KernelIdeal
public import Idealize.ShloMosaic.Lib.Pipeline.ValueKit
public import Idealize.ShloMosaic.Lib.Pointwise
public import proofs.«01_k».proof.Proof.S5Idx

@[expose] public section

set_option maxRecDepth 16384

noncomputable section

namespace Cert.KernelIdeal.Host

open Cert.S5Idx Cert.KernelIdeal Cert.KernelIdeal.Gen Idealize.ShloMosaic Idealize.ShloMosaic.TcCoe Idealize.SL.Sem

/-- A power times the input matrix, real part. -/
theorem z_at (P Q : FVec Ideal S17x64x64 .f32) (X Y : FVec Ideal S64x64x16 .f32) (j : Fin 17) (g p : Fin 64) (d : Fin 16) :
    subf (mulf (broadcastInDim S17x64x64x16 ![0, 1, 2, 3] bcast_S17x64x64x1_S17x64x64x16_0_1_2_3 (broadcastInDim S17x64x64x1 ![0, 1, 2] bcast_S17x64x64_S17x64x64x1_0_1_2 P))
      (broadcastInDim S17x64x64x16 ![0, 1, 2, 3] bcast_S1x64x64x16_S17x64x64x16_0_1_2_3 (broadcastInDim S1x64x64x16 ![1, 2, 3] bcast_S64x64x16_S1x64x64x16_1_2_3 X)))
     (mulf (broadcastInDim S17x64x64x16 ![0, 1, 2, 3] bcast_S17x64x64x1_S17x64x64x16_0_1_2_3 (broadcastInDim S17x64x64x1 ![0, 1, 2] bcast_S17x64x64_S17x64x64x1_0_1_2 Q))
      (broadcastInDim S17x64x64x16 ![0, 1, 2, 3] bcast_S1x64x64x16_S17x64x64x16_0_1_2_3 (broadcastInDim S1x64x64x16 ![1, 2, 3] bcast_S64x64x16_S1x64x64x16_1_2_3 Y))) (ix4 j g p d)
     = P (ix3 j g p) * X (ix3 g p d) - Q (ix3 j g p) * Y (ix3 g p d) := by
  pointwise []

/-- The kernel of a chunk at a lag: a sum over the states. -/
theorem k_at (Z : FVec Ideal S17x64x64x16 .f32) (C : FVec Ideal S64x16x64 .f32) (g : Fin 64) (j c d : Fin 16) :
    transpose S64x16x16x16 [0, 1, 3, 2] (Host.dotGeneral dot_S16x64x64x16_S64x16x64_S64x16x16x16_2_2_03_1_1_0 (some .fp32)
      (extractStridedSlice S16x64x64x16 ![0, 0, 0, 0] Z slices_S17x64x64x16_S16x64x64x16_0_0_0_0) C : FVec Ideal S64x16x16x16 .f32)
      transposes_S64x16x16x16_S64x16x16x16_0_1_3_2 (ix4 g j c d)
     = ∑ p : Fin 64, Z (ix4 ⟨j.val, by omega⟩ g p d) * C (ix3 g c p) := by
  pointwise []

/-- The mask is one where the lag is not negative. -/
theorem mask_at (a e : Fin 16) : (fun i => FloatOps.ofBits (F := Ideal) .f32 (lit1 (S16x16.rowMajor i))) (ix2 e a) = if e.val ≤ a.val then 1 else 0 := by
  have : ∀ a e : Fin 16, lit1 (S16x16.rowMajor (ix2 e a)) = if e.val ≤ a.val then 0x3F800000#32 else 0x00000000#32 := by decide +kernel
  show FloatOps.ofBits (F := Ideal) .f32 (lit1 (S16x16.rowMajor (ix2 e a))) = _
  rw [this]
  split_ifs <;> pointwise []

/-- The kernel gathered at the lags, a negative lag read as zero. -/
theorem gather_at (K : FVec Ideal S64x16x16x16 .f32) (g : Fin 64) (e a c d : Fin 16) :
    Host.gather gather_S64x16x16x16_S16x16x1_S64x16x16x16x16_034_1_n_n_1_2_6411616 K
      (broadcastInDim S16x16x1 ![0, 1] bcast_S16x16_S16x16x1_0_1 (select (constantI S16x16 1 0#1) (addi (fun i => lit0 (S16x16.rowMajor i)) (broadcastInDim S16x16 ![] bcast_S_S16x16 (constantI S_ 32 16#32))) (fun i => lit0 (S16x16.rowMajor i))))
      (ix5 g e a c d) = K (ix4 g ⟨a.val - e.val, by omega⟩ c d) := by
  have hw : ∀ e a : Fin 16, lit0 (S16x16.rowMajor (ix2 e a)) = BitVec.ofNat 32 (a.val - e.val) := by decide +kernel
  have key : ∀ X : IVec S16x16x1 32, X (ix3 e a 0) = BitVec.ofNat 32 (a.val - e.val) →
      Host.gather gather_S64x16x16x16_S16x16x1_S64x16x16x16x16_034_1_n_n_1_2_6411616 K X (ix5 g e a c d) = K (ix4 g ⟨a.val - e.val, by omega⟩ c d) := by
    intro X hX
    unfold Host.gather
    refine congrArg K (funext fun b => ?_)
    fin_cases b
    · apply Fin.ext
      show (gather_S64x16x16x16_S16x16x1_S64x16x16x16x16_034_1_n_n_1_2_6411616).start (ix5 g e a c d) X 0 + (gather_S64x16x16x16_S16x16x1_S64x16x16x16x16_034_1_n_n_1_2_6411616).batchCoord (ix5 g e a c d) 0 + (gather_S64x16x16x16_S16x16x1_S64x16x16x16x16_034_1_n_n_1_2_6411616).offCoord (ix5 g e a c d) 0 = g.val
      rw [GatherDims.batchCoord_eq_zero _ _ _ List.not_mem_nil]
      unfold GatherDims.start GatherDims.offCoord
      rw [dif_neg (show (0 : Fin 4) ∉ (gather_S64x16x16x16_S16x16x1_S64x16x16x16x16_034_1_n_n_1_2_6411616).startIndexMap by decide), dif_pos (show (0 : Fin 4) ∈ (gather_S64x16x16x16_S16x16x1_S64x16x16x16x16_034_1_n_n_1_2_6411616).sKept from (GatherDims.mem_sKept _ _).mpr ⟨by decide, List.not_mem_nil⟩)]
      simp only [Nat.zero_add, Nat.add_zero]
      rfl
    · apply Fin.ext
      have : ∀ n : Fin 16, min (BitVec.ofNat 32 n.val).toInt.toNat 15 = n.val := by decide
      have h15 := this ⟨a.val - e.val, by omega⟩
      rw [← hX] at h15
      refine Eq.trans ?_ h15
      show (gather_S64x16x16x16_S16x16x1_S64x16x16x16x16_034_1_n_n_1_2_6411616).start (ix5 g e a c d) X 1 + (gather_S64x16x16x16_S16x16x1_S64x16x16x16x16_034_1_n_n_1_2_6411616).batchCoord (ix5 g e a c d) 1 + (gather_S64x16x16x16_S16x16x1_S64x16x16x16x16_034_1_n_n_1_2_6411616).offCoord (ix5 g e a c d) 1 = _
      rw [GatherDims.batchCoord_eq_zero _ _ _ List.not_mem_nil, GatherDims.offCoord_eq_zero _ _ _ (fun h => ((GatherDims.mem_sKept _ _).mp h).1 (List.mem_singleton.mpr rfl))]
      simp only [Nat.add_zero]
      unfold GatherDims.start
      rw [dif_pos (show (1 : Fin 4) ∈ (gather_S64x16x16x16_S16x16x1_S64x16x16x16x16_034_1_n_n_1_2_6411616).startIndexMap from List.mem_singleton.mpr rfl)]
      have hsi : (gather_S64x16x16x16_S16x16x1_S64x16x16x16x16_034_1_n_n_1_2_6411616).siIdx (ix5 g e a c d) ⟨List.idxOf (1 : Fin 4) (gather_S64x16x16x16_S16x16x1_S64x16x16x16x16_034_1_n_n_1_2_6411616).startIndexMap, List.idxOf_lt_length_iff.2 (List.mem_singleton.mpr rfl)⟩ = ix3 e a 0 := by
        funext b; refine Fin.ext ?_
        match b with
        | ⟨0, _⟩ => rfl
        | ⟨1, _⟩ => rfl
        | ⟨2, _⟩ => rfl
      rw [hsi]
      rfl
    · apply Fin.ext
      show (gather_S64x16x16x16_S16x16x1_S64x16x16x16x16_034_1_n_n_1_2_6411616).start (ix5 g e a c d) X 2 + (gather_S64x16x16x16_S16x16x1_S64x16x16x16x16_034_1_n_n_1_2_6411616).batchCoord (ix5 g e a c d) 2 + (gather_S64x16x16x16_S16x16x1_S64x16x16x16x16_034_1_n_n_1_2_6411616).offCoord (ix5 g e a c d) 2 = c.val
      rw [GatherDims.batchCoord_eq_zero _ _ _ List.not_mem_nil]
      unfold GatherDims.start GatherDims.offCoord
      rw [dif_neg (show (2 : Fin 4) ∉ (gather_S64x16x16x16_S16x16x1_S64x16x16x16x16_034_1_n_n_1_2_6411616).startIndexMap by decide), dif_pos (show (2 : Fin 4) ∈ (gather_S64x16x16x16_S16x16x1_S64x16x16x16x16_034_1_n_n_1_2_6411616).sKept from (GatherDims.mem_sKept _ _).mpr ⟨by decide, List.not_mem_nil⟩)]
      simp only [Nat.zero_add, Nat.add_zero]
      rfl
    · apply Fin.ext
      show (gather_S64x16x16x16_S16x16x1_S64x16x16x16x16_034_1_n_n_1_2_6411616).start (ix5 g e a c d) X 3 + (gather_S64x16x16x16_S16x16x1_S64x16x16x16x16_034_1_n_n_1_2_6411616).batchCoord (ix5 g e a c d) 3 + (gather_S64x16x16x16_S16x16x1_S64x16x16x16x16_034_1_n_n_1_2_6411616).offCoord (ix5 g e a c d) 3 = d.val
      rw [GatherDims.batchCoord_eq_zero _ _ _ List.not_mem_nil]
      unfold GatherDims.start GatherDims.offCoord
      rw [dif_neg (show (3 : Fin 4) ∉ (gather_S64x16x16x16_S16x16x1_S64x16x16x16x16_034_1_n_n_1_2_6411616).startIndexMap by decide), dif_pos (show (3 : Fin 4) ∈ (gather_S64x16x16x16_S16x16x1_S64x16x16x16x16_034_1_n_n_1_2_6411616).sKept from (GatherDims.mem_sKept _ _).mpr ⟨by decide, List.not_mem_nil⟩)]
      simp only [Nat.zero_add, Nat.add_zero]
      rfl
  exact key _ (by rw [← hw]; rfl)

/-- The Toeplitz table. -/
theorem mt_at (K : FVec Ideal S64x16x16x16x16 .f32) (M : FVec Ideal S16x16 .f32) (g : Fin 64) (i j : Fin 256) :
    shapeCast S64x256x256 (transpose S64x16x16x16x16 [0, 1, 4, 2, 3] (mulf K (broadcastInDim S64x16x16x16x16 ![0, 1, 2, 3, 4] bcast_S1x16x16x1x1_S64x16x16x16x16_0_1_2_3_4 (broadcastInDim S1x16x16x1x1 ![1, 2] bcast_S16x16_S1x16x16x1x1_1_2 M)))
      transposes_S64x16x16x16x16_S64x16x16x16x16_0_1_4_2_3) shapeCasts_S64x16x16x16x16_S64x256x256 (ix3 g i j)
     = K (ix5 g ⟨i.val / 16, by omega⟩ ⟨j.val / 16, by omega⟩ ⟨j.val % 16, by omega⟩ ⟨i.val % 16, by omega⟩) * M (ix2 ⟨i.val / 16, by omega⟩ ⟨j.val / 16, by omega⟩) := by
  pointwise []

/-- The table that sums a chunk into a state: the powers in reverse. -/
theorem ws_at (Z : FVec Ideal S17x64x64x16 .f32) (g p : Fin 64) (i : Fin 256) :
    shapeCast S64x256x64 (transpose S64x16x16x64 [1, 0, 3, 2] (Host.reverse [0] (extractStridedSlice S16x64x64x16 ![0, 0, 0, 0] Z slices_S17x64x64x16_S16x64x64x16_0_0_0_0))
      transposes_S16x64x64x16_S64x16x16x64_1_0_3_2) shapeCasts_S64x16x16x64_S64x256x64 (ix3 g i p)
     = Z (ix4 ⟨15 - i.val / 16, by omega⟩ g p ⟨i.val % 16, by omega⟩) := by
  pointwise []
  refine at4 _ ?_ ?_ ?_ ?_
  · simp [Fin.rev] <;> omega
  · rfl
  · rfl
  · rfl

end Cert.KernelIdeal.Host

end
-- ==== Proof.S5TablesB.lean ====
/- The table of two groups side by side, the row of a squared pole, and the input cut into chunks, entry by entry. -/
module

public import proofs.«01_k».proof.Proof.Gen.KernelIdeal
public import Idealize.ShloMosaic.Lib.Pipeline.ValueKit
public import Idealize.ShloMosaic.Lib.Pointwise
public import proofs.«01_k».proof.Proof.S5Idx

@[expose] public section

set_option maxRecDepth 16384

noncomputable section

namespace Cert.KernelIdeal.Host

open Cert.S5Idx Cert.KernelIdeal Cert.KernelIdeal.Gen Idealize.ShloMosaic Idealize.ShloMosaic.TcCoe Idealize.SL.Sem

/-- Two groups side by side, zeros between. -/
theorem pack_at (R I : FVec Ideal S64x256x64 .f32) (Z : FVec Ideal S32x256x64 .f32) (hZ : ∀ y, Z y = 0) (g : Fin 64) (i j : Fin 256) :
    shapeCast S64x256x256 (concatenate S32x2x256x256 1 [⟨S32x1x256x256, broadcastInDim S32x1x256x256 ![0, 2, 3] bcast_S32x256x256_S32x1x256x256_0_2_3
        (concatenate S32x256x256 2 [⟨S32x256x64, shapeCast S32x256x64 (extractStridedSlice S32x1x256x64 ![0, 0, 0, 0] (shapeCast S32x2x256x64 R shapeCasts_S64x256x64_S32x2x256x64) slices_S32x2x256x64_S32x1x256x64_0_0_0_0) shapeCasts_S32x1x256x64_S32x256x64⟩, ⟨S32x256x64, Z⟩,
          ⟨S32x256x64, shapeCast S32x256x64 (extractStridedSlice S32x1x256x64 ![0, 0, 0, 0] (shapeCast S32x2x256x64 I shapeCasts_S64x256x64_S32x2x256x64) slices_S32x2x256x64_S32x1x256x64_0_0_0_0) shapeCasts_S32x1x256x64_S32x256x64⟩, ⟨S32x256x64, Z⟩] concatenates_S32x256x64_S32x256x64_S32x256x64_S32x256x64_S32x256x256_d2)⟩,
      ⟨S32x1x256x256, broadcastInDim S32x1x256x256 ![0, 2, 3] bcast_S32x256x256_S32x1x256x256_0_2_3
        (concatenate S32x256x256 2 [⟨S32x256x64, Z⟩, ⟨S32x256x64, shapeCast S32x256x64 (extractStridedSlice S32x1x256x64 ![0, 1, 0, 0] (shapeCast S32x2x256x64 R shapeCasts_S64x256x64_S32x2x256x64) slices_S32x2x256x64_S32x1x256x64_0_1_0_0) shapeCasts_S32x1x256x64_S32x256x64⟩,
          ⟨S32x256x64, Z⟩, ⟨S32x256x64, shapeCast S32x256x64 (extractStridedSlice S32x1x256x64 ![0, 1, 0, 0] (shapeCast S32x2x256x64 I shapeCasts_S64x256x64_S32x2x256x64) slices_S32x2x256x64_S32x1x256x64_0_1_0_0) shapeCasts_S32x1x256x64_S32x256x64⟩] concatenates_S32x256x64_S32x256x64_S32x256x64_S32x256x64_S32x256x256_d2)⟩]
      concatenates_S32x1x256x256_S32x1x256x256_S32x2x256x256_d1) shapeCasts_S32x2x256x256_S64x256x256 (ix3 g i j)
     = if g.val % 2 = j.val / 64 % 2 then (if j.val < 128 then R (ix3 g i ⟨j.val % 64, by omega⟩) else I (ix3 g i ⟨j.val % 64, by omega⟩)) else 0 := by
  by_cases h1 : g.val % 2 = j.val / 64 % 2
  · rw [if_pos h1]
    by_cases h2 : j.val < 128
    · rw [if_pos h2]
      pointwise []
      have := g.isLt; have := j.isLt
      split_ifs <;> first
        | (exfalso; omega)
        | exact at3 _ (by first | rfl | omega | (dsimp only; omega)) rfl (by first | rfl | omega | (dsimp only; omega))
        | exact hZ _
    · rw [if_neg h2]
      pointwise []
      have := g.isLt; have := j.isLt
      split_ifs <;> first
        | (exfalso; omega)
        | exact at3 _ (by first | rfl | omega | (dsimp only; omega)) rfl (by first | rfl | omega | (dsimp only; omega))
        | exact hZ _
  · rw [if_neg h1]
    pointwise []
    have := g.isLt; have := j.isLt
    split_ifs <;> first
      | (exfalso; omega)
      | exact at3 _ (by first | rfl | omega | (dsimp only; omega)) rfl (by first | rfl | omega | (dsimp only; omega))
      | exact hZ _

/-- One row of the squared poles of two groups. -/
theorem lamp_at (R I : FVec Ideal S64x64 .f32) (i : Fin 32) (j : Fin 256) :
    concatenate S32x256 1 [⟨S32x64, shapeCast S32x64 (extractStridedSlice S32x1x64 ![0, 0, 0] (shapeCast S32x2x64 R shapeCasts_S64x64_S32x2x64) slices_S32x2x64_S32x1x64_0_0_0) shapeCasts_S32x1x64_S32x64⟩,
      ⟨S32x64, shapeCast S32x64 (extractStridedSlice S32x1x64 ![0, 1, 0] (shapeCast S32x2x64 R shapeCasts_S64x64_S32x2x64) slices_S32x2x64_S32x1x64_0_1_0) shapeCasts_S32x1x64_S32x64⟩,
      ⟨S32x64, shapeCast S32x64 (extractStridedSlice S32x1x64 ![0, 0, 0] (shapeCast S32x2x64 I shapeCasts_S64x64_S32x2x64) slices_S32x2x64_S32x1x64_0_0_0) shapeCasts_S32x1x64_S32x64⟩,
      ⟨S32x64, shapeCast S32x64 (extractStridedSlice S32x1x64 ![0, 1, 0] (shapeCast S32x2x64 I shapeCasts_S64x64_S32x2x64) slices_S32x2x64_S32x1x64_0_1_0) shapeCasts_S32x1x64_S32x64⟩] concatenates_S32x64_S32x64_S32x64_S32x64_S32x256_d1 (ix2 i j)
     = if j.val < 128 then R (ix2 ⟨2 * i.val + j.val / 64 % 2, by omega⟩ ⟨j.val % 64, by omega⟩) else I (ix2 ⟨2 * i.val + j.val / 64 % 2, by omega⟩ ⟨j.val % 64, by omega⟩) := by
  by_cases h2 : j.val < 128
  · rw [if_pos h2]
    pointwise []
    have := i.isLt; have := j.isLt
    split_ifs <;> first
      | (exfalso; omega)
      | exact at2 _ (by first | rfl | omega | (dsimp only; omega)) (by first | rfl | omega | (dsimp only; omega))
  · rw [if_neg h2]
    pointwise []
    have := i.isLt; have := j.isLt
    split_ifs <;> first
      | (exfalso; omega)
      | exact at2 _ (by first | rfl | omega | (dsimp only; omega)) (by first | rfl | omega | (dsimp only; omega))

/-- The input cut into chunks, group by group. -/
theorem u_at (A : FVec Ideal S16384x1024 .bf16) (g : Fin 64) (r : Fin 1024) (j : Fin 256) :
    shapeCast S64x1024x256 (transpose S64x1024x16x16 [2, 0, 1, 3] (shapeCast S1024x16x64x16 A shapeCasts_S16384x1024_S1024x16x64x16) transposes_S1024x16x64x16_S64x1024x16x16_2_0_1_3) shapeCasts_S64x1024x16x16_S64x1024x256 (ix3 g r j)
     = A (ix2 ⟨16 * r.val + j.val / 16, by omega⟩ ⟨16 * g.val + j.val % 16, by omega⟩) := by
  pointwise []
  exact at2 _ (by first | rfl | omega | (dsimp only; omega)) (by first | rfl | omega | (dsimp only; omega))
end Cert.KernelIdeal.Host

end
-- ==== Proof.S5TablesD.lean ====
/- The imaginary parts of two tables, and the read-out table of two groups, entry by entry. -/
module

public import proofs.«01_k».proof.Proof.Gen.KernelIdeal
public import Idealize.ShloMosaic.Lib.Pipeline.ValueKit
public import Idealize.ShloMosaic.Lib.Pointwise
public import proofs.«01_k».proof.Proof.S5Idx

@[expose] public section

set_option maxRecDepth 16384

noncomputable section

namespace Cert.KernelIdeal.Host

open Cert.S5Idx Cert.KernelIdeal Cert.KernelIdeal.Gen Idealize.ShloMosaic Idealize.ShloMosaic.TcCoe Idealize.SL.Sem

/-- A power times the input matrix, imaginary part. -/
theorem zi_at (P Q : FVec Ideal S17x64x64 .f32) (X Y : FVec Ideal S64x64x16 .f32) (j : Fin 17) (g p : Fin 64) (d : Fin 16) :
    addf (mulf (broadcastInDim S17x64x64x16 ![0, 1, 2, 3] bcast_S17x64x64x1_S17x64x64x16_0_1_2_3 (broadcastInDim S17x64x64x1 ![0, 1, 2] bcast_S17x64x64_S17x64x64x1_0_1_2 P))
      (broadcastInDim S17x64x64x16 ![0, 1, 2, 3] bcast_S1x64x64x16_S17x64x64x16_0_1_2_3 (broadcastInDim S1x64x64x16 ![1, 2, 3] bcast_S64x64x16_S1x64x64x16_1_2_3 X)))
     (mulf (broadcastInDim S17x64x64x16 ![0, 1, 2, 3] bcast_S17x64x64x1_S17x64x64x16_0_1_2_3 (broadcastInDim S17x64x64x1 ![0, 1, 2] bcast_S17x64x64_S17x64x64x1_0_1_2 Q))
      (broadcastInDim S17x64x64x16 ![0, 1, 2, 3] bcast_S1x64x64x16_S17x64x64x16_0_1_2_3 (broadcastInDim S1x64x64x16 ![1, 2, 3] bcast_S64x64x16_S1x64x64x16_1_2_3 Y))) (ix4 j g p d)
     = P (ix3 j g p) * X (ix3 g p d) + Q (ix3 j g p) * Y (ix3 g p d) := by
  pointwise []

/-- The table that reads a state out, imaginary part with its sign. -/
theorem woi_at (C D : FVec Ideal S64x16x64 .f32) (P Q : FVec Ideal S17x64x64 .f32) (g p : Fin 64) (j : Fin 256) :
    shapeCast S64x64x256 (transpose S64x64x16x16 [0, 3, 1, 2] (Host.negf (addf (mulf (broadcastInDim S64x16x16x64 ![0, 1, 2, 3] bcast_S64x1x16x64_S64x16x16x64_0_1_2_3 (broadcastInDim S64x1x16x64 ![0, 2, 3] bcast_S64x16x64_S64x1x16x64_0_2_3 C))
      (broadcastInDim S64x16x16x64 ![0, 1, 2, 3] bcast_S64x16x1x64_S64x16x16x64_0_1_2_3 (broadcastInDim S64x16x1x64 ![0, 1, 3] bcast_S64x16x64_S64x16x1x64_0_1_3 (transpose S64x16x64 [1, 0, 2] (extractStridedSlice S16x64x64 ![1, 0, 0] P slices_S17x64x64_S16x64x64_1_0_0) transposes_S16x64x64_S64x16x64_1_0_2))))
      (mulf (broadcastInDim S64x16x16x64 ![0, 1, 2, 3] bcast_S64x1x16x64_S64x16x16x64_0_1_2_3 (broadcastInDim S64x1x16x64 ![0, 2, 3] bcast_S64x16x64_S64x1x16x64_0_2_3 D))
      (broadcastInDim S64x16x16x64 ![0, 1, 2, 3] bcast_S64x16x1x64_S64x16x16x64_0_1_2_3 (broadcastInDim S64x16x1x64 ![0, 1, 3] bcast_S64x16x64_S64x16x1x64_0_1_3 (transpose S64x16x64 [1, 0, 2] (extractStridedSlice S16x64x64 ![1, 0, 0] Q slices_S17x64x64_S16x64x64_1_0_0) transposes_S16x64x64_S64x16x64_1_0_2))))))
      transposes_S64x16x16x64_S64x64x16x16_0_3_1_2) shapeCasts_S64x64x16x16_S64x64x256 (ix3 g p j)
     = -(C (ix3 g ⟨j.val % 16, by omega⟩ p) * P (ix3 ⟨1 + j.val / 16, by omega⟩ g p) + D (ix3 g ⟨j.val % 16, by omega⟩ p) * Q (ix3 ⟨1 + j.val / 16, by omega⟩ g p)) := by
  pointwise []
/-- The read-out tables of two groups, one above the other. -/
theorem wopack_at (R I : FVec Ideal S64x64x256 .f32) (Z : FVec Ideal S32x64x256 .f32) (hZ : ∀ y, Z y = 0) (g : Fin 64) (i j : Fin 256) :
    shapeCast S64x256x256 (concatenate S32x2x256x256 1 [⟨S32x1x256x256, broadcastInDim S32x1x256x256 ![0, 2, 3] bcast_S32x256x256_S32x1x256x256_0_2_3
        (concatenate S32x256x256 1 [⟨S32x64x256, shapeCast S32x64x256 (extractStridedSlice S32x1x64x256 ![0, 0, 0, 0] (shapeCast S32x2x64x256 R shapeCasts_S64x64x256_S32x2x64x256) slices_S32x2x64x256_S32x1x64x256_0_0_0_0) shapeCasts_S32x1x64x256_S32x64x256⟩, ⟨S32x64x256, Z⟩,
          ⟨S32x64x256, shapeCast S32x64x256 (extractStridedSlice S32x1x64x256 ![0, 0, 0, 0] (shapeCast S32x2x64x256 I shapeCasts_S64x64x256_S32x2x64x256) slices_S32x2x64x256_S32x1x64x256_0_0_0_0) shapeCasts_S32x1x64x256_S32x64x256⟩, ⟨S32x64x256, Z⟩] concatenates_S32x64x256_S32x64x256_S32x64x256_S32x64x256_S32x256x256_d1)⟩,
      ⟨S32x1x256x256, broadcastInDim S32x1x256x256 ![0, 2, 3] bcast_S32x256x256_S32x1x256x256_0_2_3
        (concatenate S32x256x256 1 [⟨S32x64x256, Z⟩, ⟨S32x64x256, shapeCast S32x64x256 (extractStridedSlice S32x1x64x256 ![0, 1, 0, 0] (shapeCast S32x2x64x256 R shapeCasts_S64x64x256_S32x2x64x256) slices_S32x2x64x256_S32x1x64x256_0_1_0_0) shapeCasts_S32x1x64x256_S32x64x256⟩,
          ⟨S32x64x256, Z⟩, ⟨S32x64x256, shapeCast S32x64x256 (extractStridedSlice S32x1x64x256 ![0, 1, 0, 0] (shapeCast S32x2x64x256 I shapeCasts_S64x64x256_S32x2x64x256) slices_S32x2x64x256_S32x1x64x256_0_1_0_0) shapeCasts_S32x1x64x256_S32x64x256⟩] concatenates_S32x64x256_S32x64x256_S32x64x256_S32x64x256_S32x256x256_d1)⟩]
      concatenates_S32x1x256x256_S32x1x256x256_S32x2x256x256_d1) shapeCasts_S32x2x256x256_S64x256x256 (ix3 g i j)
     = if g.val % 2 = i.val / 64 % 2 then (if i.val < 128 then R (ix3 g ⟨i.val % 64, by omega⟩ j) else I (ix3 g ⟨i.val % 64, by omega⟩ j)) else 0 := by
  by_cases h1 : g.val % 2 = i.val / 64 % 2
  · rw [if_pos h1]
    by_cases h2 : i.val < 128
    · rw [if_pos h2]
      pointwise []
      have := g.isLt; have := i.isLt
      split_ifs <;> first
        | (exfalso; omega)
        | exact at3 _ (by first | rfl | omega | (dsimp only; omega)) (by first | rfl | omega | (dsimp only; omega)) rfl
        | exact hZ _
    · rw [if_neg h2]
      pointwise []
      have := g.isLt; have := i.isLt
      split_ifs <;> first
        | (exfalso; omega)
        | exact at3 _ (by first | rfl | omega | (dsimp only; omega)) (by first | rfl | omega | (dsimp only; omega)) rfl
        | exact hZ _
  · rw [if_neg h1]
    pointwise []
    have := g.isLt; have := i.isLt
    split_ifs <;> first
      | (exfalso; omega)
      | exact at3 _ (by first | rfl | omega | (dsimp only; omega)) (by first | rfl | omega | (dsimp only; omega)) rfl
      | exact hZ _

end Cert.KernelIdeal.Host

end
-- ==== Proof.S5Concat.lean ====
/- The seventeen powers of the poles, stacked: what the stacked array holds at each index. -/
module

public import proofs.«01_k».proof.Proof.Gen.KernelIdeal
public import Idealize.ShloMosaic.Lib.Pipeline.ValueKit
public import Idealize.ShloMosaic.Lib.Pointwise
public import proofs.«01_k».proof.Proof.S5Idx

@[expose] public section

set_option maxRecDepth 16384

noncomputable section

namespace Cert.KernelIdeal.Host

open Cert.S5Idx Cert.KernelIdeal Cert.KernelIdeal.Gen Idealize.ShloMosaic Idealize.ShloMosaic.TcCoe Idealize.SL.Sem

set_option maxHeartbeats 4000000 in
theorem row_at {n : ℕ} (x : FVec Ideal S64x64 .f32) (f : ℕ → Fin 64 → Fin 64 → EReal) (k : ℕ) (h : ∀ g p, x (ix2 g p) = f k g p) (j : Fin n) (g p : Fin 64) :
    PieceAt (t := ⟨3, ![n, 64, 64]⟩) (0 : Fin 3) (ix3 j g p) (f j.val g p) S1x64x64 (broadcastInDim S1x64x64 ![1, 2] bcast_S64x64_S1x64x64_1_2 x) k := by
  intro hj hr i h0 hb
  have hi : i = ix3 0 g p := by
    funext b
    match b with
    | ⟨0, _⟩ => exact Fin.ext h0
    | ⟨1, _⟩ => exact Fin.ext (hb (1 : Fin 3) (show (1 : Fin 3) ≠ (0 : Fin 3) by decide))
    | ⟨2, _⟩ => exact Fin.ext (hb (2 : Fin 3) (show (2 : Fin 3) ≠ (0 : Fin 3) by decide))
  have hx : broadcastInDim S1x64x64 ![1, 2] bcast_S64x64_S1x64x64_1_2 x (ix3 0 g p) = x (ix2 g p) := by pointwise []
  rw [hi, hx, h]
  exact congrArg (fun n => f n g p) hj.symm

/-- Sixteen arrays stacked. -/
theorem cat16 (x0 x1 x2 x3 x4 x5 x6 x7 x8 x9 x10 x11 x12 x13 x14 x15 : FVec Ideal S64x64 .f32) (f : ℕ → Fin 64 → Fin 64 → EReal)
    (h0 : ∀ g p, x0 (ix2 g p) = f 0 g p)
    (h1 : ∀ g p, x1 (ix2 g p) = f 1 g p)
    (h2 : ∀ g p, x2 (ix2 g p) = f 2 g p)
    (h3 : ∀ g p, x3 (ix2 g p) = f 3 g p)
    (h4 : ∀ g p, x4 (ix2 g p) = f 4 g p)
    (h5 : ∀ g p, x5 (ix2 g p) = f 5 g p)
    (h6 : ∀ g p, x6 (ix2 g p) = f 6 g p)
    (h7 : ∀ g p, x7 (ix2 g p) = f 7 g p)
    (h8 : ∀ g p, x8 (ix2 g p) = f 8 g p)
    (h9 : ∀ g p, x9 (ix2 g p) = f 9 g p)
    (h10 : ∀ g p, x10 (ix2 g p) = f 10 g p)
    (h11 : ∀ g p, x11 (ix2 g p) = f 11 g p)
    (h12 : ∀ g p, x12 (ix2 g p) = f 12 g p)
    (h13 : ∀ g p, x13 (ix2 g p) = f 13 g p)
    (h14 : ∀ g p, x14 (ix2 g p) = f 14 g p)
    (h15 : ∀ g p, x15 (ix2 g p) = f 15 g p) (j : Fin 16) (g p : Fin 64) :
    concatenate S16x64x64 0 [⟨S1x64x64, broadcastInDim S1x64x64 ![1, 2] bcast_S64x64_S1x64x64_1_2 x0⟩, ⟨S1x64x64, broadcastInDim S1x64x64 ![1, 2] bcast_S64x64_S1x64x64_1_2 x1⟩, ⟨S1x64x64, broadcastInDim S1x64x64 ![1, 2] bcast_S64x64_S1x64x64_1_2 x2⟩, ⟨S1x64x64, broadcastInDim S1x64x64 ![1, 2] bcast_S64x64_S1x64x64_1_2 x3⟩, ⟨S1x64x64, broadcastInDim S1x64x64 ![1, 2] bcast_S64x64_S1x64x64_1_2 x4⟩, ⟨S1x64x64, broadcastInDim S1x64x64 ![1, 2] bcast_S64x64_S1x64x64_1_2 x5⟩, ⟨S1x64x64, broadcastInDim S1x64x64 ![1, 2] bcast_S64x64_S1x64x64_1_2 x6⟩, ⟨S1x64x64, broadcastInDim S1x64x64 ![1, 2] bcast_S64x64_S1x64x64_1_2 x7⟩, ⟨S1x64x64, broadcastInDim S1x64x64 ![1, 2] bcast_S64x64_S1x64x64_1_2 x8⟩, ⟨S1x64x64, broadcastInDim S1x64x64 ![1, 2] bcast_S64x64_S1x64x64_1_2 x9⟩, ⟨S1x64x64, broadcastInDim S1x64x64 ![1, 2] bcast_S64x64_S1x64x64_1_2 x10⟩, ⟨S1x64x64, broadcastInDim S1x64x64 ![1, 2] bcast_S64x64_S1x64x64_1_2 x11⟩, ⟨S1x64x64, broadcastInDim S1x64x64 ![1, 2] bcast_S64x64_S1x64x64_1_2 x12⟩, ⟨S1x64x64, broadcastInDim S1x64x64 ![1, 2] bcast_S64x64_S1x64x64_1_2 x13⟩, ⟨S1x64x64, broadcastInDim S1x64x64 ![1, 2] bcast_S64x64_S1x64x64_1_2 x14⟩, ⟨S1x64x64, broadcastInDim S1x64x64 ![1, 2] bcast_S64x64_S1x64x64_1_2 x15⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 j g p) = f j.val g p :=
  concatenate_unit_eq _ _ _ _ _ rfl ⟨row_at x0 f 0 h0 j g p, row_at x1 f 1 h1 j g p, row_at x2 f 2 h2 j g p, row_at x3 f 3 h3 j g p, row_at x4 f 4 h4 j g p, row_at x5 f 5 h5 j g p, row_at x6 f 6 h6 j g p, row_at x7 f 7 h7 j g p, row_at x8 f 8 h8 j g p, row_at x9 f 9 h9 j g p, row_at x10 f 10 h10 j g p, row_at x11 f 11 h11 j g p, row_at x12 f 12 h12 j g p, row_at x13 f 13 h13 j g p, row_at x14 f 14 h14 j g p, row_at x15 f 15 h15 j g p, trivial⟩

/-- Seventeen arrays stacked: sixteen and one more. -/
theorem cat17 (x0 x1 x2 x3 x4 x5 x6 x7 x8 x9 x10 x11 x12 x13 x14 x15 x16 : FVec Ideal S64x64 .f32) (f : ℕ → Fin 64 → Fin 64 → EReal)
    (h0 : ∀ g p, x0 (ix2 g p) = f 0 g p)
    (h1 : ∀ g p, x1 (ix2 g p) = f 1 g p)
    (h2 : ∀ g p, x2 (ix2 g p) = f 2 g p)
    (h3 : ∀ g p, x3 (ix2 g p) = f 3 g p)
    (h4 : ∀ g p, x4 (ix2 g p) = f 4 g p)
    (h5 : ∀ g p, x5 (ix2 g p) = f 5 g p)
    (h6 : ∀ g p, x6 (ix2 g p) = f 6 g p)
    (h7 : ∀ g p, x7 (ix2 g p) = f 7 g p)
    (h8 : ∀ g p, x8 (ix2 g p) = f 8 g p)
    (h9 : ∀ g p, x9 (ix2 g p) = f 9 g p)
    (h10 : ∀ g p, x10 (ix2 g p) = f 10 g p)
    (h11 : ∀ g p, x11 (ix2 g p) = f 11 g p)
    (h12 : ∀ g p, x12 (ix2 g p) = f 12 g p)
    (h13 : ∀ g p, x13 (ix2 g p) = f 13 g p)
    (h14 : ∀ g p, x14 (ix2 g p) = f 14 g p)
    (h15 : ∀ g p, x15 (ix2 g p) = f 15 g p)
    (h16 : ∀ g p, x16 (ix2 g p) = f 16 g p) (j : Fin 17) (g p : Fin 64) :
    concatenate S17x64x64 0 [⟨S16x64x64, concatenate S16x64x64 0 [⟨S1x64x64, broadcastInDim S1x64x64 ![1, 2] bcast_S64x64_S1x64x64_1_2 x0⟩, ⟨S1x64x64, broadcastInDim S1x64x64 ![1, 2] bcast_S64x64_S1x64x64_1_2 x1⟩, ⟨S1x64x64, broadcastInDim S1x64x64 ![1, 2] bcast_S64x64_S1x64x64_1_2 x2⟩, ⟨S1x64x64, broadcastInDim S1x64x64 ![1, 2] bcast_S64x64_S1x64x64_1_2 x3⟩, ⟨S1x64x64, broadcastInDim S1x64x64 ![1, 2] bcast_S64x64_S1x64x64_1_2 x4⟩, ⟨S1x64x64, broadcastInDim S1x64x64 ![1, 2] bcast_S64x64_S1x64x64_1_2 x5⟩, ⟨S1x64x64, broadcastInDim S1x64x64 ![1, 2] bcast_S64x64_S1x64x64_1_2 x6⟩, ⟨S1x64x64, broadcastInDim S1x64x64 ![1, 2] bcast_S64x64_S1x64x64_1_2 x7⟩, ⟨S1x64x64, broadcastInDim S1x64x64 ![1, 2] bcast_S64x64_S1x64x64_1_2 x8⟩, ⟨S1x64x64, broadcastInDim S1x64x64 ![1, 2] bcast_S64x64_S1x64x64_1_2 x9⟩, ⟨S1x64x64, broadcastInDim S1x64x64 ![1, 2] bcast_S64x64_S1x64x64_1_2 x10⟩, ⟨S1x64x64, broadcastInDim S1x64x64 ![1, 2] bcast_S64x64_S1x64x64_1_2 x11⟩, ⟨S1x64x64, broadcastInDim S1x64x64 ![1, 2] bcast_S64x64_S1x64x64_1_2 x12⟩, ⟨S1x64x64, broadcastInDim S1x64x64 ![1, 2] bcast_S64x64_S1x64x64_1_2 x13⟩, ⟨S1x64x64, broadcastInDim S1x64x64 ![1, 2] bcast_S64x64_S1x64x64_1_2 x14⟩, ⟨S1x64x64, broadcastInDim S1x64x64 ![1, 2] bcast_S64x64_S1x64x64_1_2 x15⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0⟩, ⟨S1x64x64, broadcastInDim S1x64x64 ![1, 2] bcast_S64x64_S1x64x64_1_2 x16⟩] concatenates_S16x64x64_S1x64x64_S17x64x64_d0 (ix3 j g p) = f j.val g p := by
  have hc := cat16 x0 x1 x2 x3 x4 x5 x6 x7 x8 x9 x10 x11 x12 x13 x14 x15 f h0 h1 h2 h3 h4 h5 h6 h7 h8 h9 h10 h11 h12 h13 h14 h15
  generalize concatenate S16x64x64 0 [⟨S1x64x64, broadcastInDim S1x64x64 ![1, 2] bcast_S64x64_S1x64x64_1_2 x0⟩, ⟨S1x64x64, broadcastInDim S1x64x64 ![1, 2] bcast_S64x64_S1x64x64_1_2 x1⟩, ⟨S1x64x64, broadcastInDim S1x64x64 ![1, 2] bcast_S64x64_S1x64x64_1_2 x2⟩, ⟨S1x64x64, broadcastInDim S1x64x64 ![1, 2] bcast_S64x64_S1x64x64_1_2 x3⟩, ⟨S1x64x64, broadcastInDim S1x64x64 ![1, 2] bcast_S64x64_S1x64x64_1_2 x4⟩, ⟨S1x64x64, broadcastInDim S1x64x64 ![1, 2] bcast_S64x64_S1x64x64_1_2 x5⟩, ⟨S1x64x64, broadcastInDim S1x64x64 ![1, 2] bcast_S64x64_S1x64x64_1_2 x6⟩, ⟨S1x64x64, broadcastInDim S1x64x64 ![1, 2] bcast_S64x64_S1x64x64_1_2 x7⟩, ⟨S1x64x64, broadcastInDim S1x64x64 ![1, 2] bcast_S64x64_S1x64x64_1_2 x8⟩, ⟨S1x64x64, broadcastInDim S1x64x64 ![1, 2] bcast_S64x64_S1x64x64_1_2 x9⟩, ⟨S1x64x64, broadcastInDim S1x64x64 ![1, 2] bcast_S64x64_S1x64x64_1_2 x10⟩, ⟨S1x64x64, broadcastInDim S1x64x64 ![1, 2] bcast_S64x64_S1x64x64_1_2 x11⟩, ⟨S1x64x64, broadcastInDim S1x64x64 ![1, 2] bcast_S64x64_S1x64x64_1_2 x12⟩, ⟨S1x64x64, broadcastInDim S1x64x64 ![1, 2] bcast_S64x64_S1x64x64_1_2 x13⟩, ⟨S1x64x64, broadcastInDim S1x64x64 ![1, 2] bcast_S64x64_S1x64x64_1_2 x14⟩, ⟨S1x64x64, broadcastInDim S1x64x64 ![1, 2] bcast_S64x64_S1x64x64_1_2 x15⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 = A at hc ⊢
  have := j.isLt
  by_cases hj : j.val < 16
  · refine Eq.trans ?_ (hc ⟨j.val, hj⟩ g p)
    pointwise []
    rw [dif_pos hj]
  · refine Eq.trans ?_ ((h16 g p).trans (congrArg (fun n => f n g p) (show 16 = j.val by omega)))
    pointwise []
    rw [dif_neg hj]

end Cert.KernelIdeal.Host

end
-- ==== Proof.S5TablesC.lean ====
/- The eight squarings stacked, and the real part of the table that reads a state out, entry by entry. -/
module

public import proofs.«01_k».proof.Proof.Gen.KernelIdeal
public import Idealize.ShloMosaic.Lib.Pipeline.ValueKit
public import Idealize.ShloMosaic.Lib.Pointwise
public import proofs.«01_k».proof.Proof.S5Idx

@[expose] public section

set_option maxRecDepth 16384

noncomputable section

namespace Cert.KernelIdeal.Host

open Cert.S5Idx Cert.KernelIdeal Cert.KernelIdeal.Gen Idealize.ShloMosaic Idealize.ShloMosaic.TcCoe Idealize.SL.Sem

/-- Eight rows stacked. -/
theorem cat8 (x0 x1 x2 x3 x4 x5 x6 x7 : FVec Ideal S32x256 .f32) (f : ℕ → Fin 32 → Fin 256 → EReal)
    (h0 : ∀ g p, x0 (ix2 g p) = f 0 g p)
    (h1 : ∀ g p, x1 (ix2 g p) = f 1 g p)
    (h2 : ∀ g p, x2 (ix2 g p) = f 2 g p)
    (h3 : ∀ g p, x3 (ix2 g p) = f 3 g p)
    (h4 : ∀ g p, x4 (ix2 g p) = f 4 g p)
    (h5 : ∀ g p, x5 (ix2 g p) = f 5 g p)
    (h6 : ∀ g p, x6 (ix2 g p) = f 6 g p)
    (h7 : ∀ g p, x7 (ix2 g p) = f 7 g p) (i : Fin 32) (s : Fin 8) (j : Fin 256) :
    concatenate S32x8x256 1 [⟨S32x1x256, broadcastInDim S32x1x256 ![0, 2] bcast_S32x256_S32x1x256_0_2 x0⟩, ⟨S32x1x256, broadcastInDim S32x1x256 ![0, 2] bcast_S32x256_S32x1x256_0_2 x1⟩, ⟨S32x1x256, broadcastInDim S32x1x256 ![0, 2] bcast_S32x256_S32x1x256_0_2 x2⟩, ⟨S32x1x256, broadcastInDim S32x1x256 ![0, 2] bcast_S32x256_S32x1x256_0_2 x3⟩, ⟨S32x1x256, broadcastInDim S32x1x256 ![0, 2] bcast_S32x256_S32x1x256_0_2 x4⟩, ⟨S32x1x256, broadcastInDim S32x1x256 ![0, 2] bcast_S32x256_S32x1x256_0_2 x5⟩, ⟨S32x1x256, broadcastInDim S32x1x256 ![0, 2] bcast_S32x256_S32x1x256_0_2 x6⟩, ⟨S32x1x256, broadcastInDim S32x1x256 ![0, 2] bcast_S32x256_S32x1x256_0_2 x7⟩] concatenates_S32x1x256_S32x1x256_S32x1x256_S32x1x256_S32x1x256_S32x1x256_S32x1x256_S32x1x256_S32x8x256_d1 (ix3 i s j) = f s.val i j := by
  pointwise []
  have := s.isLt
  split_ifs <;> simp only [h0, h1, h2, h3, h4, h5, h6, h7] <;> congr 1 <;> omega

/-- The table that reads a state out, real part. -/
theorem wo_at (C D : FVec Ideal S64x16x64 .f32) (P Q : FVec Ideal S17x64x64 .f32) (g p : Fin 64) (j : Fin 256) :
    shapeCast S64x64x256 (transpose S64x64x16x16 [0, 3, 1, 2] (subf (mulf (broadcastInDim S64x16x16x64 ![0, 1, 2, 3] bcast_S64x1x16x64_S64x16x16x64_0_1_2_3 (broadcastInDim S64x1x16x64 ![0, 2, 3] bcast_S64x16x64_S64x1x16x64_0_2_3 C))
      (broadcastInDim S64x16x16x64 ![0, 1, 2, 3] bcast_S64x16x1x64_S64x16x16x64_0_1_2_3 (broadcastInDim S64x16x1x64 ![0, 1, 3] bcast_S64x16x64_S64x16x1x64_0_1_3 (transpose S64x16x64 [1, 0, 2] (extractStridedSlice S16x64x64 ![1, 0, 0] P slices_S17x64x64_S16x64x64_1_0_0) transposes_S16x64x64_S64x16x64_1_0_2))))
      (mulf (broadcastInDim S64x16x16x64 ![0, 1, 2, 3] bcast_S64x1x16x64_S64x16x16x64_0_1_2_3 (broadcastInDim S64x1x16x64 ![0, 2, 3] bcast_S64x16x64_S64x1x16x64_0_2_3 D))
      (broadcastInDim S64x16x16x64 ![0, 1, 2, 3] bcast_S64x16x1x64_S64x16x16x64_0_1_2_3 (broadcastInDim S64x16x1x64 ![0, 1, 3] bcast_S64x16x64_S64x16x1x64_0_1_3 (transpose S64x16x64 [1, 0, 2] (extractStridedSlice S16x64x64 ![1, 0, 0] Q slices_S17x64x64_S16x64x64_1_0_0) transposes_S16x64x64_S64x16x64_1_0_2)))))
      transposes_S64x16x16x64_S64x64x16x16_0_3_1_2) shapeCasts_S64x64x16x16_S64x64x256 (ix3 g p j)
     = C (ix3 g ⟨j.val % 16, by omega⟩ p) * P (ix3 ⟨1 + j.val / 16, by omega⟩ g p) - D (ix3 g ⟨j.val % 16, by omega⟩ p) * Q (ix3 ⟨1 + j.val / 16, by omega⟩ g p) := by
  pointwise []
end Cert.KernelIdeal.Host

end
-- ==== Proof.S5HostPowers.lean ====
/- The coefficients, the powers of the poles and their squarings, as complex numbers. -/
module

public import proofs.«01_k».proof.Proof.HostEqs
public import proofs.«01_k».proof.Proof.S5Concat
public import proofs.«01_k».proof.Proof.S5TablesB
public import proofs.«01_k».proof.Proof.S5TablesC
public import proofs.«01_k».proof.Proof.S5Coef

@[expose] public section

set_option maxRecDepth 16384
set_option maxHeartbeats 400000

noncomputable section

namespace Cert.KernelIdeal.Host

open Cert.S5Idx Cert.S5Coef Cert.S5Real Cert.KernelIdeal Cert.KernelIdeal.Gen Idealize.ShloMosaic Idealize.ShloMosaic.TcCoe Idealize.SL.Sem

variable {m : (ℓ : Loc nD τ sig) → Buf (Elt Ideal) ℓ} {c : Dev nD} {U A1 A2 : ℕ → ℕ → ℝ} {A3 : ℕ → ℝ} {A4 A5 A6 A7 : ℕ → ℕ → ℕ → ℝ}
  (h : Args (V m c main_arg0) (V m c main_arg1) (V m c main_arg2) (V m c main_arg3) (V m c main_arg4) (V m c main_arg5) (V m c main_arg6) (V m c main_arg7) U A1 A2 A3 A4 A5 A6 A7)

include h

/-- The discretised poles. -/
theorem lam_v : IsC (V m c main_v11) (V m c main_v15) (lam A1 A2 A3) := by
  constructor
  · rw [e_v11, e_v10, e_v9, e_v8, e_v7, e_v6, e_v5, e_v4, e_v3]
    exact lam_re _ _ _ h.a h.b h.s
  · rw [e_v15, e_v14, e_v13, e_v12, e_v7, e_v6, e_v5, e_v4, e_v3]
    exact lam_im _ _ _ h.a h.b h.s

/-- The factors of the zero-order hold. -/
theorem fac_v : IsC (V m c main_v24) (V m c main_v28) (fac A1 A2 A3) := by
  constructor
  · rw [e_v24, e_v23, e_v22, e_v21, e_v20, e_v19, e_v18, e_v17, e_v16, e_cst_1]
    exact fac_re _ _ _ _ h.a h.b (lam_v h).1 (lam_v h).2 h.ne
  · rw [e_v28, e_v27, e_v26, e_v25, e_v20, e_v19, e_v18, e_v17, e_v16, e_cst_1]
    exact fac_im _ _ _ _ h.a h.b (lam_v h).1 (lam_v h).2 h.ne

/-- The discretised input matrix, real part. -/
theorem inm_v_re : Is3 (V m c main_v35) fun g p d => (inm A1 A2 A3 A4 A5 g p d).re := by
  rw [e_v35, e_v34, e_v33, e_v32, e_v31, e_v30, e_v29]
  exact inm_re _ _ _ _ (fac_v h).1 (fac_v h).2 h.br h.bi

/-- The discretised input matrix, imaginary part. -/
theorem inm_v_im : Is3 (V m c main_v42) fun g p d => (inm A1 A2 A3 A4 A5 g p d).im := by
  rw [e_v42, e_v41, e_v40, e_v39, e_v38, e_v37, e_v36]
  exact inm_im _ _ _ _ (fac_v h).1 (fac_v h).2 h.br h.bi

omit h in
theorem pow_0 : IsC (V m c main_v43) (V m c main_v44) fun g p => lam A1 A2 A3 g p ^ 0 := by
  rw [e_v44, e_v43, e_cst_2, e_cst_3]
  exact isC_one

/-- Power 1 of the poles. -/
theorem pow_1 : IsC (V m c main_v47) (V m c main_v50) fun g p => lam A1 A2 A3 g p ^ 1 := by
  rw [e_v50, e_v49, e_v48, e_v47, e_v46, e_v45]
  exact isC_mul _ _ _ _ _ _ _ (pow_0) (lam_v h) fun g p => pow_succ _ _

/-- Power 2 of the poles. -/
theorem pow_2 : IsC (V m c main_v53) (V m c main_v56) fun g p => lam A1 A2 A3 g p ^ 2 := by
  rw [e_v56, e_v55, e_v54, e_v53, e_v52, e_v51]
  exact isC_mul _ _ _ _ _ _ _ (pow_1 h) (lam_v h) fun g p => pow_succ _ _

/-- Power 3 of the poles. -/
theorem pow_3 : IsC (V m c main_v59) (V m c main_v62) fun g p => lam A1 A2 A3 g p ^ 3 := by
  rw [e_v62, e_v61, e_v60, e_v59, e_v58, e_v57]
  exact isC_mul _ _ _ _ _ _ _ (pow_2 h) (lam_v h) fun g p => pow_succ _ _

/-- Power 4 of the poles. -/
theorem pow_4 : IsC (V m c main_v65) (V m c main_v68) fun g p => lam A1 A2 A3 g p ^ 4 := by
  rw [e_v68, e_v67, e_v66, e_v65, e_v64, e_v63]
  exact isC_mul _ _ _ _ _ _ _ (pow_3 h) (lam_v h) fun g p => pow_succ _ _

/-- Power 5 of the poles. -/
theorem pow_5 : IsC (V m c main_v71) (V m c main_v74) fun g p => lam A1 A2 A3 g p ^ 5 := by
  rw [e_v74, e_v73, e_v72, e_v71, e_v70, e_v69]
  exact isC_mul _ _ _ _ _ _ _ (pow_4 h) (lam_v h) fun g p => pow_succ _ _

/-- Power 6 of the poles. -/
theorem pow_6 : IsC (V m c main_v77) (V m c main_v80) fun g p => lam A1 A2 A3 g p ^ 6 := by
  rw [e_v80, e_v79, e_v78, e_v77, e_v76, e_v75]
  exact isC_mul _ _ _ _ _ _ _ (pow_5 h) (lam_v h) fun g p => pow_succ _ _

/-- Power 7 of the poles. -/
theorem pow_7 : IsC (V m c main_v83) (V m c main_v86) fun g p => lam A1 A2 A3 g p ^ 7 := by
  rw [e_v86, e_v85, e_v84, e_v83, e_v82, e_v81]
  exact isC_mul _ _ _ _ _ _ _ (pow_6 h) (lam_v h) fun g p => pow_succ _ _

/-- Power 8 of the poles. -/
theorem pow_8 : IsC (V m c main_v89) (V m c main_v92) fun g p => lam A1 A2 A3 g p ^ 8 := by
  rw [e_v92, e_v91, e_v90, e_v89, e_v88, e_v87]
  exact isC_mul _ _ _ _ _ _ _ (pow_7 h) (lam_v h) fun g p => pow_succ _ _

/-- Power 9 of the poles. -/
theorem pow_9 : IsC (V m c main_v95) (V m c main_v98) fun g p => lam A1 A2 A3 g p ^ 9 := by
  rw [e_v98, e_v97, e_v96, e_v95, e_v94, e_v93]
  exact isC_mul _ _ _ _ _ _ _ (pow_8 h) (lam_v h) fun g p => pow_succ _ _

/-- Power 10 of the poles. -/
theorem pow_10 : IsC (V m c main_v101) (V m c main_v104) fun g p => lam A1 A2 A3 g p ^ 10 := by
  rw [e_v104, e_v103, e_v102, e_v101, e_v100, e_v99]
  exact isC_mul _ _ _ _ _ _ _ (pow_9 h) (lam_v h) fun g p => pow_succ _ _

/-- Power 11 of the poles. -/
theorem pow_11 : IsC (V m c main_v107) (V m c main_v110) fun g p => lam A1 A2 A3 g p ^ 11 := by
  rw [e_v110, e_v109, e_v108, e_v107, e_v106, e_v105]
  exact isC_mul _ _ _ _ _ _ _ (pow_10 h) (lam_v h) fun g p => pow_succ _ _

/-- Power 12 of the poles. -/
theorem pow_12 : IsC (V m c main_v113) (V m c main_v116) fun g p => lam A1 A2 A3 g p ^ 12 := by
  rw [e_v116, e_v115, e_v114, e_v113, e_v112, e_v111]
  exact isC_mul _ _ _ _ _ _ _ (pow_11 h) (lam_v h) fun g p => pow_succ _ _

/-- Power 13 of the poles. -/
theorem pow_13 : IsC (V m c main_v119) (V m c main_v122) fun g p => lam A1 A2 A3 g p ^ 13 := by
  rw [e_v122, e_v121, e_v120, e_v119, e_v118, e_v117]
  exact isC_mul _ _ _ _ _ _ _ (pow_12 h) (lam_v h) fun g p => pow_succ _ _

/-- Power 14 of the poles. -/
theorem pow_14 : IsC (V m c main_v125) (V m c main_v128) fun g p => lam A1 A2 A3 g p ^ 14 := by
  rw [e_v128, e_v127, e_v126, e_v125, e_v124, e_v123]
  exact isC_mul _ _ _ _ _ _ _ (pow_13 h) (lam_v h) fun g p => pow_succ _ _

/-- Power 15 of the poles. -/
theorem pow_15 : IsC (V m c main_v131) (V m c main_v134) fun g p => lam A1 A2 A3 g p ^ 15 := by
  rw [e_v134, e_v133, e_v132, e_v131, e_v130, e_v129]
  exact isC_mul _ _ _ _ _ _ _ (pow_14 h) (lam_v h) fun g p => pow_succ _ _

/-- Power 16 of the poles. -/
theorem pow_16 : IsC (V m c main_v137) (V m c main_v140) fun g p => lam A1 A2 A3 g p ^ 16 := by
  rw [e_v140, e_v139, e_v138, e_v137, e_v136, e_v135]
  exact isC_mul _ _ _ _ _ _ _ (pow_15 h) (lam_v h) fun g p => pow_succ _ _

/-- The stacked powers, real part. -/
theorem pw_re (j : Fin 17) (g p : Fin 64) : (V m c main_v159 : FVec Ideal S17x64x64 .f32) (ix3 j g p) = (((lam A1 A2 A3 g.val p.val ^ j.val).re : ℝ) : EReal) := by
  rw [e_v159, e_v158, e_v157, e_v156, e_v155, e_v154, e_v153, e_v152, e_v151, e_v150, e_v149, e_v148, e_v147, e_v146, e_v145, e_v144, e_v143, e_v142, e_v141]
  exact cat17 (V m c main_v43) (V m c main_v47) (V m c main_v53) (V m c main_v59) (V m c main_v65) (V m c main_v71) (V m c main_v77) (V m c main_v83) (V m c main_v89) (V m c main_v95) (V m c main_v101) (V m c main_v107) (V m c main_v113) (V m c main_v119) (V m c main_v125) (V m c main_v131) (V m c main_v137)
    (fun k g p => (((lam A1 A2 A3 g.val p.val ^ k).re : ℝ) : EReal)) (pow_0).1 (pow_1 h).1 (pow_2 h).1 (pow_3 h).1 (pow_4 h).1 (pow_5 h).1 (pow_6 h).1 (pow_7 h).1 (pow_8 h).1 (pow_9 h).1 (pow_10 h).1 (pow_11 h).1 (pow_12 h).1 (pow_13 h).1 (pow_14 h).1 (pow_15 h).1 (pow_16 h).1 j g p

/-- The stacked powers, imaginary part. -/
theorem pw_im (j : Fin 17) (g p : Fin 64) : (V m c main_v178 : FVec Ideal S17x64x64 .f32) (ix3 j g p) = (((lam A1 A2 A3 g.val p.val ^ j.val).im : ℝ) : EReal) := by
  rw [e_v178, e_v177, e_v176, e_v175, e_v174, e_v173, e_v172, e_v171, e_v170, e_v169, e_v168, e_v167, e_v166, e_v165, e_v164, e_v163, e_v162, e_v161, e_v160]
  exact cat17 (V m c main_v44) (V m c main_v50) (V m c main_v56) (V m c main_v62) (V m c main_v68) (V m c main_v74) (V m c main_v80) (V m c main_v86) (V m c main_v92) (V m c main_v98) (V m c main_v104) (V m c main_v110) (V m c main_v116) (V m c main_v122) (V m c main_v128) (V m c main_v134) (V m c main_v140)
    (fun k g p => (((lam A1 A2 A3 g.val p.val ^ k).im : ℝ) : EReal)) (pow_0).2 (pow_1 h).2 (pow_2 h).2 (pow_3 h).2 (pow_4 h).2 (pow_5 h).2 (pow_6 h).2 (pow_7 h).2 (pow_8 h).2 (pow_9 h).2 (pow_10 h).2 (pow_11 h).2 (pow_12 h).2 (pow_13 h).2 (pow_14 h).2 (pow_15 h).2 (pow_16 h).2 j g p

end Cert.KernelIdeal.Host

end
-- ==== Proof.S5HostTables.lean ====
/- The four tables and the blocked input, entry by entry, as real numbers. -/
module

public import proofs.«01_k».proof.Proof.HostEqs
public import proofs.«01_k».proof.Proof.S5TablesA
public import proofs.«01_k».proof.Proof.S5TablesB
public import proofs.«01_k».proof.Proof.S5TablesD
public import proofs.«01_k».proof.Proof.S5HostPowers

@[expose] public section

set_option maxRecDepth 16384
set_option maxHeartbeats 400000

noncomputable section

namespace Cert.KernelIdeal.Host

open Cert.S5Idx Cert.S5Coef Cert.S5Real Cert.KernelIdeal Cert.KernelIdeal.Gen Idealize.ShloMosaic Idealize.ShloMosaic.TcCoe Idealize.SL.Sem

variable {m : (ℓ : Loc nD τ sig) → Buf (Elt Ideal) ℓ} {c : Dev nD} {U A1 A2 : ℕ → ℕ → ℝ} {A3 : ℕ → ℝ} {A4 A5 A6 A7 : ℕ → ℕ → ℕ → ℝ}
  (h : Args (V m c main_arg0) (V m c main_arg1) (V m c main_arg2) (V m c main_arg3) (V m c main_arg4) (V m c main_arg5) (V m c main_arg6) (V m c main_arg7) U A1 A2 A3 A4 A5 A6 A7)

include h

/-- The powers times the input matrix, real part. -/
theorem z_re (j : Fin 17) (g p : Fin 64) (d : Fin 16) : (V m c main_v189 : FVec Ideal S17x64x64x16 .f32) (ix4 j g p d) = (((lam A1 A2 A3 g.val p.val ^ j.val * inm A1 A2 A3 A4 A5 g.val p.val d.val).re : ℝ) : EReal) := by
  rw [e_v189, e_v188, e_v187, e_v186, e_v185, e_v184, e_v183, e_v182, e_v181, e_v180, e_v179]
  refine (z_at (V m c main_v159) (V m c main_v178) (V m c main_v35) (V m c main_v42) j g p d).trans ?_
  rw [pw_re h, pw_im h, inm_v_re h, inm_v_im h, ← EReal.coe_mul, ← EReal.coe_mul, ← EReal.coe_sub, Complex.mul_re]

/-- The powers times the input matrix, imaginary part. -/
theorem z_im (j : Fin 17) (g p : Fin 64) (d : Fin 16) : (V m c main_v200 : FVec Ideal S17x64x64x16 .f32) (ix4 j g p d) = (((lam A1 A2 A3 g.val p.val ^ j.val * inm A1 A2 A3 A4 A5 g.val p.val d.val).im : ℝ) : EReal) := by
  rw [e_v200, e_v199, e_v198, e_v197, e_v196, e_v195, e_v194, e_v193, e_v192, e_v191, e_v190]
  refine (zi_at (V m c main_v159) (V m c main_v178) (V m c main_v42) (V m c main_v35) j g p d).trans ?_
  rw [pw_re h, pw_im h, inm_v_re h, inm_v_im h, ← EReal.coe_mul, ← EReal.coe_mul, ← EReal.coe_add, Complex.mul_im]

/-- The kernel of a chunk. -/
theorem kj (g : Fin 64) (j a d : Fin 16) : (V m c main_v207 : FVec Ideal S64x16x16x16 .f32) (ix4 g j a d)
    = ((∑ p ∈ Finset.range 64, (outm A6 A7 g.val a.val p * lam A1 A2 A3 g.val p ^ j.val * inm A1 A2 A3 A4 A5 g.val p d.val).re : ℝ) : EReal) := by
  rw [e_v207, e_v206, e_v205, e_v204, e_v203, e_v202, e_v201]
  refine (congrArg₂ (fun a b : EReal => a - b) (k_at (V m c main_v189) (V m c main_arg6) g j a d) (k_at (V m c main_v200) (V m c main_arg7) g j a d)).trans ?_
  rw [Cert.S5Coef.coe_fin_sum _ (fun p => (lam A1 A2 A3 g.val p ^ j.val * inm A1 A2 A3 A4 A5 g.val p d.val).re * A6 g.val a.val p) (fun p => by rw [z_re h, h.cr, ← EReal.coe_mul]),
    Cert.S5Coef.coe_fin_sum _ (fun p => (lam A1 A2 A3 g.val p ^ j.val * inm A1 A2 A3 A4 A5 g.val p d.val).im * A7 g.val a.val p) (fun p => by rw [z_im h, h.ci, ← EReal.coe_mul]),
    ← EReal.coe_sub, ← Finset.sum_sub_distrib]
  refine congrArg _ (Finset.sum_congr rfl fun p _ => ?_)
  rw [mul_assoc]
  refine Eq.trans ?_ (Complex.mul_re _ _).symm
  show _ = A6 g.val a.val p * _ - A7 g.val a.val p * _
  ring

omit h in
theorem lag (g : Fin 64) (e a x d : Fin 16) : (V m c main_v212 : FVec Ideal S64x16x16x16x16 .f32) (ix5 g e a x d) = (V m c main_v207 : FVec Ideal S64x16x16x16 .f32) (ix4 g ⟨a.val - e.val, by omega⟩ x d) := by
  rw [e_v212, e_v211, e_v210, e_v209, e_v208, e_c_4, e_c_0, e_c]
  exact gather_at _ g e a x d

omit h in
theorem causal (a e : Fin 16) : (V m c main_cst : FVec Ideal S16x16 .f32) (ix2 e a) = (if e.val ≤ a.val then 1 else 0 : EReal) := by
  rw [e_cst]
  exact mask_at a e

/-- The Toeplitz table the kernel is launched with. -/
theorem mt_v (g : Fin 64) (i j : Fin 256) : (V m c main_v444 : FVec Ideal S64x256x256 .bf16) (ix3 g i j) = ((tab1 (lam A1 A2 A3) (inm A1 A2 A3 A4 A5) (outm A6 A7) g.val i.val j.val : ℝ) : EReal) := by
  rw [e_v444, e_v217, e_v216, e_v215, e_v214, e_v213]
  refine (mt_at (V m c main_v212) (V m c main_cst) g i j).trans ?_
  rw [lag, causal, kj h]
  unfold tab1
  by_cases hc : i.val / 16 ≤ j.val / 16
  · rw [if_pos hc, if_pos hc, mul_one]
  · rw [if_neg hc, if_neg hc, mul_zero, EReal.coe_zero]

/-- The chunk sums of one group, real part. -/
theorem ws_re (g p : Fin 64) (i : Fin 256) : (V m c main_v221 : FVec Ideal S64x256x64 .f32) (ix3 g i p) = (((lam A1 A2 A3 g.val p.val ^ (15 - i.val / 16) * inm A1 A2 A3 A4 A5 g.val p.val (i.val % 16)).re : ℝ) : EReal) := by
  rw [e_v221, e_v220, e_v219, e_v218]
  exact (ws_at (V m c main_v189) g p i).trans (z_re h _ _ _ _)

/-- The chunk sums of one group, imaginary part. -/
theorem ws_im (g p : Fin 64) (i : Fin 256) : (V m c main_v225 : FVec Ideal S64x256x64 .f32) (ix3 g i p) = (((lam A1 A2 A3 g.val p.val ^ (15 - i.val / 16) * inm A1 A2 A3 A4 A5 g.val p.val (i.val % 16)).im : ℝ) : EReal) := by
  rw [e_v225, e_v224, e_v223, e_v222]
  exact (ws_at (V m c main_v200) g p i).trans (z_im h _ _ _ _)

omit h in
theorem zero_a (y : S32x256x64.Idx) : (V m c main_v261 : FVec Ideal S32x256x64 .f32) y = (0 : EReal) := by
  rw [e_v261, e_cst_5]
  exact Ideal.ofBits_zero .f32

omit h in
theorem zero_b (y : S32x64x256.Idx) : (V m c main_v278 : FVec Ideal S32x64x256 .f32) y = (0 : EReal) := by
  rw [e_v278, e_cst_6]
  exact Ideal.ofBits_zero .f32

/-- The chunk sums of two groups, as launched. -/
theorem ws_v (i : Fin 32) (s : Fin 2) (t j : Fin 256) : (V m c main_v445 : FVec Ideal S64x256x256 .bf16) (ix3 ⟨2 * i.val + s.val, by omega⟩ t j)
    = ((tab2 (fun s p => lam A1 A2 A3 (2 * i.val + s) p) (fun s p d => inm A1 A2 A3 A4 A5 (2 * i.val + s) p d) s.val t.val j.val : ℝ) : EReal) := by
  rw [e_v445, e_v277, e_v276, e_v275, e_v274, e_v273, e_v272, e_v271, e_v270, e_v269, e_v268, e_v267, e_v266, e_v265, e_v264, e_v263, e_v262]
  refine (pack_at (V m c main_v221) (V m c main_v225) (V m c main_v261) zero_a ⟨2 * i.val + s.val, by omega⟩ t j).trans ?_
  rw [ws_re h, ws_im h]
  have hs : (2 * i.val + s.val) % 2 = s.val := by omega
  unfold tab2
  dsimp only
  rw [hs]
  by_cases hc : s.val = j.val / 64 % 2
  · rw [if_pos hc, if_pos hc]
    split_ifs <;> rfl
  · rw [if_neg hc, if_neg hc, EReal.coe_zero]

/-- The read-out of one group, real part. -/
theorem wo_re (g p : Fin 64) (j : Fin 256) : (V m c main_v257 : FVec Ideal S64x64x256 .f32) (ix3 g p j) = (((outm A6 A7 g.val (j.val % 16) p.val * lam A1 A2 A3 g.val p.val ^ (j.val / 16 + 1)).re : ℝ) : EReal) := by
  rw [e_v257, e_v256, e_v240, e_v239, e_v238, e_v237, e_v236, e_v235, e_v234, e_v233, e_v232, e_v231, e_v230, e_v229, e_v228, e_v227, e_v226]
  refine (wo_at (V m c main_arg6) (V m c main_arg7) (V m c main_v159) (V m c main_v178) g p j).trans ?_
  rw [pw_re h, pw_im h, h.cr, h.ci, ← EReal.coe_mul, ← EReal.coe_mul, ← EReal.coe_sub, Complex.mul_re, Nat.add_comm (j.val / 16) 1]
  rfl

/-- The read-out of one group, imaginary part. -/
theorem wo_im (g p : Fin 64) (j : Fin 256) : (V m c main_v260 : FVec Ideal S64x64x256 .f32) (ix3 g p j) = ((-(outm A6 A7 g.val (j.val % 16) p.val * lam A1 A2 A3 g.val p.val ^ (j.val / 16 + 1)).im : ℝ) : EReal) := by
  rw [e_v260, e_v259, e_v258, e_v255, e_v254, e_v253, e_v252, e_v251, e_v250, e_v249, e_v248, e_v247, e_v246, e_v245, e_v244, e_v243, e_v242, e_v241]
  refine (woi_at (V m c main_arg6) (V m c main_arg7) (V m c main_v178) (V m c main_v159) g p j).trans ?_
  rw [pw_re h, pw_im h, h.cr, h.ci, ← EReal.coe_mul, ← EReal.coe_mul, ← EReal.coe_add, ← EReal.coe_neg, Complex.mul_im, Nat.add_comm (j.val / 16) 1]
  rfl

/-- The read-out of two groups, as launched. -/
theorem wo_v (i : Fin 32) (s : Fin 2) (t j : Fin 256) : (V m c main_v446 : FVec Ideal S64x256x256 .bf16) (ix3 ⟨2 * i.val + s.val, by omega⟩ t j)
    = ((tab3 (fun s p => lam A1 A2 A3 (2 * i.val + s) p) (fun s a p => outm A6 A7 (2 * i.val + s) a p) s.val t.val j.val : ℝ) : EReal) := by
  rw [e_v446, e_v294, e_v293, e_v292, e_v291, e_v290, e_v289, e_v288, e_v287, e_v286, e_v285, e_v284, e_v283, e_v282, e_v281, e_v280, e_v279]
  refine (wopack_at (V m c main_v257) (V m c main_v260) (V m c main_v278) zero_b ⟨2 * i.val + s.val, by omega⟩ t j).trans ?_
  rw [wo_re h, wo_im h]
  have hs : (2 * i.val + s.val) % 2 = s.val := by omega
  unfold tab3
  dsimp only
  rw [hs]
  by_cases hc : s.val = t.val / 64 % 2
  · rw [if_pos hc, if_pos hc]
    split_ifs <;> rfl
  · rw [if_neg hc, if_neg hc, EReal.coe_zero]

/-- The input in chunks, as launched. -/
theorem u_v (g : Fin 64) (r : Fin 1024) (j : Fin 256) : (V m c main_v2 : FVec Ideal S64x1024x256 .bf16) (ix3 g r j) = ((U (16 * r.val + j.val / 16) (16 * g.val + j.val % 16) : ℝ) : EReal) := by
  rw [e_v2, e_v1, e_v0]
  exact (u_at (V m c main_arg0) g r j).trans (h.u _ _)

end Cert.KernelIdeal.Host

end
-- ==== Proof.S5HostSquares.lean ====
/- The squarings of the sixteenth power of the poles, as complex numbers. -/
module

public import proofs.«01_k».proof.Proof.HostEqs
public import proofs.«01_k».proof.Proof.S5TablesC
public import proofs.«01_k».proof.Proof.S5TablesB
public import proofs.«01_k».proof.Proof.S5HostPowers

@[expose] public section

set_option maxRecDepth 16384
set_option maxHeartbeats 400000

noncomputable section

namespace Cert.KernelIdeal.Host

open Cert.S5Idx Cert.S5Coef Cert.S5Real Cert.KernelIdeal Cert.KernelIdeal.Gen Idealize.ShloMosaic Idealize.ShloMosaic.TcCoe Idealize.SL.Sem

/-- The last of the seventeen powers. -/
theorem last_row (X : FVec Ideal S17x64x64 .f32) (g p : Fin 64) :
    shapeCast S64x64 (extractStridedSlice S1x64x64 ![16, 0, 0] X slices_S17x64x64_S1x64x64_16_0_0) shapeCasts_S1x64x64_S64x64 (ix2 g p) = X (ix3 ⟨16, by omega⟩ g p) := by
  pointwise []

variable {m : (ℓ : Loc nD τ sig) → Buf (Elt Ideal) ℓ} {c : Dev nD} {U A1 A2 : ℕ → ℕ → ℝ} {A3 : ℕ → ℝ} {A4 A5 A6 A7 : ℕ → ℕ → ℕ → ℝ}
  (h : Args (V m c main_arg0) (V m c main_arg1) (V m c main_arg2) (V m c main_arg3) (V m c main_arg4) (V m c main_arg5) (V m c main_arg6) (V m c main_arg7) U A1 A2 A3 A4 A5 A6 A7)

include h

/-- The sixteenth power squared 0 times. -/
theorem sq_0 : IsC (V m c main_v296) (V m c main_v298) fun g p => lam A1 A2 A3 g p ^ (16 * 2 ^ 0) := by
  constructor
  · intro g p
    rw [e_v296, e_v295]
    exact (last_row (V m c main_v159) g p).trans (pw_re h _ g p)
  · intro g p
    rw [e_v298, e_v297]
    exact (last_row (V m c main_v178) g p).trans (pw_im h _ g p)

/-- The sixteenth power squared 1 times. -/
theorem sq_1 : IsC (V m c main_v312) (V m c main_v315) fun g p => lam A1 A2 A3 g p ^ (16 * 2 ^ 1) := by
  rw [e_v315, e_v314, e_v313, e_v312, e_v311, e_v310]
  exact isC_mul _ _ _ _ _ _ _ (sq_0 h) (sq_0 h) fun g p => by
    rw [← pow_add]
    exact congrArg _ (by norm_num)

/-- The sixteenth power squared 2 times. -/
theorem sq_2 : IsC (V m c main_v329) (V m c main_v332) fun g p => lam A1 A2 A3 g p ^ (16 * 2 ^ 2) := by
  rw [e_v332, e_v331, e_v330, e_v329, e_v328, e_v327]
  exact isC_mul _ _ _ _ _ _ _ (sq_1 h) (sq_1 h) fun g p => by
    rw [← pow_add]
    exact congrArg _ (by norm_num)

/-- The sixteenth power squared 3 times. -/
theorem sq_3 : IsC (V m c main_v346) (V m c main_v349) fun g p => lam A1 A2 A3 g p ^ (16 * 2 ^ 3) := by
  rw [e_v349, e_v348, e_v347, e_v346, e_v345, e_v344]
  exact isC_mul _ _ _ _ _ _ _ (sq_2 h) (sq_2 h) fun g p => by
    rw [← pow_add]
    exact congrArg _ (by norm_num)

/-- The sixteenth power squared 4 times. -/
theorem sq_4 : IsC (V m c main_v363) (V m c main_v366) fun g p => lam A1 A2 A3 g p ^ (16 * 2 ^ 4) := by
  rw [e_v366, e_v365, e_v364, e_v363, e_v362, e_v361]
  exact isC_mul _ _ _ _ _ _ _ (sq_3 h) (sq_3 h) fun g p => by
    rw [← pow_add]
    exact congrArg _ (by norm_num)

/-- The sixteenth power squared 5 times. -/
theorem sq_5 : IsC (V m c main_v380) (V m c main_v383) fun g p => lam A1 A2 A3 g p ^ (16 * 2 ^ 5) := by
  rw [e_v383, e_v382, e_v381, e_v380, e_v379, e_v378]
  exact isC_mul _ _ _ _ _ _ _ (sq_4 h) (sq_4 h) fun g p => by
    rw [← pow_add]
    exact congrArg _ (by norm_num)

/-- The sixteenth power squared 6 times. -/
theorem sq_6 : IsC (V m c main_v397) (V m c main_v400) fun g p => lam A1 A2 A3 g p ^ (16 * 2 ^ 6) := by
  rw [e_v400, e_v399, e_v398, e_v397, e_v396, e_v395]
  exact isC_mul _ _ _ _ _ _ _ (sq_5 h) (sq_5 h) fun g p => by
    rw [← pow_add]
    exact congrArg _ (by norm_num)

/-- The sixteenth power squared 7 times. -/
theorem sq_7 : IsC (V m c main_v414) (V m c main_v417) fun g p => lam A1 A2 A3 g p ^ (16 * 2 ^ 7) := by
  rw [e_v417, e_v416, e_v415, e_v414, e_v413, e_v412]
  exact isC_mul _ _ _ _ _ _ _ (sq_6 h) (sq_6 h) fun g p => by
    rw [← pow_add]
    exact congrArg _ (by norm_num)

/-- Row 0 of the squared poles of two groups. -/
theorem row_0 (i : Fin 32) (j : Fin 256) : (V m c main_v309 : FVec Ideal S32x256 .f32) (ix2 i j) = ((tab4 (fun s p => lam A1 A2 A3 (2 * i.val + s) p) 0 j.val : ℝ) : EReal) := by
  rw [e_v309, e_v308, e_v307, e_v306, e_v305, e_v304, e_v303, e_v302, e_v301, e_v300, e_v299]
  refine (lamp_at (V m c main_v296) (V m c main_v298) i j).trans ?_
  rw [(sq_0 h).1, (sq_0 h).2]
  unfold tab4
  split_ifs <;> rfl

/-- Row 1 of the squared poles of two groups. -/
theorem row_1 (i : Fin 32) (j : Fin 256) : (V m c main_v326 : FVec Ideal S32x256 .f32) (ix2 i j) = ((tab4 (fun s p => lam A1 A2 A3 (2 * i.val + s) p) 1 j.val : ℝ) : EReal) := by
  rw [e_v326, e_v325, e_v324, e_v323, e_v322, e_v321, e_v320, e_v319, e_v318, e_v317, e_v316]
  refine (lamp_at (V m c main_v312) (V m c main_v315) i j).trans ?_
  rw [(sq_1 h).1, (sq_1 h).2]
  unfold tab4
  split_ifs <;> rfl

/-- Row 2 of the squared poles of two groups. -/
theorem row_2 (i : Fin 32) (j : Fin 256) : (V m c main_v343 : FVec Ideal S32x256 .f32) (ix2 i j) = ((tab4 (fun s p => lam A1 A2 A3 (2 * i.val + s) p) 2 j.val : ℝ) : EReal) := by
  rw [e_v343, e_v342, e_v341, e_v340, e_v339, e_v338, e_v337, e_v336, e_v335, e_v334, e_v333]
  refine (lamp_at (V m c main_v329) (V m c main_v332) i j).trans ?_
  rw [(sq_2 h).1, (sq_2 h).2]
  unfold tab4
  split_ifs <;> rfl

/-- Row 3 of the squared poles of two groups. -/
theorem row_3 (i : Fin 32) (j : Fin 256) : (V m c main_v360 : FVec Ideal S32x256 .f32) (ix2 i j) = ((tab4 (fun s p => lam A1 A2 A3 (2 * i.val + s) p) 3 j.val : ℝ) : EReal) := by
  rw [e_v360, e_v359, e_v358, e_v357, e_v356, e_v355, e_v354, e_v353, e_v352, e_v351, e_v350]
  refine (lamp_at (V m c main_v346) (V m c main_v349) i j).trans ?_
  rw [(sq_3 h).1, (sq_3 h).2]
  unfold tab4
  split_ifs <;> rfl

/-- Row 4 of the squared poles of two groups. -/
theorem row_4 (i : Fin 32) (j : Fin 256) : (V m c main_v377 : FVec Ideal S32x256 .f32) (ix2 i j) = ((tab4 (fun s p => lam A1 A2 A3 (2 * i.val + s) p) 4 j.val : ℝ) : EReal) := by
  rw [e_v377, e_v376, e_v375, e_v374, e_v373, e_v372, e_v371, e_v370, e_v369, e_v368, e_v367]
  refine (lamp_at (V m c main_v363) (V m c main_v366) i j).trans ?_
  rw [(sq_4 h).1, (sq_4 h).2]
  unfold tab4
  split_ifs <;> rfl

/-- Row 5 of the squared poles of two groups. -/
theorem row_5 (i : Fin 32) (j : Fin 256) : (V m c main_v394 : FVec Ideal S32x256 .f32) (ix2 i j) = ((tab4 (fun s p => lam A1 A2 A3 (2 * i.val + s) p) 5 j.val : ℝ) : EReal) := by
  rw [e_v394, e_v393, e_v392, e_v391, e_v390, e_v389, e_v388, e_v387, e_v386, e_v385, e_v384]
  refine (lamp_at (V m c main_v380) (V m c main_v383) i j).trans ?_
  rw [(sq_5 h).1, (sq_5 h).2]
  unfold tab4
  split_ifs <;> rfl

/-- Row 6 of the squared poles of two groups. -/
theorem row_6 (i : Fin 32) (j : Fin 256) : (V m c main_v411 : FVec Ideal S32x256 .f32) (ix2 i j) = ((tab4 (fun s p => lam A1 A2 A3 (2 * i.val + s) p) 6 j.val : ℝ) : EReal) := by
  rw [e_v411, e_v410, e_v409, e_v408, e_v407, e_v406, e_v405, e_v404, e_v403, e_v402, e_v401]
  refine (lamp_at (V m c main_v397) (V m c main_v400) i j).trans ?_
  rw [(sq_6 h).1, (sq_6 h).2]
  unfold tab4
  split_ifs <;> rfl

/-- Row 7 of the squared poles of two groups. -/
theorem row_7 (i : Fin 32) (j : Fin 256) : (V m c main_v428 : FVec Ideal S32x256 .f32) (ix2 i j) = ((tab4 (fun s p => lam A1 A2 A3 (2 * i.val + s) p) 7 j.val : ℝ) : EReal) := by
  rw [e_v428, e_v427, e_v426, e_v425, e_v424, e_v423, e_v422, e_v421, e_v420, e_v419, e_v418]
  refine (lamp_at (V m c main_v414) (V m c main_v417) i j).trans ?_
  rw [(sq_7 h).1, (sq_7 h).2]
  unfold tab4
  split_ifs <;> rfl

/-- The squared poles the kernel is launched with. -/
theorem lamp_v (i : Fin 32) (l : Fin 8) (j : Fin 256) : (V m c main_v443 : FVec Ideal S32x8x256 .f32) (ix3 i l j) = ((tab4 (fun s p => lam A1 A2 A3 (2 * i.val + s) p) l.val j.val : ℝ) : EReal) := by
  rw [e_v443, e_v442, e_v441, e_v440, e_v439, e_v438, e_v437, e_v436, e_v435]
  exact cat8 (V m c main_v309) (V m c main_v326) (V m c main_v343) (V m c main_v360) (V m c main_v377) (V m c main_v394) (V m c main_v411) (V m c main_v428)
    (fun k i j => ((tab4 (fun s p => lam A1 A2 A3 (2 * i.val + s) p) k j.val : ℝ) : EReal)) (row_0 h) (row_1 h) (row_2 h) (row_3 h) (row_4 h) (row_5 h) (row_6 h) (row_7 h) i l j

end Cert.KernelIdeal.Host

end
-- ==== Proof.S5Value.lean ====
/- The recurrence: the array the pallas_call returns, element by element. -/
module

public import proofs.«01_k».proof.Proof.S5Body
public import proofs.«01_k».proof.Proof.S5HostTables
public import proofs.«01_k».proof.Proof.S5HostSquares
public import proofs.«01_k».proof.Proof.S5Idx
public import Idealize.ShloMosaic.Lib.Pipeline.ValueKit
public import Idealize.ShloMosaic.Lib.Pointwise

@[expose] public section

set_option maxRecDepth 16384
set_option maxHeartbeats 400000

noncomputable section

namespace Cert.KernelIdeal.Value

open Cert.ScanMath Cert.S5Idx Cert.S5Coef Cert.S5Real Cert.KernelIdeal Cert.KernelIdeal.Gen Idealize.ShloMosaic Idealize.ShloMosaic.TcCoe Idealize.SL.Sem
open Idealize.ShloMosaic.Pipeline (Dat)

/-- Which block each window stages at point `t`. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- There are 32 grid points. -/
theorem lt32 (t : Fin cfg0.N) : t.val < 32 := t.isLt

/-- The group a grid point and a half of its block belong to. -/
def grp (t : Fin cfg0.N) (s : Fin 2) : Fin 64 := ⟨2 * t.val + s.val, by have := lt32 t; omega⟩

/-- The input window's block at a grid point, in its array. -/
theorem blk0 (A : FVec Ideal S64x1024x256 .bf16) (t : Fin cfg0.N) (s : Fin 2) (r : Fin 1024) (j : Fin 256) :
    ((cfg0.win 0).blk t).view.read (Elt Ideal) A (ix3 s r j) = A (ix3 (grp t s) r j) := by
  blk_ext [idx t, grp]

/-- The Toeplitz window's block at a grid point, in its array. -/
theorem blk1 (A : FVec Ideal S64x256x256 .bf16) (t : Fin cfg0.N) (s : Fin 2) (r : Fin 256) (j : Fin 256) :
    ((cfg0.win 1).blk t).view.read (Elt Ideal) A (ix3 s r j) = A (ix3 (grp t s) r j) := by
  blk_ext [idx t, grp]

/-- The chunk-sum window's block at a grid point, in its array. -/
theorem blk2 (A : FVec Ideal S64x256x256 .bf16) (t : Fin cfg0.N) (s : Fin 2) (r : Fin 256) (j : Fin 256) :
    ((cfg0.win 2).blk t).view.read (Elt Ideal) A (ix3 s r j) = A (ix3 (grp t s) r j) := by
  blk_ext [idx t, grp]

/-- The read-out window's block at a grid point, in its array. -/
theorem blk3 (A : FVec Ideal S64x256x256 .bf16) (t : Fin cfg0.N) (s : Fin 2) (r : Fin 256) (j : Fin 256) :
    ((cfg0.win 3).blk t).view.read (Elt Ideal) A (ix3 s r j) = A (ix3 (grp t s) r j) := by
  blk_ext [idx t, grp]

/-- The squared-pole window's block at a grid point, in its array. -/
theorem blk4 (A : FVec Ideal S32x8x256 .f32) (t : Fin cfg0.N) (r : Fin 8) (j : Fin 256) :
    ((cfg0.win 4).blk t).view.read (Elt Ideal) A (ix3 0 r j) = A (ix3 ⟨t.val, lt32 t⟩ r j) := by
  blk_ext [idx t]

/-- The output window's block at a grid point, in its array. -/
theorem blk5 (A : FVec Ideal S64x1024x256 .f32) (t : Fin cfg0.N) (s : Fin 2) (r : Fin 1024) (j : Fin 256) :
    A (((cfg0.win 5).blk t).view.emb (ix3 s r j)) = A (ix3 (grp t s) r j) := by
  blk_ext [idx t, grp]

/-- The layer's answer, as an array: at group `g`, row `r`, column `j`. -/
def OUT (U A1 A2 : ℕ → ℕ → ℝ) (A3 : ℕ → ℝ) (A4 A5 A6 A7 : ℕ → ℕ → ℕ → ℝ) : FVec Ideal S64x1024x256 .f32 := fun y =>
  ((ans (lam A1 A2 A3) (inm A1 A2 A3 A4 A5) (outm A6 A7) (fun s n d => U n (16 * s + d)) (y 0).val (y 1).val (y 2).val : ℝ) : EReal)

variable {m : (ℓ : Loc nD τ sig) → Buf (Elt Ideal) ℓ} {c : Dev nD} {U A1 A2 : ℕ → ℕ → ℝ} {A3 : ℕ → ℝ} {A4 A5 A6 A7 : ℕ → ℕ → ℕ → ℝ}
  (h : Args (V m c main_arg0) (V m c main_arg1) (V m c main_arg2) (V m c main_arg3) (V m c main_arg4) (V m c main_arg5) (V m c main_arg6) (V m c main_arg7) U A1 A2 A3 A4 A5 A6 A7)

include h

/-- What grid point `t` stores. -/
theorem point (t : Fin cfg0.N) (s : Fin 2) (r : Fin 1024) (j : Fin 256) :
    (out0_5 (iblk m c 0 t) (iblk m c 1 t) (iblk m c 2 t) (iblk m c 3 t) (iblk m c 4 t) : Vec Ideal S2x1024x256 .f32) (ix3 s r j)
      = OUT U A1 A2 A3 A4 A5 A6 A7 (ix3 (grp t s) r j) := by
  refine (Body.out_at (fun s p => lam A1 A2 A3 (2 * t.val + s) p) (fun s p d => inm A1 A2 A3 A4 A5 (2 * t.val + s) p d)
    (fun s a p => outm A6 A7 (2 * t.val + s) a p) (fun s n d => U n (16 * (2 * t.val + s) + d)) _ _ _ _ _ ?_ ?_ ?_ ?_ ?_ s r j).trans rfl
  · exact fun s r j => (blk0 (V m c main_v2) t s r j).trans (Host.u_v h (grp t s) r j)
  · exact fun s a j => (blk1 (V m c main_v444) t s a j).trans (Host.mt_v h (grp t s) a j)
  · exact fun s a j => (blk2 (V m c main_v445) t s a j).trans (Host.ws_v h ⟨t.val, lt32 t⟩ s a j)
  · exact fun s a j => (blk3 (V m c main_v446) t s a j).trans (Host.wo_v h ⟨t.val, lt32 t⟩ s a j)
  · exact fun l j => (blk4 (V m c main_v443) t l j).trans (Host.lamp_v h ⟨t.val, lt32 t⟩ l j)

omit h in
/-- Two functions of a block's index agree when they do at every three coordinates. -/
theorem of_ix3 (G H : S2x1024x256.Idx → EReal) (e : ∀ (s : Fin 2) (r : Fin 1024) (j : Fin 256), G (ix3 s r j) = H (ix3 s r j)) (y : S2x1024x256.Idx) : G y = H y := by
  have hy : y = ix3 (y 0) (y 1) (y 2) := by
    funext a
    match a with
    | ⟨0, _⟩ => rfl
    | ⟨1, _⟩ => rfl
    | ⟨2, _⟩ => rfl
  exact (congrArg G hy).trans ((e _ _ _).trans (congrArg H hy).symm)

/-- What grid point `t` stores, at any index of its block. -/
theorem point_at (t : Fin cfg0.N) (y : S2x1024x256.Idx) :
    (out0_5 (iblk m c 0 t) (iblk m c 1 t) (iblk m c 2 t) (iblk m c 3 t) (iblk m c 4 t) : Vec Ideal S2x1024x256 .f32) y
      = OUT U A1 A2 A3 A4 A5 A6 A7 (((cfg0.win 5).blk t).view.emb y) :=
  of_ix3 _ (fun y => OUT U A1 A2 A3 A4 A5 A6 A7 (((cfg0.win 5).blk t).view.emb y)) (fun s r j => (point h t s r j).trans (blk5 _ t s r j).symm) y

/-- The result array after the run. -/
theorem final : (dats m 0 c).arrAt 5 (cfgs 0).N = OUT U A1 A2 A3 A4 A5 A6 A7 := by
  refine (dats m 0 c).arrAt_eq_of_covers 5 _ (by decide +kernel) fun t _ y => ?_
  blk_simp
  rw [after0_5]
  exact point_at h t y

end Cert.KernelIdeal.Value

end
-- ==== Proof.S5Pre.lean ====
/- From the precondition to real numbers: when every entry is finite and no pole is zero, the eight arguments
   hold real numbers. -/
module

public import proofs.«01_k».proof.Proof.S5Coef
public import proofs.«01_k».proof.Pre_finite_in
public import Idealize.ShloMosaic.Lib.Pointwise
public import Idealize.ShloMosaic.Lib.ReduceAll
public import Idealize.ShloMosaic.Lib.Affine

@[expose] public section

set_option maxRecDepth 16384
set_option maxHeartbeats 400000

noncomputable section

namespace Cert.S5Pre

open Cert.S5Coef Idealize.ShloMosaic Idealize.SL.Sem

/-- A number whose absolute value is below infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hl : max x (-x) < ⊤ := (Ideal.cmp_olt_eq_one _ _).1 h
  rw [max_lt_iff] at hl
  refine ⟨x.toReal, (EReal.coe_toReal hl.1.ne ?_).symm⟩
  intro hb
  exact hl.2.ne (by rw [hb]; rfl)

/-- An array of which a test of finiteness says yes everywhere holds real numbers. -/
theorem real_entry {S : Shape} (x : FVec Ideal S .f32) (b : Cert.Pre_finite_in.S_.BroadcastsInDim S (![] : Fin 0 → Fin S.rank)) (i : S.Idx)
    (h : cmpf .olt (Host.absf x) (broadcastInDim S ![] b (constant (F := Ideal) Cert.Pre_finite_in.S_ .f32 0x7F800000#32)) i = 1#1) : ∃ r : ℝ, x i = (r : EReal) :=
  real_of_lt (x i) h

/-- Real numbers chosen for a list of real entries. -/
theorem pick1 {a : ℕ} (y : Fin a → EReal) (h : ∀ i, ∃ r : ℝ, y i = (r : EReal)) : ∃ f : ℕ → ℝ, ∀ i : Fin a, y i = ((f i.val : ℝ) : EReal) :=
  ⟨fun i => if hi : i < a then (h ⟨i, hi⟩).choose else 0, fun i => by beta_reduce; rw [dif_pos i.isLt]; exact (h i).choose_spec⟩

/-- Real numbers chosen for a matrix of real entries. -/
theorem pick2 {a b : ℕ} (y : Fin a → Fin b → EReal) (h : ∀ i j, ∃ r : ℝ, y i j = (r : EReal)) :
    ∃ f : ℕ → ℕ → ℝ, ∀ (i : Fin a) (j : Fin b), y i j = ((f i.val j.val : ℝ) : EReal) :=
  ⟨fun i j => if hi : i < a then (if hj : j < b then (h ⟨i, hi⟩ ⟨j, hj⟩).choose else 0) else 0,
    fun i j => by beta_reduce; rw [dif_pos i.isLt, dif_pos j.isLt]; exact (h i j).choose_spec⟩

/-- Real numbers chosen for a three-index array of real entries. -/
theorem pick3 {a b c : ℕ} (y : Fin a → Fin b → Fin c → EReal) (h : ∀ i j k, ∃ r : ℝ, y i j k = (r : EReal)) :
    ∃ f : ℕ → ℕ → ℕ → ℝ, ∀ (i : Fin a) (j : Fin b) (k : Fin c), y i j k = ((f i.val j.val k.val : ℝ) : EReal) :=
  ⟨fun i j k => if hi : i < a then (if hj : j < b then (if hk : k < c then (h ⟨i, hi⟩ ⟨j, hj⟩ ⟨k, hk⟩).choose else 0) else 0) else 0,
    fun i j k => by beta_reduce; rw [dif_pos i.isLt, dif_pos j.isLt, dif_pos k.isLt]; exact (h i j k).choose_spec⟩

/-- A sum of two squares above zero is not zero. -/
theorem pole_ne {x y : EReal} {a b : ℝ} (hx : x = (a : EReal)) (hy : y = (b : EReal)) (h : Ideal.ofBits .f32 0x00000000#32 < x * x + y * y) : a * a + b * b ≠ 0 := by
  subst hx hy
  rw [Ideal.ofBits_zero .f32, ← EReal.coe_mul, ← EReal.coe_mul, ← EReal.coe_add, ← EReal.coe_zero, EReal.coe_lt_coe_iff] at h
  exact h.ne'

section
open Cert.Pre_finite_in

instance : Subsingleton S_.Idx := ⟨fun a b => funext fun k => k.elim0⟩

/-- The precondition, read: the arguments are real numbers and no pole is zero. -/
theorem args_of_finite [Cert.Pre_finite_in.Facts] (x0 : FVec Ideal S16384x1024 .bf16) (x1 x2 : FVec Ideal S64x64 .f32) (x3 : FVec Ideal S64 .f32) (x4 x5 : FVec Ideal S64x64x16 .f32)
    (x6 x7 : FVec Ideal S64x16x64 .f32) (h : Cert.Pre_finite_in.fn (F := Ideal) x0 x1 x2 x3 x4 x5 x6 x7 = fun _ => 1#1) :
    ∃ (U A1 A2 : ℕ → ℕ → ℝ) (A3 : ℕ → ℝ) (A4 A5 A6 A7 : ℕ → ℕ → ℕ → ℝ), Args x0 x1 x2 x3 x4 x5 x6 x7 U A1 A2 A3 A4 A5 A6 A7 := by
  have j : S_.Idx := fun k => k.elim0
  have e := congrFun h j
  clear h
  dsimp only [fn, fn_part1, fn_part2] at e
  obtain ⟨e8, q8⟩ := IntOp.andi_eq_one.1 e
  clear e
  obtain ⟨e7, q7⟩ := IntOp.andi_eq_one.1 e8
  clear e8
  obtain ⟨e6, q6⟩ := IntOp.andi_eq_one.1 e7
  clear e7
  obtain ⟨e5, q5⟩ := IntOp.andi_eq_one.1 e6
  clear e6
  obtain ⟨e4, q4⟩ := IntOp.andi_eq_one.1 e5
  clear e5
  obtain ⟨e3, q3⟩ := IntOp.andi_eq_one.1 e4
  clear e4
  obtain ⟨e2, q2⟩ := IntOp.andi_eq_one.1 e3
  clear e3
  obtain ⟨e1, q1⟩ := IntOp.andi_eq_one.1 e2
  clear e2
  obtain ⟨e0, q0⟩ := IntOp.andi_eq_one.1 e1
  clear e1 e0
  obtain ⟨U, hU⟩ := pick2 (fun i j => x0 (ix2 i j)) fun i j => real_entry (x0 : FVec Ideal S16384x1024 .f32) _ _ (Host.reduce_andi_all _ _ _ _ _ q0 (ix2 i j))
  clear q0
  obtain ⟨A1, h1⟩ := pick2 (fun i j => x1 (ix2 i j)) fun i j => real_entry x1 _ _ (Host.reduce_andi_all _ _ _ _ _ q1 (ix2 i j))
  clear q1
  obtain ⟨A2, h2⟩ := pick2 (fun i j => x2 (ix2 i j)) fun i j => real_entry x2 _ _ (Host.reduce_andi_all _ _ _ _ _ q2 (ix2 i j))
  clear q2
  obtain ⟨A3, h3⟩ := pick1 (fun i => x3 (ix1 i)) fun i => real_entry x3 _ _ (Host.reduce_andi_all _ _ _ _ _ q3 (ix1 i))
  clear q3
  obtain ⟨A4, h4⟩ := pick3 (fun i j k => x4 (ix3 i j k)) fun i j k => real_entry x4 _ _ (Host.reduce_andi_all _ _ _ _ _ q4 (ix3 i j k))
  clear q4
  obtain ⟨A5, h5⟩ := pick3 (fun i j k => x5 (ix3 i j k)) fun i j k => real_entry x5 _ _ (Host.reduce_andi_all _ _ _ _ _ q5 (ix3 i j k))
  clear q5
  obtain ⟨A6, h6⟩ := pick3 (fun i j k => x6 (ix3 i j k)) fun i j k => real_entry x6 _ _ (Host.reduce_andi_all _ _ _ _ _ q6 (ix3 i j k))
  clear q6
  obtain ⟨A7, h7⟩ := pick3 (fun i j k => x7 (ix3 i j k)) fun i j k => real_entry x7 _ _ (Host.reduce_andi_all _ _ _ _ _ q7 (ix3 i j k))
  clear q7
  refine ⟨U, A1, A2, A3, A4, A5, A6, A7, hU, h1, h2, h3, h4, h5, h6, h7, fun g p => ?_⟩
  have hp : Ideal.cmp .ogt (x1 (ix2 g p) * x1 (ix2 g p) + x2 (ix2 g p) * x2 (ix2 g p)) (Ideal.ofBits .f32 0x00000000#32) = 1#1 :=
    Host.reduce_andi_all _ _ _ _ _ q8 (ix2 g p)
  have hl := (Ideal.cmp_ogt_eq_one _ _).1 hp
  exact pole_ne (h1 g p) (h2 g p) hl

end

end Cert.S5Pre

end
-- ==== Proof.S5Pair.lean ====
/- The recurrence: the pallas_call's result and the reference's are the same array, on arguments that hold real numbers. -/
module

public import proofs.«01_k».proof.Proof.S5RefLoop
public import proofs.«01_k».proof.Proof.S5Value
public import proofs.«01_k».proof.Proof.S5Pre

@[expose] public section

set_option maxRecDepth 16384
set_option maxHeartbeats 400000

noncomputable section

namespace Cert.S5Pair

open Cert.KernelIdeal (S16384x1024 S64x64 S64 S64x64x16 S64x16x64)
open Cert.S5Coef Idealize.ShloMosaic Idealize.ShloMosaic.StableHlo Idealize.ShloMosaic.Tactic Idealize.ShloMosaic.TcCoe Idealize.SL.Sem

/-- The arguments may be replaced by equal ones. -/
theorem args_of_eq {x0 y0 : FVec Ideal S16384x1024 .bf16} {x1 y1 x2 y2 : FVec Ideal S64x64 .f32} {x3 y3 : FVec Ideal S64 .f32} {x4 y4 x5 y5 : FVec Ideal S64x64x16 .f32} {x6 y6 x7 y7 : FVec Ideal S64x16x64 .f32}
    {U A1 A2 : ℕ → ℕ → ℝ} {A3 : ℕ → ℝ} {A4 A5 A6 A7 : ℕ → ℕ → ℕ → ℝ} (h : Args x0 x1 x2 x3 x4 x5 x6 x7 U A1 A2 A3 A4 A5 A6 A7)
    (e0 : y0 = x0) (e1 : y1 = x1) (e2 : y2 = x2) (e3 : y3 = x3) (e4 : y4 = x4) (e5 : y5 = x5) (e6 : y6 = x6) (e7 : y7 = x7) :
    Args y0 y1 y2 y3 y4 y5 y6 y7 U A1 A2 A3 A4 A5 A6 A7 := by
  subst e0 e1 e2 e3 e4 e5 e6 e7
  exact h

/-- Two arrays over groups, rows and columns agree when they do at every three coordinates. -/
theorem ext3 (G H : FVec Ideal Cert.KernelIdeal.S64x1024x256 .f32) (e : ∀ (g : Fin 64) (r : Fin 1024) (j : Fin 256), G (ix3 g r j) = H (ix3 g r j)) : G = H := by
  funext y
  have hy : y = ix3 (y 0) (y 1) (y 2) := by
    funext a
    match a with
    | ⟨0, _⟩ => rfl
    | ⟨1, _⟩ => rfl
    | ⟨2, _⟩ => rfl
  exact (congrArg G hy).trans ((e _ _ _).trans (congrArg H hy).symm)

/-- The reference's result array. -/
theorem reference {m : (ℓ : Loc Cert.ReferenceIdeal.nD Cert.ReferenceIdeal.τ Cert.ReferenceIdeal.sig) → Buf (Elt Ideal) ℓ} {c : Dev Cert.ReferenceIdeal.nD}
    {U A1 A2 : ℕ → ℕ → ℝ} {A3 : ℕ → ℝ} {A4 A5 A6 A7 : ℕ → ℕ → ℕ → ℝ}
    (h : Args (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
      (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3))
      (m ((c : Thread Cert.ReferenceIdeal.nD Cert.ReferenceIdeal.τ).loc Cert.ReferenceIdeal.main_arg4)) (m ((c : Thread Cert.ReferenceIdeal.nD Cert.ReferenceIdeal.τ).loc Cert.ReferenceIdeal.main_arg5))
      (m ((c : Thread Cert.ReferenceIdeal.nD Cert.ReferenceIdeal.τ).loc Cert.ReferenceIdeal.main_arg6)) (m ((c : Thread Cert.ReferenceIdeal.nD Cert.ReferenceIdeal.τ).loc Cert.ReferenceIdeal.main_arg7))
      U A1 A2 A3 A4 A5 A6 A7) :
    (Cert.ReferenceIdeal.Value.out_main_v57 (Cert.ReferenceIdeal.Value.STEP^[4096] (entryContents Cert.ReferenceIdeal.Value.preI m c)) : FVec Ideal Cert.KernelIdeal.S64x1024x256 .f32)
      = Cert.KernelIdeal.Value.OUT U A1 A2 A3 A4 A5 A6 A7 :=
  ext3 _ _ fun g r j => Cert.ReferenceIdeal.Host.value (args_of_eq h (Cert.ReferenceIdeal.Host.e_arg0 m c) (Cert.ReferenceIdeal.Host.e_arg1 m c) (Cert.ReferenceIdeal.Host.e_arg2 m c) (Cert.ReferenceIdeal.Host.e_arg3 m c)
    (Cert.ReferenceIdeal.Host.e_arg4 m c) (Cert.ReferenceIdeal.Host.e_arg5 m c) (Cert.ReferenceIdeal.Host.e_arg6 m c) (Cert.ReferenceIdeal.Host.e_arg7 m c)) g r j

/-- The pallas_call's result array. -/
theorem kernel {m : (ℓ : Loc Cert.KernelIdeal.nD Cert.KernelIdeal.τ Cert.KernelIdeal.sig) → Buf (Elt Ideal) ℓ} {c : Dev Cert.KernelIdeal.nD}
    {U A1 A2 : ℕ → ℕ → ℝ} {A3 : ℕ → ℝ} {A4 A5 A6 A7 : ℕ → ℕ → ℕ → ℝ}
    (h : Args (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)) (m ((c : Thread Cert.KernelIdeal.nD Cert.KernelIdeal.τ).loc Cert.KernelIdeal.main_arg7))
      U A1 A2 A3 A4 A5 A6 A7) :
    (Cert.KernelIdeal.Gen.dats m 0 c).arrAt 5 Cert.KernelIdeal.cfg0.N = Cert.KernelIdeal.Value.OUT U A1 A2 A3 A4 A5 A6 A7 :=
  Cert.KernelIdeal.Value.final (args_of_eq h (Cert.KernelIdeal.Gen.V_main_arg0 m c) (Cert.KernelIdeal.Gen.V_main_arg1 m c) (Cert.KernelIdeal.Gen.V_main_arg2 m c) (Cert.KernelIdeal.Gen.V_main_arg3 m c)
    (Cert.KernelIdeal.Gen.V_main_arg4 m c) (Cert.KernelIdeal.Gen.V_main_arg5 m c) (Cert.KernelIdeal.Gen.V_main_arg6 m c) (Cert.KernelIdeal.Gen.V_main_arg7 m c))

end Cert.S5Pair

end
-- ==== Proof.AdaValue.lean ====
/- The modulation: the array the pallas_call returns is the reference's, a product with a matrix and a bias.
   Every grid point writes its own 1536 columns. -/
module

public import proofs.«01_k».proof.Proof.Gen.AdaIdeal.Value
public import proofs.«01_k».proof.Proof.Gen.AdaReferenceIdeal.Run
public import Idealize.ShloMosaic.Lib.Pipeline.ValueKit
public import Idealize.ShloMosaic.Lib.Pointwise

@[expose] public section

set_option maxRecDepth 16384

noncomputable section

namespace Cert.AdaReferenceIdeal.Value

open Cert.AdaReferenceIdeal Cert.AdaReferenceIdeal.Gen Idealize.ShloMosaic Idealize.ShloMosaic.TcCoe Idealize.SL.Sem

/-- The reference's result as a function of its three arguments. -/
abbrev REF (a0 : FVec Ideal S4x2048 .f32) (a1 : FVec Ideal S2048x6144 .f32) (a2 : FVec Ideal S6144 .f32) : FVec Ideal S4x6144 .f32 :=
  addf (Host.dotGeneral dot_S4x2048_S2048x6144_S4x6144_1_0_0_1_n_n none a0 a1)
    (broadcastInDim S4x6144 ![0, 1] bcast_S1x6144_S4x6144_0_1 (broadcastInDim S1x6144 ![1] bcast_S6144_S1x6144_1 a2))

end Cert.AdaReferenceIdeal.Value

namespace Cert.AdaIdeal.Value

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What point `t` stores at `y` is the reference at the place of `y` in the array. -/
theorem point (c : Dev nD) (t : Fin cfg0.N) (y) :
    k0_pay1 (iblk m c 0 t) (iblk m c 1 t) (iblk m c 2 t) y
    = Cert.AdaReferenceIdeal.Value.REF (m ((c : Thread nD τ).loc main_arg0)) (m ((c : Thread nD τ).loc main_arg1)) (m ((c : Thread nD τ).loc main_arg2))
      (((cfg0.win 3).blk t).view.emb y) := by
  pointwise [k0_pay1, Cert.AdaReferenceIdeal.Value.REF]
  blk_point [iblk, V, idx t]

/-- The result array after the run. -/
theorem final (c : Dev nD) : (dats m 0 c).arrAt 3 (cfgs 0).N
    = Cert.AdaReferenceIdeal.Value.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  exact point m c t y

end Cert.AdaIdeal.Value

end
-- ==== Proof.InProjValue.lean ====
/- The input projection: the array the pallas_call returns is the reference's. The normed and modulated rows are
   computed once per block of 1024 rows and kept for that block's seven column blocks. -/
module

public import proofs.«01_k».proof.Proof.Gen.InProjIdeal.Value
public import proofs.«01_k».proof.Proof.Gen.InProjReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.InProjReferenceIdeal.Value

open Cert.InProjReferenceIdeal Cert.InProjReferenceIdeal.Gen Idealize.ShloMosaic Idealize.ShloMosaic.TcCoe Idealize.SL.Sem

/-- The normed, scaled and shifted rows. -/
def MOD (a0 : FVec Ideal S4x4096x2048 .f32) (a1 a2 : FVec Ideal S4x2048 .f32) : FVec Ideal S4x4096x2048 .f32 :=
  (addf (mulf (mulf (subf a0 (broadcastInDim S4x4096x2048 ![0, 1, 2] bcast_S4x4096x1_S4x4096x2048_0_1_2 (Host.divf (broadcastInDim S4x4096x1 ![0, 1] bcast_S4x4096_S4x4096x1_0_1 (Host.reduceAdd a0 (constant S_ .f32 0x00000000#32) reducesTo_S4x4096x2048_S4x4096_d2 h_S_)) (broadcastInDim S4x4096x1 ![] bcast_S_S4x4096x1 (constant S_ .f32 0x45000000#32))))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (subf a0 (broadcastInDim S4x4096x2048 ![0, 1, 2] bcast_S4x4096x1_S4x4096x2048_0_1_2 (Host.divf (broadcastInDim S4x4096x1 ![0, 1] bcast_S4x4096_S4x4096x1_0_1 (Host.reduceAdd a0 (constant S_ .f32 0x00000000#32) reducesTo_S4x4096x2048_S4x4096_d2 h_S_)) (broadcastInDim S4x4096x1 ![] bcast_S_S4x4096x1 (constant S_ .f32 0x45000000#32))))) (subf a0 (broadcastInDim S4x4096x2048 ![0, 1, 2] bcast_S4x4096x1_S4x4096x2048_0_1_2 (Host.divf (broadcastInDim S4x4096x1 ![0, 1] bcast_S4x4096_S4x4096x1_0_1 (Host.reduceAdd a0 (constant S_ .f32 0x00000000#32) reducesTo_S4x4096x2048_S4x4096_d2 h_S_)) (broadcastInDim S4x4096x1 ![] bcast_S_S4x4096x1 (constant S_ .f32 0x45000000#32)))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 a1)))) (broadcastInDim S4x4096x2048 ![0, 1, 2] bcast_S4x1x2048_S4x4096x2048_0_1_2 (broadcastInDim S4x1x2048 ![0, 2] bcast_S4x2048_S4x1x2048_0_2 a2)))

/-- The products of the rows `M` with the weight's columns, the column groups in the order the result keeps them,
    eighty columns of zeros at the end. -/
def CAT (M : FVec Ideal S4x4096x2048 .f32) (a3 : FVec Ideal S2048x9776 .f32) : FVec Ideal S4x4096x9856 .f32 :=
  ((concatenate S4x4096x9856 2 [⟨S4x4096x1024, ((extractStridedSlice S4x4096x1024 ![0, 0, 0] (Host.dotGeneral dot_S4x4096x2048_S2048x9776_S4x4096x9776_2_0_01_1_n_n none M a3) slices_S4x4096x9776_S4x4096x1024_0_0_0) : (⟨S4x4096x1024, .f32⟩ : BufTy).Contents (Elt Ideal))⟩, ⟨S4x4096x1024, ((extractStridedSlice S4x4096x1024 ![0, 0, 2608] (Host.dotGeneral dot_S4x4096x2048_S2048x9776_S4x4096x9776_2_0_01_1_n_n none M a3) slices_S4x4096x9776_S4x4096x1024_0_0_2608) : (⟨S4x4096x1024, .f32⟩ : BufTy).Contents (Elt Ideal))⟩, ⟨S4x4096x1024, ((extractStridedSlice S4x4096x1024 ![0, 0, 3632] (Host.dotGeneral dot_S4x4096x2048_S2048x9776_S4x4096x9776_2_0_01_1_n_n none M a3) slices_S4x4096x9776_S4x4096x1024_0_0_3632) : (⟨S4x4096x1024, .f32⟩ : BufTy).Contents (Elt Ideal))⟩, ⟨S4x4096x1024, ((extractStridedSlice S4x4096x1024 ![0, 0, 4656] (Host.dotGeneral dot_S4x4096x2048_S2048x9776_S4x4096x9776_2_0_01_1_n_n none M a3) slices_S4x4096x9776_S4x4096x1024_0_0_4656) : (⟨S4x4096x1024, .f32⟩ : BufTy).Contents (Elt Ideal))⟩, ⟨S4x4096x2048, ((extractStridedSlice S4x4096x2048 ![0, 0, 5680] (Host.dotGeneral dot_S4x4096x2048_S2048x9776_S4x4096x9776_2_0_01_1_n_n none M a3) slices_S4x4096x9776_S4x4096x2048_0_0_5680) : (⟨S4x4096x2048, .f32⟩ : BufTy).Contents (Elt Ideal))⟩, ⟨S4x4096x2048, ((extractStridedSlice S4x4096x2048 ![0, 0, 7728] (Host.dotGeneral dot_S4x4096x2048_S2048x9776_S4x4096x9776_2_0_01_1_n_n none M a3) slices_S4x4096x9776_S4x4096x2048_0_0_7728) : (⟨S4x4096x2048, .f32⟩ : BufTy).Contents (Elt Ideal))⟩, ⟨S4x4096x1536, ((extractStridedSlice S4x4096x1536 ![0, 0, 1024] (Host.dotGeneral dot_S4x4096x2048_S2048x9776_S4x4096x9776_2_0_01_1_n_n none M a3) slices_S4x4096x9776_S4x4096x1536_0_0_1024) : (⟨S4x4096x1536, .f32⟩ : BufTy).Contents (Elt Ideal))⟩, ⟨S4x4096x48, ((extractStridedSlice S4x4096x48 ![0, 0, 2560] (Host.dotGeneral dot_S4x4096x2048_S2048x9776_S4x4096x9776_2_0_01_1_n_n none M a3) slices_S4x4096x9776_S4x4096x48_0_0_2560) : (⟨S4x4096x48, .f32⟩ : BufTy).Contents (Elt Ideal))⟩, ⟨S4x4096x80, ((broadcastInDim S4x4096x80 ![] bcast_S_S4x4096x80 (constant (F := Ideal) S_ .f32 0x00000000#32)) : (⟨S4x4096x80, .f32⟩ : BufTy).Contents (Elt Ideal))⟩] concatenates_S4x4096x1024_S4x4096x1024_S4x4096x1024_S4x4096x1024_S4x4096x2048_S4x4096x2048_S4x4096x1536_S4x4096x48_S4x4096x80_S4x4096x9856_d2 : (⟨S4x4096x9856, .f32⟩ : BufTy).Contents (Elt Ideal)))

/-- The reference's result as a function of its four arguments. -/
abbrev REF (a0 : FVec Ideal S4x4096x2048 .f32) (a1 a2 : FVec Ideal S4x2048 .f32) (a3 : FVec Ideal S2048x9776 .f32) :
    FVec Ideal S16384x9856 .bf16 :=
  truncf .bf16 (shapeCast _ (CAT (MOD a0 a1 a2) a3) shapeCasts_S4x4096x9856_S16384x9856) bitsLt_bf16_f32

end Cert.InProjReferenceIdeal.Value

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`. -/
theorem idx : ∀ t : Fin cfg0.N, win0_0.index t = ![t.val / 7, 0] ∧ win0_1.index t = ![t.val / 28, 0, 0] ∧ win0_2.index t = ![t.val / 28, 0, 0]
    ∧ win0_3.index t = ![0, t.val % 7] ∧ win0_4.index t = ![t.val / 7, t.val % 7] :=
  (by decide +kernel : ∀ t : Fin grid0.N, _)

/-- The rows computed at a point whose row block is `i` are the reference's. -/
theorem mod_at (c : Dev nD) (t : Fin cfg0.N) (p : Fin 1024) (q : Fin 2048) (b : Fin 4) (l : Fin 4096)
    (hb : b.val = t.val / 28) (hl : l.val = t.val / 7 % 4 * 1024 + p.val) :
    k0_pay1 (iblk m c 0 t) (iblk m c 1 t) (iblk m c 2 t) (ix2 p q)
    = Cert.InProjReferenceIdeal.Value.MOD (m ((c : Thread nD τ).loc main_arg0)) (m ((c : Thread nD τ).loc main_arg1)) (m ((c : Thread nD τ).loc main_arg2)) (ix3 b l q) := by
  pointwise [k0_pay1, Cert.InProjReferenceIdeal.Value.MOD]
  blk_point [iblk, V, idx t]

/-- What the kept rows hold after point `n`: the rows of its block. -/
theorem kept (c : Dev nD) (n : ℕ) : ∀ (hn : n < cfg0.N) (p : Fin 1024) (q : Fin 2048) (b : Fin 4) (l : Fin 4096)
    (hb : b.val = n / 28) (hl : l.val = n / 7 % 4 * 1024 + p.val),
    (outsAt0 m c n hn).2 (ix2 p q) = Cert.InProjReferenceIdeal.Value.MOD (m ((c : Thread nD τ).loc main_arg0)) (m ((c : Thread nD τ).loc main_arg1)) (m ((c : Thread nD τ).loc main_arg2)) (ix3 b l q) := by
  induction n with
  | zero =>
    intro hn p q b l hb hl
    rw [outsAt0_A m c ⟨0, hn⟩ rfl]
    frame_out
    exact mod_at m c ⟨0, hn⟩ p q b l hb hl
  | succ n ih =>
    intro hn p q b l hb hl
    by_cases h : (n + 1) % 7 = 0
    · rw [outsAt0_A m c ⟨n + 1, hn⟩ h]
      frame_out
      exact mod_at m c ⟨n + 1, hn⟩ p q b l hb hl
    · rw [outsAt0_B m c ⟨n + 1, hn⟩ h]
      frame_out
      exact ih _ p q b l (by omega) (by omega)

/-- The weight with its column groups re-ordered and eighty columns of zeros at the end. -/
def WCAT (a3 : FVec Ideal S2048x9776 .f32) : FVec Ideal S2048x9856 .f32 :=
  (concatenate S2048x9856 1 [⟨S2048x1024, ((extractStridedSlice S2048x1024 ![0, 0] a3 slices_S2048x9776_S2048x1024_0_0) : (⟨S2048x1024, .f32⟩ : BufTy).Contents (Elt Ideal))⟩, ⟨S2048x1024, ((extractStridedSlice S2048x1024 ![0, 2608] a3 slices_S2048x9776_S2048x1024_0_2608) : (⟨S2048x1024, .f32⟩ : BufTy).Contents (Elt Ideal))⟩, ⟨S2048x1024, ((extractStridedSlice S2048x1024 ![0, 3632] a3 slices_S2048x9776_S2048x1024_0_3632) : (⟨S2048x1024, .f32⟩ : BufTy).Contents (Elt Ideal))⟩, ⟨S2048x1024, ((extractStridedSlice S2048x1024 ![0, 4656] a3 slices_S2048x9776_S2048x1024_0_4656) : (⟨S2048x1024, .f32⟩ : BufTy).Contents (Elt Ideal))⟩, ⟨S2048x2048, ((extractStridedSlice S2048x2048 ![0, 5680] a3 slices_S2048x9776_S2048x2048_0_5680) : (⟨S2048x2048, .f32⟩ : BufTy).Contents (Elt Ideal))⟩, ⟨S2048x2048, ((extractStridedSlice S2048x2048 ![0, 7728] a3 slices_S2048x9776_S2048x2048_0_7728) : (⟨S2048x2048, .f32⟩ : BufTy).Contents (Elt Ideal))⟩, ⟨S2048x1536, ((extractStridedSlice S2048x1536 ![0, 1024] a3 slices_S2048x9776_S2048x1536_0_1024) : (⟨S2048x1536, .f32⟩ : BufTy).Contents (Elt Ideal))⟩, ⟨S2048x48, ((extractStridedSlice S2048x48 ![0, 2560] a3 slices_S2048x9776_S2048x48_0_2560) : (⟨S2048x48, .f32⟩ : BufTy).Contents (Elt Ideal))⟩, ⟨S2048x80, ((broadcastInDim S2048x80 ![] bcast_S_S2048x80 (constant (F := Ideal) S_ .f32 0x00000000#32)) : (⟨S2048x80, .f32⟩ : BufTy).Contents (Elt Ideal))⟩] concatenates_S2048x1024_S2048x1024_S2048x1024_S2048x1024_S2048x2048_S2048x2048_S2048x1536_S2048x48_S2048x80_S2048x9856_d1 : (⟨S2048x9856, .f32⟩ : BufTy).Contents (Elt Ideal))

/-- A choice that does not depend on the summation index moves out of the sum. -/
theorem sum_mul_dite {ι : Type} [Fintype ι] (p : Prop) [Decidable p] (a : ι → EReal) (f : p → ι → EReal) (g : ¬p → ι → EReal) :
    ∑ x, a x * (if h : p then f h x else g h x) = if h : p then ∑ x, a x * f h x else ∑ x, a x * g h x := by
  by_cases h : p
  · simp only [dif_pos h]
  · simp only [dif_neg h]

set_option maxHeartbeats 800000 in
/-- A row times the re-ordered weight is the re-ordered product. -/
theorem row_cat (M : FVec Ideal Cert.InProjReferenceIdeal.S4x4096x2048 .f32) (w : FVec Ideal S2048x9776 .f32) (b : Fin 4) (l : Fin 4096) (col : Fin 9856) :
    ∑ k : Fin 2048, M (ix3 b l k) * WCAT w (ix2 k col) = Cert.InProjReferenceIdeal.Value.CAT M w (ix3 b l col) := by
  pointwise [WCAT, Cert.InProjReferenceIdeal.Value.CAT]
  simp only [sum_mul_dite, mul_zero, Finset.sum_const_zero]

/-- What the region finds in the weight's array. -/
theorem V_w (c : Dev nD) : V m c main_v11 = truncf (F := Ideal) .bf16 (WCAT (m ((c : Thread nD τ).loc main_arg3))) bitsLt_bf16_f32 := by
  unfold WCAT V
  rfl

/-- What point `t` stores at `y` is the reference at the place of `y` in the array. -/
theorem point (c : Dev nD) (t : Fin cfg0.N) (X : FVec Ideal S1024x2048 .bf16)
    (hX : ∀ (p : Fin 1024) (q : Fin 2048) (b : Fin 4) (l : Fin 4096) (hb : b.val = t.val / 28) (hl : l.val = t.val / 7 % 4 * 1024 + p.val),
      X (ix2 p q) = Cert.InProjReferenceIdeal.Value.MOD (m ((c : Thread nD τ).loc main_arg0)) (m ((c : Thread nD τ).loc main_arg1)) (m ((c : Thread nD τ).loc main_arg2)) (ix3 b l q)) (y) :
    k0_pay2 X (iblk m c 3 t) y
    = Cert.InProjReferenceIdeal.Value.REF (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 112 := lt_of_lt_of_eq t.isLt N_0
  have hX' : ∀ (p : Fin 1024) (q : Fin 2048), X (ix2 p q) = Cert.InProjReferenceIdeal.Value.MOD (m ((c : Thread nD τ).loc main_arg0)) (m ((c : Thread nD τ).loc main_arg1)) (m ((c : Thread nD τ).loc main_arg2))
      (ix3 ⟨t.val / 28, by omega⟩ ⟨t.val / 7 % 4 * 1024 + p.val, by omega⟩ q) := fun p q => hX p q _ _ rfl rfl
  idx_vars y
  pointwise [k0_pay2, Cert.InProjReferenceIdeal.Value.REF]
  refine Eq.trans ?_ (row_cat _ _ _ _ _)
  simp only [hX', V_w]
  blk_simp [iblk, idx t]
  refine Finset.sum_congr rfl fun x _ => ?_
  rw [V_w]
  show _ * WCAT (m ((c : Thread nD τ).loc main_arg3)) _ = _
  generalize Cert.InProjReferenceIdeal.Value.MOD (m ((c : Thread nD τ).loc main_arg0)) (m ((c : Thread nD τ).loc main_arg1)) (m ((c : Thread nD τ).loc main_arg2)) = M
  generalize WCAT (m ((c : Thread nD τ).loc main_arg3)) = W
  clear hX hX'
  blk_point [iblk, idx t]

/-- The result array after the run. -/
theorem final (c : Dev nD) : (dats m 0 c).arrAt 4 (cfgs 0).N
    = Cert.InProjReferenceIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 7 = 0
  · rw [outsAt0_A m c t h]
    frame_out
    exact point m c t _ (fun p q b l hb hl => mod_at m c t p q b l hb hl) y
  · rw [outsAt0_B m c t h]
    frame_out
    rw [read_unread_whole]
    exact point m c t _ (fun p q b l hb hl => kept m c (t.val - 1) _ p q b l (by omega) (by omega)) y

end Cert.InProjIdeal.Value

end
-- ==== Proof.GluValue.lean ====
/- The gated linear unit after the recurrence: the array the pallas_call returns is the reference's.
   Every grid point writes its own 1024 rows, so the result is compared one stored element at a time. -/
module

public import proofs.«01_k».proof.Proof.Gen.GluIdeal.Value
public import proofs.«01_k».proof.Proof.Gen.GluReferenceIdeal.Run
public import Idealize.ShloMosaic.Lib.Pipeline.ValueKit
public import Idealize.ShloMosaic.Lib.Pointwise

@[expose] public section

set_option maxRecDepth 16384

noncomputable section

namespace Cert.GluReferenceIdeal.Value

open Cert.GluReferenceIdeal Cert.GluReferenceIdeal.Gen Idealize.ShloMosaic Idealize.ShloMosaic.TcCoe Idealize.SL.Sem

/-- The reference's result as a function of its five arguments. -/
abbrev REF (a0 : FVec Ideal S16384x1024 .f32) (a1 : FVec Ideal S16384x9856 .bf16) (a2 : FVec Ideal S1024 .f32)
    (a3 : FVec Ideal S1024x1024 .f32) (a4 : FVec Ideal S1024 .f32) : FVec Ideal S16384x1024 .bf16 :=
  truncf .bf16 (mulf (mulf (mulf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (mulf (broadcastInDim S16384x1024 ![] bcast_S_S16384x1024 (constant S_ .f32 0x3D372713#32)) (mulf (mulf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32)))) (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))))))))))) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none (mulf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (mulf (broadcastInDim S16384x1024 ![] bcast_S_S16384x1024 (constant S_ .f32 0x3D372713#32)) (mulf (mulf (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))) (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32)))) (addf a0 (mulf (broadcastInDim S16384x1024 ![0, 1] bcast_S1x1024_S16384x1024_0_1 (broadcastInDim S1x1024 ![1] bcast_S1024_S1x1024_1 a2)) (extf .f32 (extractStridedSlice S16384x1024 ![0, 2048] a1 slices_S16384x9856_S16384x1024_0_2048) bitsLt_bf16_f32))))))))))) a3) (broadcastInDim S16384x1024 ![0, 1] bcast_S1x1024_S16384x1024_0_1 (broadcastInDim S1x1024 ![1] bcast_S1024_S1x1024_1 a4)))))))) (mulf (extf .f32 (extractStridedSlice S16384x1024 ![0, 3072] a1 slices_S16384x9856_S16384x1024_0_3072) bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf .f32 (extractStridedSlice S16384x1024 ![0, 3072] a1 slices_S16384x9856_S16384x1024_0_3072) bitsLt_bf16_f32))))))) bitsLt_bf16_f32

end Cert.GluReferenceIdeal.Value

namespace Cert.GluIdeal.Value

open Cert.GluIdeal Cert.GluIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`. -/
theorem idx : ∀ t : Fin cfg0.N, win0_0.index t = ![t.val, 0] ∧ win0_1.index t = ![t.val, 2] ∧ win0_2.index t = ![t.val, 3]
    ∧ win0_3.index t = ![0, 0] ∧ win0_4.index t = ![0, 0] ∧ win0_5.index t = ![0, 0] ∧ win0_6.index t = ![t.val, 0] :=
  (by decide +kernel : ∀ t : Fin grid0.N, _)

/-- The staged columns 2048 to 3071 of the projection, read at an index. -/
theorem X1_at (c : Dev nD) (t : Fin cfg0.N) (y : S1024x1024.Idx) : X0_1 m c t y
    = m ((c : Thread nD τ).loc main_arg1) (((cfg0.win 1).blk t).view.emb fun a => ⟨(y a).val, ((cfg0.win 1).moved_iff _ y).mp (moved0_1 t y) a⟩) := by
  unfold X0_1 Pipeline.Window.fill
  rw [dif_pos (moved0_1 t y)]
  blk_ext [iblk, V, idx t]

/-- The staged columns 3072 to 4095 of the projection, read at an index. -/
theorem X2_at (c : Dev nD) (t : Fin cfg0.N) (y : S1024x1024.Idx) : X0_2 m c t y
    = m ((c : Thread nD τ).loc main_arg1) (((cfg0.win 2).blk t).view.emb fun a => ⟨(y a).val, ((cfg0.win 2).moved_iff _ y).mp (moved0_2 t y) a⟩) := by
  unfold X0_2 Pipeline.Window.fill
  rw [dif_pos (moved0_2 t y)]
  blk_ext [iblk, V, idx t]

/-- What point `t` stores at `y` is the reference at the place of `y` in the array. -/
theorem point (c : Dev nD) (t : Fin cfg0.N) (y) :
    k0_pay1 (iblk m c 0 t) (iblk m c 3 t) (X0_1 m c t) (iblk m c 4 t) (iblk m c 5 t) (X0_2 m c t) y
    = Cert.GluReferenceIdeal.Value.REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  pointwise [k0_pay1, Cert.GluReferenceIdeal.Value.REF]
  simp only [Ideal.logistic, X1_at, X2_at]
  blk_point [iblk, V, idx t]

/-- The result array after the run. -/
theorem final (c : Dev nD) : (dats m 0 c).arrAt 6 (cfgs 0).N
    = Cert.GluReferenceIdeal.Value.REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  exact point m c t y

end Cert.GluIdeal.Value

end
-- ==== Proof.MergeValue.lean ====
/- The gated merge of the two branches, the output projection, the residual and the closing norm: the array the
   pallas_call returns is the reference's. Every grid point writes its own 256 rows, so the result is compared one
   stored element at a time. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise

@[expose] public section

set_option maxRecDepth 16384

noncomputable section

namespace Cert.MergeReferenceIdeal.Value

open Cert.MergeReferenceIdeal Cert.MergeReferenceIdeal.Gen Idealize.ShloMosaic Idealize.ShloMosaic.TcCoe Idealize.SL.Sem

/-- The residual sum the closing norm is applied to, as a function of the arguments it reads. -/
def PRE (a0 a1 : FVec Ideal S16384x1024 .bf16) (a2 : FVec Ideal S16384x9856 .bf16) (a3 : FVec Ideal S4x4096x2048 .f32)
    (a4 : FVec Ideal S4x2048 .f32) (a5 a6 : FVec Ideal S1024x2048 .f32) (a7 : FVec Ideal S2048x2048 .f32) : FVec Ideal S4x4096x2048 .f32 :=
  (addf (mulf (broadcastInDim S4x4096x2048 ![] bcast_S_S4x4096x2048 (constant S_ .f32 0x3F9837F0#32)) a3) (mulf (broadcastInDim S4x4096x2048 ![0, 1, 2] bcast_S4x1x2048_S4x4096x2048_0_1_2 (broadcastInDim S4x1x2048 ![0, 2] bcast_S4x2048_S4x1x2048_0_2 a4)) (Host.dotGeneral dot_S4x4096x2048_S2048x2048_S4x4096x2048_2_0_01_1_n_n none (addf (mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (shapeCast _ (extf .f32 (extractStridedSlice S16384x2048 ![0, 4096] a2 slices_S16384x9856_S16384x2048_0_4096) bitsLt_bf16_f32) shapeCasts_S16384x2048_S4x4096x2048))))) (Host.dotGeneral dot_S4x4096x1024_S1024x2048_S4x4096x2048_2_0_01_1_n_n none (shapeCast _ (extf .f32 a0 bitsLt_bf16_f32) shapeCasts_S16384x1024_S4x4096x1024) a5)) (mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (shapeCast _ (extf .f32 (extractStridedSlice S16384x2048 ![0, 6144] a2 slices_S16384x9856_S16384x2048_0_6144) bitsLt_bf16_f32) shapeCasts_S16384x2048_S4x4096x2048))))) (Host.dotGeneral dot_S4x4096x1024_S1024x2048_S4x4096x2048_2_0_01_1_n_n none (shapeCast _ (extf .f32 a1 bitsLt_bf16_f32) shapeCasts_S16384x1024_S4x4096x1024) a6))) a7)))

/-- The reference's result as a function of its ten arguments. -/
abbrev REF (a0 a1 : FVec Ideal S16384x1024 .bf16) (a2 : FVec Ideal S16384x9856 .bf16) (a3 : FVec Ideal S4x4096x2048 .f32)
    (a4 : FVec Ideal S4x2048 .f32) (a5 a6 : FVec Ideal S1024x2048 .f32) (a7 : FVec Ideal S2048x2048 .f32)
    (a8 a9 : FVec Ideal S2048 .f32) : FVec Ideal S16384x2048 .f32 :=
  shapeCast _ (addf (mulf (mulf (subf (PRE a0 a1 a2 a3 a4 a5 a6 a7) (broadcastInDim S4x4096x2048 ![0, 1, 2] bcast_S4x4096x1_S4x4096x2048_0_1_2 (Host.divf (broadcastInDim S4x4096x1 ![0, 1] bcast_S4x4096_S4x4096x1_0_1 (Host.reduceAdd (PRE a0 a1 a2 a3 a4 a5 a6 a7) (constant S_ .f32 0x00000000#32) reducesTo_S4x4096x2048_S4x4096_d2 h_S_)) (broadcastInDim S4x4096x1 ![] bcast_S_S4x4096x1 (constant S_ .f32 0x45000000#32))))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (subf (PRE a0 a1 a2 a3 a4 a5 a6 a7) (broadcastInDim S4x4096x2048 ![0, 1, 2] bcast_S4x4096x1_S4x4096x2048_0_1_2 (Host.divf (broadcastInDim S4x4096x1 ![0, 1] bcast_S4x4096_S4x4096x1_0_1 (Host.reduceAdd (PRE a0 a1 a2 a3 a4 a5 a6 a7) (constant S_ .f32 0x00000000#32) reducesTo_S4x4096x2048_S4x4096_d2 h_S_)) (broadcastInDim S4x4096x1 ![] bcast_S_S4x4096x1 (constant S_ .f32 0x45000000#32))))) (subf (PRE a0 a1 a2 a3 a4 a5 a6 a7) (broadcastInDim S4x4096x2048 ![0, 1, 2] bcast_S4x4096x1_S4x4096x2048_0_1_2 (Host.divf (broadcastInDim S4x4096x1 ![0, 1] bcast_S4x4096_S4x4096x1_0_1 (Host.reduceAdd (PRE a0 a1 a2 a3 a4 a5 a6 a7) (constant S_ .f32 0x00000000#32) reducesTo_S4x4096x2048_S4x4096_d2 h_S_)) (broadcastInDim S4x4096x1 ![] bcast_S_S4x4096x1 (constant S_ .f32 0x45000000#32)))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 a8))) (broadcastInDim S4x4096x2048 ![0, 1, 2] bcast_S1x1x2048_S4x4096x2048_0_1_2 (broadcastInDim S1x1x2048 ![2] bcast_S2048_S1x1x2048_2 a9))) shapeCasts_S4x4096x2048_S16384x2048

end Cert.MergeReferenceIdeal.Value

namespace Cert.MergeIdeal.Value

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`. -/
theorem idx : ∀ t : Fin cfg0.N, win0_0.index t = ![t.val, 0] ∧ win0_1.index t = ![t.val, 0] ∧ win0_2.index t = ![t.val, 2]
    ∧ win0_3.index t = ![t.val, 3] ∧ win0_4.index t = ![t.val, 0] ∧ win0_5.index t = ![t.val / 16, 0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- The staged columns 4096 to 6143 of the projection, read at an index. -/
theorem X2_at (c : Dev nD) (t : Fin cfg0.N) (y : S256x2048.Idx) : X0_2 m c t y
    = m ((c : Thread nD τ).loc main_arg2) (((cfg0.win 2).blk t).view.emb fun a => ⟨(y a).val, ((cfg0.win 2).moved_iff _ y).mp (moved0_2 t y) a⟩) := by
  unfold X0_2 Pipeline.Window.fill
  rw [dif_pos (moved0_2 t y)]
  blk_ext [iblk, V, idx t]

/-- The staged columns 6144 to 8191 of the projection, read at an index. -/
theorem X3_at (c : Dev nD) (t : Fin cfg0.N) (y : S256x2048.Idx) : X0_3 m c t y
    = m ((c : Thread nD τ).loc main_arg2) (((cfg0.win 3).blk t).view.emb fun a => ⟨(y a).val, ((cfg0.win 3).moved_iff _ y).mp (moved0_3 t y) a⟩) := by
  unfold X0_3 Pipeline.Window.fill
  rw [dif_pos (moved0_3 t y)]
  blk_ext [iblk, V, idx t]

set_option maxHeartbeats 800000 in
/-- The residual sum computed at point `t` for its row `p`, column `q`, is the reference's at that row and column. -/
theorem pre_at (c : Dev nD) (t : Fin cfg0.N) (p : Fin 256) (q : Fin 2048) (b : Fin 4) (l : Fin 4096)
    (hb : b.val = t.val / 16) (hl : l.val = t.val % 16 * 256 + p.val) :
    k0_pay2 (iblk m c 0 t) (iblk m c 6 t) (iblk m c 1 t) (iblk m c 7 t) (X0_2 m c t) (X0_3 m c t) (iblk m c 8 t) (iblk m c 4 t) (iblk m c 5 t) (ix2 p q)
    = Cert.MergeReferenceIdeal.Value.PRE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b l q) := by
  pointwise [k0_pay2, Cert.MergeReferenceIdeal.Value.PRE]
  simp only [Ideal.logistic, X2_at, X3_at]
  blk_point [iblk, V, idx t]

/-- What point `t` stores at `y` is the reference at the place of `y` in the array. -/
theorem point (c : Dev nD) (t : Fin cfg0.N) (y) :
    k0_pay1 (k0_pay2 (iblk m c 0 t) (iblk m c 6 t) (iblk m c 1 t) (iblk m c 7 t) (X0_2 m c t) (X0_3 m c t) (iblk m c 8 t) (iblk m c 4 t) (iblk m c 5 t))
      (k0_pay3 (iblk m c 0 t) (iblk m c 6 t) (iblk m c 1 t) (iblk m c 7 t) (X0_2 m c t) (X0_3 m c t) (iblk m c 8 t) (iblk m c 4 t) (iblk m c 5 t))
      (iblk m c 9 t) (iblk m c 10 t) y
    = Cert.MergeReferenceIdeal.Value.REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) (((cfg0.win 11).blk t).view.emb y) := by
  have ht : t.val < 64 := lt_of_lt_of_eq t.isLt N_0
  have hp : ∀ (p : Fin 256) (q : Fin 2048), k0_pay2 (iblk m c 0 t) (iblk m c 6 t) (iblk m c 1 t) (iblk m c 7 t) (X0_2 m c t) (X0_3 m c t) (iblk m c 8 t) (iblk m c 4 t) (iblk m c 5 t) (ix2 p q)
      = Cert.MergeReferenceIdeal.Value.PRE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨t.val / 16, by omega⟩ ⟨t.val % 16 * 256 + p.val, by omega⟩ q) :=
    fun p q => pre_at m c t p q _ _ rfl rfl
  unfold k0_pay3
  generalize k0_pay2 (iblk m c 0 t) (iblk m c 6 t) (iblk m c 1 t) (iblk m c 7 t) (X0_2 m c t) (X0_3 m c t) (iblk m c 8 t) (iblk m c 4 t) (iblk m c 5 t) = Z at hp ⊢
  idx_vars y
  pointwise [k0_pay1, Cert.MergeReferenceIdeal.Value.REF]
  simp only [hp]
  blk_point [iblk, V, idx t]

/-- The result array after the run. -/
theorem final (c : Dev nD) : (dats m 0 c).arrAt 11 (cfgs 0).N
    = Cert.MergeReferenceIdeal.Value.REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  unfold outsAt0
  frame_out
  exact point m c t y

end Cert.MergeIdeal.Value

end
-- ==== Proof.lean ====
/- The proof of the certificate's claims: every program's frame, and that each kernel returns what its reference
   returns. The values are proved in the modules named after the programs. -/
module

public import proofs.«01_k».proof.Defs
public import proofs.«01_k».proof.Proof.Gen.Kernel
public import proofs.«01_k».proof.Proof.KernelFrame
public import proofs.«01_k».proof.Proof.Gen.KernelIdeal
public import proofs.«01_k».proof.Proof.KernelIdealFrame
public import proofs.«01_k».proof.Proof.Gen.ReferenceIdeal
public import proofs.«01_k».proof.Proof.Gen.ReferenceIdeal.Run
public import proofs.«01_k».proof.Proof.Gen.Pre_finite_in
public import proofs.«01_k».proof.Proof.S5Pair
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaReferenceIdeal
public import proofs.«01_k».proof.Proof.Gen.AdaReferenceIdeal.Run
public import proofs.«01_k».proof.Proof.AdaValue
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjReferenceIdeal
public import proofs.«01_k».proof.Proof.Gen.InProjReferenceIdeal.Run
public import proofs.«01_k».proof.Proof.InProjValue
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Gen.GluReferenceIdeal.Run
public import proofs.«01_k».proof.Proof.GluValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.MergeValue
public import Idealize.ShloMosaic.Adequacy
public import Idealize.ShloMosaic.Init

@[expose] public section

set_option maxRecDepth 16384

noncomputable section

namespace Cert.Proof

open Idealize.ShloMosaic Idealize.SL.Sem

/-! ### The recurrence -/

theorem frame_Kernel : Cert.quiescent_Kernel (hKernel := Cert.Kernel.Gen.facts) := fun m ρ _ => Cert.Kernel.Gen.frame m ρ

theorem frame_KernelIdeal : Cert.quiescent_KernelIdeal (hKernelIdeal := Cert.KernelIdeal.Gen.facts) := fun m ρ _ => Cert.KernelIdeal.Gen.frame m ρ

theorem frame_KernelIdeal_pre : Cert.quiescent_KernelIdeal_pre_finite_in (hKernelIdeal := Cert.KernelIdeal.Gen.facts) (hPre_finite_in := Cert.Pre_finite_in.Gen.facts) :=
  fun m ρ _ => Cert.KernelIdeal.Gen.frame m ρ

theorem frame_ReferenceIdeal : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run (F := Ideal) m g)

theorem frame_ReferenceIdeal_pre : Cert.quiescent_ReferenceIdeal_pre_finite_in (hReferenceIdeal := Cert.ReferenceIdeal.Gen.facts) (hPre_finite_in := Cert.Pre_finite_in.Gen.facts) := by
  intro m g _
  exact (θ_run _ _ _).mono (fun r h => ⟨fun c => (h c).2, sem_eq_zero_of_no_sems (by decide) r.2⟩) (Cert.ReferenceIdeal.Value.run (F := Ideal) m g)

theorem value_Kernel : Cert.algebraic_KernelIdeal_ReferenceIdeal_pre_finite_in (hKernelIdeal := Cert.KernelIdeal.Gen.facts) (hReferenceIdeal := Cert.ReferenceIdeal.Gen.facts)
    (hPre_finite_in := Cert.Pre_finite_in.Gen.facts) := by
  intro m g m' g' hpre hagree
  refine ⟨fun c => (Cert.KernelIdeal.Gen.dats m 0 c).arrAt 5 Cert.KernelIdeal.cfg0.N, ?_, ?_⟩
  · exact (θ_run _ _ _).mono (fun r h c => ⟨(h.1 c).1 5, h.2 c⟩) (θ_run_and (Cert.KernelIdeal.Gen.run_main m g) (Cert.KernelIdeal.Gen.unchanged m g))
  · refine (θ_run _ _ _).mono (fun r h c => ⟨(h c).1.trans ?_, (h c).2⟩) (Cert.ReferenceIdeal.Value.run (F := Ideal) m' g')
    obtain ⟨U, A1, A2, A3, A4, A5, A6, A7, ha⟩ := @Cert.S5Pre.args_of_finite Cert.Pre_finite_in.Gen.facts _ _ _ _ _ _ _ _ (hpre c)
    obtain ⟨h0, h1, h2, h3, h4, h5, h6, h7⟩ := hagree c
    exact (Cert.S5Pair.reference (Cert.S5Pair.args_of_eq ha h0 h1 h2 h3 h4 h5 h6 h7)).trans (Cert.S5Pair.kernel ha).symm

/-! ### Ada -/

theorem frame_Ada : Cert.quiescent_Ada (hAda := Cert.Ada.Gen.facts) := fun m ρ _ => Cert.Ada.Gen.frame m ρ

theorem frame_AdaIdeal : Cert.quiescent_AdaIdeal (hAdaIdeal := Cert.AdaIdeal.Gen.facts) := fun m ρ _ => Cert.AdaIdeal.Gen.frame m ρ

theorem frame_AdaReferenceIdeal : Cert.quiescent_AdaReferenceIdeal (hAdaReferenceIdeal := Cert.AdaReferenceIdeal.Gen.facts) := by
  intro m g _
  exact (θ_run _ _ _).mono (fun r h => ⟨fun c => (h c).2, sem_eq_zero_of_no_sems (by decide) r.2⟩) (Cert.AdaReferenceIdeal.Value.run (F := Ideal) m g)

theorem value_Ada : Cert.algebraic_AdaIdeal_AdaReferenceIdeal (hAdaIdeal := Cert.AdaIdeal.Gen.facts) (hAdaReferenceIdeal := Cert.AdaReferenceIdeal.Gen.facts) := by
  pair_intro
  · run_from Cert.AdaIdeal.Gen.run_main m g
  · run_from Cert.AdaReferenceIdeal.Value.run m' g'
    exact (Cert.AdaIdeal.Value.final m c).symm

/-! ### InProj -/

theorem frame_InProj : Cert.quiescent_InProj (hInProj := Cert.InProj.Gen.facts) := fun m ρ _ => Cert.InProj.Gen.frame m ρ

theorem frame_InProjIdeal : Cert.quiescent_InProjIdeal (hInProjIdeal := Cert.InProjIdeal.Gen.facts) := fun m ρ _ => Cert.InProjIdeal.Gen.frame m ρ

theorem frame_InProjReferenceIdeal : Cert.quiescent_InProjReferenceIdeal (hInProjReferenceIdeal := Cert.InProjReferenceIdeal.Gen.facts) := by
  intro m g _
  exact (θ_run _ _ _).mono (fun r h => ⟨fun c => (h c).2, sem_eq_zero_of_no_sems (by decide) r.2⟩) (Cert.InProjReferenceIdeal.Value.run (F := Ideal) m g)

theorem value_InProj : Cert.algebraic_InProjIdeal_InProjReferenceIdeal (hInProjIdeal := Cert.InProjIdeal.Gen.facts) (hInProjReferenceIdeal := Cert.InProjReferenceIdeal.Gen.facts) := by
  pair_intro
  · run_from Cert.InProjIdeal.Gen.run_main m g
  · run_from Cert.InProjReferenceIdeal.Value.run m' g'
    obtain ⟨h0, h1, h2, h3⟩ := hagree c
    refine Eq.trans (b := Cert.InProjReferenceIdeal.Value.REF (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg1)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3))) (by unfold Cert.InProjReferenceIdeal.Value.res_main_v38; rfl) ?_
    rw [h0, h1, h2, h3]
    exact (Cert.InProjIdeal.Value.final m c).symm

/-! ### Glu -/

theorem frame_Glu : Cert.quiescent_Glu (hGlu := Cert.Glu.Gen.facts) := fun m ρ _ => Cert.Glu.Gen.frame m ρ

theorem frame_GluIdeal : Cert.quiescent_GluIdeal (hGluIdeal := Cert.GluIdeal.Gen.facts) := fun m ρ _ => Cert.GluIdeal.Gen.frame m ρ

theorem frame_GluReferenceIdeal : Cert.quiescent_GluReferenceIdeal (hGluReferenceIdeal := Cert.GluReferenceIdeal.Gen.facts) := by
  intro m g _
  exact (θ_run _ _ _).mono (fun r h => ⟨fun c => (h c).2, sem_eq_zero_of_no_sems (by decide) r.2⟩) (Cert.GluReferenceIdeal.Value.run (F := Ideal) m g)

theorem value_Glu : Cert.algebraic_GluIdeal_GluReferenceIdeal (hGluIdeal := Cert.GluIdeal.Gen.facts) (hGluReferenceIdeal := Cert.GluReferenceIdeal.Gen.facts) := by
  pair_intro
  · run_from Cert.GluIdeal.Gen.run_main m g
  · run_from Cert.GluReferenceIdeal.Value.run m' g'
    obtain ⟨h0, h1, h2, h3, h4⟩ := hagree c
    refine Eq.trans (b := Cert.GluReferenceIdeal.Value.REF (m' ((c.tc : Thread Cert.GluReferenceIdeal.nD Cert.GluReferenceIdeal.τ).loc Cert.GluReferenceIdeal.main_arg0)) (m' ((c.tc : Thread Cert.GluReferenceIdeal.nD Cert.GluReferenceIdeal.τ).loc Cert.GluReferenceIdeal.main_arg1)) (m' ((c.tc : Thread Cert.GluReferenceIdeal.nD Cert.GluReferenceIdeal.τ).loc Cert.GluReferenceIdeal.main_arg2)) (m' ((c.tc : Thread Cert.GluReferenceIdeal.nD Cert.GluReferenceIdeal.τ).loc Cert.GluReferenceIdeal.main_arg3)) (m' ((c.tc : Thread Cert.GluReferenceIdeal.nD Cert.GluReferenceIdeal.τ).loc Cert.GluReferenceIdeal.main_arg4))) (by unfold Cert.GluReferenceIdeal.Value.res_main_v34; rfl) ?_
    rw [h0, h1, h2, h3, h4]
    exact (Cert.GluIdeal.Value.final m c).symm

/-! ### Merge -/

theorem frame_Merge : Cert.quiescent_Merge (hMerge := Cert.Merge.Gen.facts) := fun m ρ _ => Cert.Merge.Gen.frame m ρ

theorem frame_MergeIdeal : Cert.quiescent_MergeIdeal (hMergeIdeal := Cert.MergeIdeal.Gen.facts) := fun m ρ _ => Cert.MergeIdeal.Gen.frame m ρ

theorem frame_MergeReferenceIdeal : Cert.quiescent_MergeReferenceIdeal (hMergeReferenceIdeal := Cert.MergeReferenceIdeal.Gen.facts) := by
  intro m g _
  exact (θ_run _ _ _).mono (fun r h => ⟨fun c => (h c).2, sem_eq_zero_of_no_sems (by decide) r.2⟩) (Cert.MergeReferenceIdeal.Value.run (F := Ideal) m g)

theorem value_Merge : Cert.algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · run_from Cert.MergeReferenceIdeal.Value.run m' g'
    obtain ⟨h0, h1, h2, h3, h4, h5, h6, h7, h8, h9⟩ := hagree c
    refine Eq.trans (b := Cert.MergeReferenceIdeal.Value.REF (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg9))) (by unfold Cert.MergeReferenceIdeal.Value.res_main_v58; rfl) ?_
    rw [h0, h1, h2, h3, h4, h5, h6, h7, h8, h9]
    exact (Cert.MergeIdeal.Value.final m c).symm

theorem claim : Cert.Claim := ⟨Cert.Kernel.Gen.facts, Cert.KernelIdeal.Gen.facts, Cert.ReferenceIdeal.Gen.facts, Cert.Ada.Gen.facts, Cert.AdaIdeal.Gen.facts, Cert.AdaReferenceIdeal.Gen.facts, Cert.InProj.Gen.facts, Cert.InProjIdeal.Gen.facts, Cert.InProjReferenceIdeal.Gen.facts, Cert.Glu.Gen.facts, Cert.GluIdeal.Gen.facts, Cert.GluReferenceIdeal.Gen.facts, Cert.Merge.Gen.facts, Cert.MergeIdeal.Gen.facts, Cert.MergeReferenceIdeal.Gen.facts, Cert.Pre_finite_in.Gen.facts,
  frame_Kernel, frame_KernelIdeal, frame_KernelIdeal_pre, frame_ReferenceIdeal, frame_ReferenceIdeal_pre, frame_Ada, frame_AdaIdeal, frame_AdaReferenceIdeal, frame_InProj, frame_InProjIdeal, frame_InProjReferenceIdeal, frame_Glu, frame_GluIdeal, frame_GluReferenceIdeal, frame_Merge, frame_MergeIdeal, frame_MergeReferenceIdeal, trivial, value_Kernel, trivial, value_Ada, trivial, value_InProj, trivial, value_Glu, trivial, value_Merge⟩

end Cert.Proof

end
